-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_WLora (m : (ℓ : Loc Cert.WLora.nD Cert.WLora.τ Cert.WLora.sig) → Buf (Elt Bits) ℓ) : Prop :=
  True

def Pre_WLoraIdeal (m : (ℓ : Loc Cert.WLoraIdeal.nD Cert.WLoraIdeal.τ Cert.WLoraIdeal.sig) → Buf (Elt Ideal) ℓ) : Prop :=
  True

def Pre_WLoraRefIdeal (m : (ℓ : Loc Cert.WLoraRefIdeal.nD Cert.WLoraRefIdeal.τ Cert.WLoraRefIdeal.sig) → Buf (Elt Ideal) ℓ) : Prop :=
  True

def Pre_ALora (m : (ℓ : Loc Cert.ALora.nD Cert.ALora.τ Cert.ALora.sig) → Buf (Elt Bits) ℓ) : Prop :=
  True

def Pre_ALoraIdeal (m : (ℓ : Loc Cert.ALoraIdeal.nD Cert.ALoraIdeal.τ Cert.ALoraIdeal.sig) → Buf (Elt Ideal) ℓ) : Prop :=
  True

def Pre_ALoraRefIdeal (m : (ℓ : Loc Cert.ALoraRefIdeal.nD Cert.ALoraRefIdeal.τ Cert.ALoraRefIdeal.sig) → Buf (Elt Ideal) ℓ) : Prop :=
  True

def Pre_Vectors (m : (ℓ : Loc Cert.Vectors.nD Cert.Vectors.τ Cert.Vectors.sig) → Buf (Elt Bits) ℓ) : Prop :=
  True

def Pre_VectorsIdeal (m : (ℓ : Loc Cert.VectorsIdeal.nD Cert.VectorsIdeal.τ Cert.VectorsIdeal.sig) → Buf (Elt Ideal) ℓ) : Prop :=
  True

def Pre_VectorsRefIdeal (m : (ℓ : Loc Cert.VectorsRefIdeal.nD Cert.VectorsRefIdeal.τ Cert.VectorsRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GQkv (m : (ℓ : Loc Cert.GQkv.nD Cert.GQkv.τ Cert.GQkv.sig) → Buf (Elt Bits) ℓ) : Prop :=
  True

def Pre_GQkvIdeal (m : (ℓ : Loc Cert.GQkvIdeal.nD Cert.GQkvIdeal.τ Cert.GQkvIdeal.sig) → Buf (Elt Ideal) ℓ) : Prop :=
  True

def Pre_GQkvRefIdeal (m : (ℓ : Loc Cert.GQkvRefIdeal.nD Cert.GQkvRefIdeal.τ Cert.GQkvRefIdeal.sig) → Buf (Elt Ideal) ℓ) : Prop :=
  True

def Pre_GRet (m : (ℓ : Loc Cert.GRet.nD Cert.GRet.τ Cert.GRet.sig) → Buf (Elt Bits) ℓ) : Prop :=
  True

def Pre_GRetIdeal (m : (ℓ : Loc Cert.GRetIdeal.nD Cert.GRetIdeal.τ Cert.GRetIdeal.sig) → Buf (Elt Ideal) ℓ) : Prop :=
  True

def Pre_GRetRefIdeal (m : (ℓ : Loc Cert.GRetRefIdeal.nD Cert.GRetRefIdeal.τ Cert.GRetRefIdeal.sig) → Buf (Elt Ideal) ℓ) : Prop :=
  True

def Pre_GRwkv (m : (ℓ : Loc Cert.GRwkv.nD Cert.GRwkv.τ Cert.GRwkv.sig) → Buf (Elt Bits) ℓ) : Prop :=
  True

def Pre_GRwkvIdeal (m : (ℓ : Loc Cert.GRwkvIdeal.nD Cert.GRwkvIdeal.τ Cert.GRwkvIdeal.sig) → Buf (Elt Ideal) ℓ) : Prop :=
  True

def Pre_GRwkvRefIdeal (m : (ℓ : Loc Cert.GRwkvRefIdeal.nD Cert.GRwkvRefIdeal.τ Cert.GRwkvRefIdeal.sig) → Buf (Elt Ideal) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1)
      ∧ r.2.mem ((c.tc : Thread Cert.WIn.nD Cert.WIn.τ).loc Cert.WIn.main_arg2) = m ((c.tc : Thread Cert.WIn.nD Cert.WIn.τ).loc Cert.WIn.main_arg2)
      ∧ r.2.mem ((c.tc : Thread Cert.WIn.nD Cert.WIn.τ).loc Cert.WIn.main_arg3) = m ((c.tc : Thread Cert.WIn.nD Cert.WIn.τ).loc Cert.WIn.main_arg3))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
      ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
      ∧ r.2.mem ((c.tc : Thread Cert.WInIdeal.nD Cert.WInIdeal.τ).loc Cert.WInIdeal.main_arg3) = m ((c.tc : Thread Cert.WInIdeal.nD Cert.WInIdeal.τ).loc Cert.WInIdeal.main_arg3))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1)
      ∧ r.2.mem ((c.tc : Thread Cert.WInRefIdeal.nD Cert.WInRefIdeal.τ).loc Cert.WInRefIdeal.main_arg2) = m ((c.tc : Thread Cert.WInRefIdeal.nD Cert.WInRefIdeal.τ).loc Cert.WInRefIdeal.main_arg2)
      ∧ r.2.mem ((c.tc : Thread Cert.WInRefIdeal.nD Cert.WInRefIdeal.τ).loc Cert.WInRefIdeal.main_arg3) = m ((c.tc : Thread Cert.WInRefIdeal.nD Cert.WInRefIdeal.τ).loc Cert.WInRefIdeal.main_arg3))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1)
      ∧ r.2.mem ((c.tc : Thread Cert.WOut.nD Cert.WOut.τ).loc Cert.WOut.main_arg2) = m ((c.tc : Thread Cert.WOut.nD Cert.WOut.τ).loc Cert.WOut.main_arg2)
      ∧ r.2.mem ((c.tc : Thread Cert.WOut.nD Cert.WOut.τ).loc Cert.WOut.main_arg3) = m ((c.tc : Thread Cert.WOut.nD Cert.WOut.τ).loc Cert.WOut.main_arg3))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
      ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
      ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1)
      ∧ r.2.mem ((c.tc : Thread Cert.WOutRefIdeal.nD Cert.WOutRefIdeal.τ).loc Cert.WOutRefIdeal.main_arg2) = m ((c.tc : Thread Cert.WOutRefIdeal.nD Cert.WOutRefIdeal.τ).loc Cert.WOutRefIdeal.main_arg2)
      ∧ r.2.mem ((c.tc : Thread Cert.WOutRefIdeal.nD Cert.WOutRefIdeal.τ).loc Cert.WOutRefIdeal.main_arg3) = m ((c.tc : Thread Cert.WOutRefIdeal.nD Cert.WOutRefIdeal.τ).loc Cert.WOutRefIdeal.main_arg3))
      ∧ r.2.sem = fun _ => 0)

def quiescent_WLora [hWLora : Cert.WLora.Facts] : Prop :=
  ∀ (m : (ℓ : Loc Cert.WLora.nD Cert.WLora.τ Cert.WLora.sig) → Buf (Elt Bits) ℓ) (g : Dev Cert.WLora.nD → PrngReg), Pre_WLora m →
    θ_run (Cert.WLora.defs (F := Bits)) (onTc (τ := Cert.WLora.τ) (Cert.WLora.main (F := Bits))) ⟨m, fun _ => 0, g⟩ (fun r => (∀ c : Dev Cert.WLora.nD,
      r.2.mem ((c.tc : Thread Cert.WLora.nD Cert.WLora.τ).loc Cert.WLora.main_arg0) = m ((c.tc : Thread Cert.WLora.nD Cert.WLora.τ).loc Cert.WLora.main_arg0)
      ∧ r.2.mem ((c.tc : Thread Cert.WLora.nD Cert.WLora.τ).loc Cert.WLora.main_arg1) = m ((c.tc : Thread Cert.WLora.nD Cert.WLora.τ).loc Cert.WLora.main_arg1)
      ∧ r.2.mem ((c.tc : Thread Cert.WLora.nD Cert.WLora.τ).loc Cert.WLora.main_arg2) = m ((c.tc : Thread Cert.WLora.nD Cert.WLora.τ).loc Cert.WLora.main_arg2)
      ∧ r.2.mem ((c.tc : Thread Cert.WLora.nD Cert.WLora.τ).loc Cert.WLora.main_arg3) = m ((c.tc : Thread Cert.WLora.nD Cert.WLora.τ).loc Cert.WLora.main_arg3))
      ∧ r.2.sem = fun _ => 0)

def quiescent_WLoraIdeal [hWLoraIdeal : Cert.WLoraIdeal.Facts] : Prop :=
  ∀ (m : (ℓ : Loc Cert.WLoraIdeal.nD Cert.WLoraIdeal.τ Cert.WLoraIdeal.sig) → Buf (Elt Ideal) ℓ) (g : Dev Cert.WLoraIdeal.nD → PrngReg), Pre_WLoraIdeal m →
    θ_run (Cert.WLoraIdeal.defs (F := Ideal)) (onTc (τ := Cert.WLoraIdeal.τ) (Cert.WLoraIdeal.main (F := Ideal))) ⟨m, fun _ => 0, g⟩ (fun r => (∀ c : Dev Cert.WLoraIdeal.nD,
      r.2.mem ((c.tc : Thread Cert.WLoraIdeal.nD Cert.WLoraIdeal.τ).loc Cert.WLoraIdeal.main_arg0) = m ((c.tc : Thread Cert.WLoraIdeal.nD Cert.WLoraIdeal.τ).loc Cert.WLoraIdeal.main_arg0)
      ∧ r.2.mem ((c.tc : Thread Cert.WLoraIdeal.nD Cert.WLoraIdeal.τ).loc Cert.WLoraIdeal.main_arg1) = m ((c.tc : Thread Cert.WLoraIdeal.nD Cert.WLoraIdeal.τ).loc Cert.WLoraIdeal.main_arg1)
      ∧ r.2.mem ((c.tc : Thread Cert.WLoraIdeal.nD Cert.WLoraIdeal.τ).loc Cert.WLoraIdeal.main_arg2) = m ((c.tc : Thread Cert.WLoraIdeal.nD Cert.WLoraIdeal.τ).loc Cert.WLoraIdeal.main_arg2)
      ∧ r.2.mem ((c.tc : Thread Cert.WLoraIdeal.nD Cert.WLoraIdeal.τ).loc Cert.WLoraIdeal.main_arg3) = m ((c.tc : Thread Cert.WLoraIdeal.nD Cert.WLoraIdeal.τ).loc Cert.WLoraIdeal.main_arg3))
      ∧ r.2.sem = fun _ => 0)

def quiescent_WLoraRefIdeal [hWLoraRefIdeal : Cert.WLoraRefIdeal.Facts] : Prop :=
  ∀ (m : (ℓ : Loc Cert.WLoraRefIdeal.nD Cert.WLoraRefIdeal.τ Cert.WLoraRefIdeal.sig) → Buf (Elt Ideal) ℓ) (g : Dev Cert.WLoraRefIdeal.nD → PrngReg), Pre_WLoraRefIdeal m →
    θ_run (Cert.WLoraRefIdeal.defs (F := Ideal)) (onTc (τ := Cert.WLoraRefIdeal.τ) (Cert.WLoraRefIdeal.main (F := Ideal))) ⟨m, fun _ => 0, g⟩ (fun r => (∀ c : Dev Cert.WLoraRefIdeal.nD,
      r.2.mem ((c.tc : Thread Cert.WLoraRefIdeal.nD Cert.WLoraRefIdeal.τ).loc Cert.WLoraRefIdeal.main_arg0) = m ((c.tc : Thread Cert.WLoraRefIdeal.nD Cert.WLoraRefIdeal.τ).loc Cert.WLoraRefIdeal.main_arg0)
      ∧ r.2.mem ((c.tc : Thread Cert.WLoraRefIdeal.nD Cert.WLoraRefIdeal.τ).loc Cert.WLoraRefIdeal.main_arg1) = m ((c.tc : Thread Cert.WLoraRefIdeal.nD Cert.WLoraRefIdeal.τ).loc Cert.WLoraRefIdeal.main_arg1)
      ∧ r.2.mem ((c.tc : Thread Cert.WLoraRefIdeal.nD Cert.WLoraRefIdeal.τ).loc Cert.WLoraRefIdeal.main_arg2) = m ((c.tc : Thread Cert.WLoraRefIdeal.nD Cert.WLoraRefIdeal.τ).loc Cert.WLoraRefIdeal.main_arg2)
      ∧ r.2.mem ((c.tc : Thread Cert.WLoraRefIdeal.nD Cert.WLoraRefIdeal.τ).loc Cert.WLoraRefIdeal.main_arg3) = m ((c.tc : Thread Cert.WLoraRefIdeal.nD Cert.WLoraRefIdeal.τ).loc Cert.WLoraRefIdeal.main_arg3))
      ∧ r.2.sem = fun _ => 0)

def quiescent_ALora [hALora : Cert.ALora.Facts] : Prop :=
  ∀ (m : (ℓ : Loc Cert.ALora.nD Cert.ALora.τ Cert.ALora.sig) → Buf (Elt Bits) ℓ) (g : Dev Cert.ALora.nD → PrngReg), Pre_ALora m →
    θ_run (Cert.ALora.defs (F := Bits)) (onTc (τ := Cert.ALora.τ) (Cert.ALora.main (F := Bits))) ⟨m, fun _ => 0, g⟩ (fun r => (∀ c : Dev Cert.ALora.nD,
      r.2.mem ((c.tc : Thread Cert.ALora.nD Cert.ALora.τ).loc Cert.ALora.main_arg0) = m ((c.tc : Thread Cert.ALora.nD Cert.ALora.τ).loc Cert.ALora.main_arg0)
      ∧ r.2.mem ((c.tc : Thread Cert.ALora.nD Cert.ALora.τ).loc Cert.ALora.main_arg1) = m ((c.tc : Thread Cert.ALora.nD Cert.ALora.τ).loc Cert.ALora.main_arg1)
      ∧ r.2.mem ((c.tc : Thread Cert.ALora.nD Cert.ALora.τ).loc Cert.ALora.main_arg2) = m ((c.tc : Thread Cert.ALora.nD Cert.ALora.τ).loc Cert.ALora.main_arg2)
      ∧ r.2.mem ((c.tc : Thread Cert.ALora.nD Cert.ALora.τ).loc Cert.ALora.main_arg3) = m ((c.tc : Thread Cert.ALora.nD Cert.ALora.τ).loc Cert.ALora.main_arg3))
      ∧ r.2.sem = fun _ => 0)

def quiescent_ALoraIdeal [hALoraIdeal : Cert.ALoraIdeal.Facts] : Prop :=
  ∀ (m : (ℓ : Loc Cert.ALoraIdeal.nD Cert.ALoraIdeal.τ Cert.ALoraIdeal.sig) → Buf (Elt Ideal) ℓ) (g : Dev Cert.ALoraIdeal.nD → PrngReg), Pre_ALoraIdeal m →
    θ_run (Cert.ALoraIdeal.defs (F := Ideal)) (onTc (τ := Cert.ALoraIdeal.τ) (Cert.ALoraIdeal.main (F := Ideal))) ⟨m, fun _ => 0, g⟩ (fun r => (∀ c : Dev Cert.ALoraIdeal.nD,
      r.2.mem ((c.tc : Thread Cert.ALoraIdeal.nD Cert.ALoraIdeal.τ).loc Cert.ALoraIdeal.main_arg0) = m ((c.tc : Thread Cert.ALoraIdeal.nD Cert.ALoraIdeal.τ).loc Cert.ALoraIdeal.main_arg0)
      ∧ r.2.mem ((c.tc : Thread Cert.ALoraIdeal.nD Cert.ALoraIdeal.τ).loc Cert.ALoraIdeal.main_arg1) = m ((c.tc : Thread Cert.ALoraIdeal.nD Cert.ALoraIdeal.τ).loc Cert.ALoraIdeal.main_arg1)
      ∧ r.2.mem ((c.tc : Thread Cert.ALoraIdeal.nD Cert.ALoraIdeal.τ).loc Cert.ALoraIdeal.main_arg2) = m ((c.tc : Thread Cert.ALoraIdeal.nD Cert.ALoraIdeal.τ).loc Cert.ALoraIdeal.main_arg2)
      ∧ r.2.mem ((c.tc : Thread Cert.ALoraIdeal.nD Cert.ALoraIdeal.τ).loc Cert.ALoraIdeal.main_arg3) = m ((c.tc : Thread Cert.ALoraIdeal.nD Cert.ALoraIdeal.τ).loc Cert.ALoraIdeal.main_arg3))
      ∧ r.2.sem = fun _ => 0)

def quiescent_ALoraRefIdeal [hALoraRefIdeal : Cert.ALoraRefIdeal.Facts] : Prop :=
  ∀ (m : (ℓ : Loc Cert.ALoraRefIdeal.nD Cert.ALoraRefIdeal.τ Cert.ALoraRefIdeal.sig) → Buf (Elt Ideal) ℓ) (g : Dev Cert.ALoraRefIdeal.nD → PrngReg), Pre_ALoraRefIdeal m →
    θ_run (Cert.ALoraRefIdeal.defs (F := Ideal)) (onTc (τ := Cert.ALoraRefIdeal.τ) (Cert.ALoraRefIdeal.main (F := Ideal))) ⟨m, fun _ => 0, g⟩ (fun r => (∀ c : Dev Cert.ALoraRefIdeal.nD,
      r.2.mem ((c.tc : Thread Cert.ALoraRefIdeal.nD Cert.ALoraRefIdeal.τ).loc Cert.ALoraRefIdeal.main_arg0) = m ((c.tc : Thread Cert.ALoraRefIdeal.nD Cert.ALoraRefIdeal.τ).loc Cert.ALoraRefIdeal.main_arg0)
      ∧ r.2.mem ((c.tc : Thread Cert.ALoraRefIdeal.nD Cert.ALoraRefIdeal.τ).loc Cert.ALoraRefIdeal.main_arg1) = m ((c.tc : Thread Cert.ALoraRefIdeal.nD Cert.ALoraRefIdeal.τ).loc Cert.ALoraRefIdeal.main_arg1)
      ∧ r.2.mem ((c.tc : Thread Cert.ALoraRefIdeal.nD Cert.ALoraRefIdeal.τ).loc Cert.ALoraRefIdeal.main_arg2) = m ((c.tc : Thread Cert.ALoraRefIdeal.nD Cert.ALoraRefIdeal.τ).loc Cert.ALoraRefIdeal.main_arg2)
      ∧ r.2.mem ((c.tc : Thread Cert.ALoraRefIdeal.nD Cert.ALoraRefIdeal.τ).loc Cert.ALoraRefIdeal.main_arg3) = m ((c.tc : Thread Cert.ALoraRefIdeal.nD Cert.ALoraRefIdeal.τ).loc Cert.ALoraRefIdeal.main_arg3))
      ∧ r.2.sem = fun _ => 0)

def quiescent_Vectors [hVectors : Cert.Vectors.Facts] : Prop :=
  ∀ (m : (ℓ : Loc Cert.Vectors.nD Cert.Vectors.τ Cert.Vectors.sig) → Buf (Elt Bits) ℓ) (g : Dev Cert.Vectors.nD → PrngReg), Pre_Vectors m →
    θ_run (Cert.Vectors.defs (F := Bits)) (onTc (τ := Cert.Vectors.τ) (Cert.Vectors.main (F := Bits))) ⟨m, fun _ => 0, g⟩ (fun r => (∀ c : Dev Cert.Vectors.nD,
      r.2.mem ((c.tc : Thread Cert.Vectors.nD Cert.Vectors.τ).loc Cert.Vectors.main_arg0) = m ((c.tc : Thread Cert.Vectors.nD Cert.Vectors.τ).loc Cert.Vectors.main_arg0)
      ∧ r.2.mem ((c.tc : Thread Cert.Vectors.nD Cert.Vectors.τ).loc Cert.Vectors.main_arg1) = m ((c.tc : Thread Cert.Vectors.nD Cert.Vectors.τ).loc Cert.Vectors.main_arg1)
      ∧ r.2.mem ((c.tc : Thread Cert.Vectors.nD Cert.Vectors.τ).loc Cert.Vectors.main_arg2) = m ((c.tc : Thread Cert.Vectors.nD Cert.Vectors.τ).loc Cert.Vectors.main_arg2)
      ∧ r.2.mem ((c.tc : Thread Cert.Vectors.nD Cert.Vectors.τ).loc Cert.Vectors.main_arg3) = m ((c.tc : Thread Cert.Vectors.nD Cert.Vectors.τ).loc Cert.Vectors.main_arg3))
      ∧ r.2.sem = fun _ => 0)

def quiescent_VectorsIdeal [hVectorsIdeal : Cert.VectorsIdeal.Facts] : Prop :=
  ∀ (m : (ℓ : Loc Cert.VectorsIdeal.nD Cert.VectorsIdeal.τ Cert.VectorsIdeal.sig) → Buf (Elt Ideal) ℓ) (g : Dev Cert.VectorsIdeal.nD → PrngReg), Pre_VectorsIdeal m →
    θ_run (Cert.VectorsIdeal.defs (F := Ideal)) (onTc (τ := Cert.VectorsIdeal.τ) (Cert.VectorsIdeal.main (F := Ideal))) ⟨m, fun _ => 0, g⟩ (fun r => (∀ c : Dev Cert.VectorsIdeal.nD,
      r.2.mem ((c.tc : Thread Cert.VectorsIdeal.nD Cert.VectorsIdeal.τ).loc Cert.VectorsIdeal.main_arg0) = m ((c.tc : Thread Cert.VectorsIdeal.nD Cert.VectorsIdeal.τ).loc Cert.VectorsIdeal.main_arg0)
      ∧ r.2.mem ((c.tc : Thread Cert.VectorsIdeal.nD Cert.VectorsIdeal.τ).loc Cert.VectorsIdeal.main_arg1) = m ((c.tc : Thread Cert.VectorsIdeal.nD Cert.VectorsIdeal.τ).loc Cert.VectorsIdeal.main_arg1)
      ∧ r.2.mem ((c.tc : Thread Cert.VectorsIdeal.nD Cert.VectorsIdeal.τ).loc Cert.VectorsIdeal.main_arg2) = m ((c.tc : Thread Cert.VectorsIdeal.nD Cert.VectorsIdeal.τ).loc Cert.VectorsIdeal.main_arg2)
      ∧ r.2.mem ((c.tc : Thread Cert.VectorsIdeal.nD Cert.VectorsIdeal.τ).loc Cert.VectorsIdeal.main_arg3) = m ((c.tc : Thread Cert.VectorsIdeal.nD Cert.VectorsIdeal.τ).loc Cert.VectorsIdeal.main_arg3))
      ∧ r.2.sem = fun _ => 0)

def quiescent_VectorsRefIdeal [hVectorsRefIdeal : Cert.VectorsRefIdeal.Facts] : Prop :=
  ∀ (m : (ℓ : Loc Cert.VectorsRefIdeal.nD Cert.VectorsRefIdeal.τ Cert.VectorsRefIdeal.sig) → Buf (Elt Ideal) ℓ) (g : Dev Cert.VectorsRefIdeal.nD → PrngReg), Pre_VectorsRefIdeal m →
    θ_run (Cert.VectorsRefIdeal.defs (F := Ideal)) (onTc (τ := Cert.VectorsRefIdeal.τ) (Cert.VectorsRefIdeal.main (F := Ideal))) ⟨m, fun _ => 0, g⟩ (fun r => (∀ c : Dev Cert.VectorsRefIdeal.nD,
      r.2.mem ((c.tc : Thread Cert.VectorsRefIdeal.nD Cert.VectorsRefIdeal.τ).loc Cert.VectorsRefIdeal.main_arg0) = m ((c.tc : Thread Cert.VectorsRefIdeal.nD Cert.VectorsRefIdeal.τ).loc Cert.VectorsRefIdeal.main_arg0)
      ∧ r.2.mem ((c.tc : Thread Cert.VectorsRefIdeal.nD Cert.VectorsRefIdeal.τ).loc Cert.VectorsRefIdeal.main_arg1) = m ((c.tc : Thread Cert.VectorsRefIdeal.nD Cert.VectorsRefIdeal.τ).loc Cert.VectorsRefIdeal.main_arg1)
      ∧ r.2.mem ((c.tc : Thread Cert.VectorsRefIdeal.nD Cert.VectorsRefIdeal.τ).loc Cert.VectorsRefIdeal.main_arg2) = m ((c.tc : Thread Cert.VectorsRefIdeal.nD Cert.VectorsRefIdeal.τ).loc Cert.VectorsRefIdeal.main_arg2)
      ∧ r.2.mem ((c.tc : Thread Cert.VectorsRefIdeal.nD Cert.VectorsRefIdeal.τ).loc Cert.VectorsRefIdeal.main_arg3) = m ((c.tc : Thread Cert.VectorsRefIdeal.nD Cert.VectorsRefIdeal.τ).loc Cert.VectorsRefIdeal.main_arg3))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2)
      ∧ r.2.mem ((c.tc : Thread Cert.InX.nD Cert.InX.τ).loc Cert.InX.main_arg3) = m ((c.tc : Thread Cert.InX.nD Cert.InX.τ).loc Cert.InX.main_arg3)
      ∧ r.2.mem ((c.tc : Thread Cert.InX.nD Cert.InX.τ).loc Cert.InX.main_arg4) = m ((c.tc : Thread Cert.InX.nD Cert.InX.τ).loc Cert.InX.main_arg4)
      ∧ r.2.mem ((c.tc : Thread Cert.InX.nD Cert.InX.τ).loc Cert.InX.main_arg5) = m ((c.tc : Thread Cert.InX.nD Cert.InX.τ).loc Cert.InX.main_arg5)
      ∧ r.2.mem ((c.tc : Thread Cert.InX.nD Cert.InX.τ).loc Cert.InX.main_arg6) = m ((c.tc : Thread Cert.InX.nD Cert.InX.τ).loc Cert.InX.main_arg6)
      ∧ r.2.mem ((c.tc : Thread Cert.InX.nD Cert.InX.τ).loc Cert.InX.main_arg7) = m ((c.tc : Thread Cert.InX.nD Cert.InX.τ).loc Cert.InX.main_arg7))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
      ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
      ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
      ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
      ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
      ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2)
      ∧ r.2.mem ((c.tc : Thread Cert.InXRefIdeal.nD Cert.InXRefIdeal.τ).loc Cert.InXRefIdeal.main_arg3) = m ((c.tc : Thread Cert.InXRefIdeal.nD Cert.InXRefIdeal.τ).loc Cert.InXRefIdeal.main_arg3)
      ∧ r.2.mem ((c.tc : Thread Cert.InXRefIdeal.nD Cert.InXRefIdeal.τ).loc Cert.InXRefIdeal.main_arg4) = m ((c.tc : Thread Cert.InXRefIdeal.nD Cert.InXRefIdeal.τ).loc Cert.InXRefIdeal.main_arg4)
      ∧ r.2.mem ((c.tc : Thread Cert.InXRefIdeal.nD Cert.InXRefIdeal.τ).loc Cert.InXRefIdeal.main_arg5) = m ((c.tc : Thread Cert.InXRefIdeal.nD Cert.InXRefIdeal.τ).loc Cert.InXRefIdeal.main_arg5)
      ∧ r.2.mem ((c.tc : Thread Cert.InXRefIdeal.nD Cert.InXRefIdeal.τ).loc Cert.InXRefIdeal.main_arg6) = m ((c.tc : Thread Cert.InXRefIdeal.nD Cert.InXRefIdeal.τ).loc Cert.InXRefIdeal.main_arg6)
      ∧ r.2.mem ((c.tc : Thread Cert.InXRefIdeal.nD Cert.InXRefIdeal.τ).loc Cert.InXRefIdeal.main_arg7) = m ((c.tc : Thread Cert.InXRefIdeal.nD Cert.InXRefIdeal.τ).loc Cert.InXRefIdeal.main_arg7))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3))
      ∧ r.2.sem = fun _ => 0)

def quiescent_GQkv [hGQkv : Cert.GQkv.Facts] : Prop :=
  ∀ (m : (ℓ : Loc Cert.GQkv.nD Cert.GQkv.τ Cert.GQkv.sig) → Buf (Elt Bits) ℓ) (g : Dev Cert.GQkv.nD → PrngReg), Pre_GQkv m →
    θ_run (Cert.GQkv.defs (F := Bits)) (onTc (τ := Cert.GQkv.τ) (Cert.GQkv.main (F := Bits))) ⟨m, fun _ => 0, g⟩ (fun r => (∀ c : Dev Cert.GQkv.nD,
      r.2.mem ((c.tc : Thread Cert.GQkv.nD Cert.GQkv.τ).loc Cert.GQkv.main_arg0) = m ((c.tc : Thread Cert.GQkv.nD Cert.GQkv.τ).loc Cert.GQkv.main_arg0)
      ∧ r.2.mem ((c.tc : Thread Cert.GQkv.nD Cert.GQkv.τ).loc Cert.GQkv.main_arg1) = m ((c.tc : Thread Cert.GQkv.nD Cert.GQkv.τ).loc Cert.GQkv.main_arg1))
      ∧ r.2.sem = fun _ => 0)

def quiescent_GQkvIdeal [hGQkvIdeal : Cert.GQkvIdeal.Facts] : Prop :=
  ∀ (m : (ℓ : Loc Cert.GQkvIdeal.nD Cert.GQkvIdeal.τ Cert.GQkvIdeal.sig) → Buf (Elt Ideal) ℓ) (g : Dev Cert.GQkvIdeal.nD → PrngReg), Pre_GQkvIdeal m →
    θ_run (Cert.GQkvIdeal.defs (F := Ideal)) (onTc (τ := Cert.GQkvIdeal.τ) (Cert.GQkvIdeal.main (F := Ideal))) ⟨m, fun _ => 0, g⟩ (fun r => (∀ c : Dev Cert.GQkvIdeal.nD,
      r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
      ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ r.2.sem = fun _ => 0)

def quiescent_GQkvRefIdeal [hGQkvRefIdeal : Cert.GQkvRefIdeal.Facts] : Prop :=
  ∀ (m : (ℓ : Loc Cert.GQkvRefIdeal.nD Cert.GQkvRefIdeal.τ Cert.GQkvRefIdeal.sig) → Buf (Elt Ideal) ℓ) (g : Dev Cert.GQkvRefIdeal.nD → PrngReg), Pre_GQkvRefIdeal m →
    θ_run (Cert.GQkvRefIdeal.defs (F := Ideal)) (onTc (τ := Cert.GQkvRefIdeal.τ) (Cert.GQkvRefIdeal.main (F := Ideal))) ⟨m, fun _ => 0, g⟩ (fun r => (∀ c : Dev Cert.GQkvRefIdeal.nD,
      r.2.mem ((c.tc : Thread Cert.GQkvRefIdeal.nD Cert.GQkvRefIdeal.τ).loc Cert.GQkvRefIdeal.main_arg0) = m ((c.tc : Thread Cert.GQkvRefIdeal.nD Cert.GQkvRefIdeal.τ).loc Cert.GQkvRefIdeal.main_arg0)
      ∧ r.2.mem ((c.tc : Thread Cert.GQkvRefIdeal.nD Cert.GQkvRefIdeal.τ).loc Cert.GQkvRefIdeal.main_arg1) = m ((c.tc : Thread Cert.GQkvRefIdeal.nD Cert.GQkvRefIdeal.τ).loc Cert.GQkvRefIdeal.main_arg1))
      ∧ r.2.sem = fun _ => 0)

def quiescent_GRet [hGRet : Cert.GRet.Facts] : Prop :=
  ∀ (m : (ℓ : Loc Cert.GRet.nD Cert.GRet.τ Cert.GRet.sig) → Buf (Elt Bits) ℓ) (g : Dev Cert.GRet.nD → PrngReg), Pre_GRet m →
    θ_run (Cert.GRet.defs (F := Bits)) (onTc (τ := Cert.GRet.τ) (Cert.GRet.main (F := Bits))) ⟨m, fun _ => 0, g⟩ (fun r => (∀ c : Dev Cert.GRet.nD,
      r.2.mem ((c.tc : Thread Cert.GRet.nD Cert.GRet.τ).loc Cert.GRet.main_arg0) = m ((c.tc : Thread Cert.GRet.nD Cert.GRet.τ).loc Cert.GRet.main_arg0)
      ∧ r.2.mem ((c.tc : Thread Cert.GRet.nD Cert.GRet.τ).loc Cert.GRet.main_arg1) = m ((c.tc : Thread Cert.GRet.nD Cert.GRet.τ).loc Cert.GRet.main_arg1))
      ∧ r.2.sem = fun _ => 0)

def quiescent_GRetIdeal [hGRetIdeal : Cert.GRetIdeal.Facts] : Prop :=
  ∀ (m : (ℓ : Loc Cert.GRetIdeal.nD Cert.GRetIdeal.τ Cert.GRetIdeal.sig) → Buf (Elt Ideal) ℓ) (g : Dev Cert.GRetIdeal.nD → PrngReg), Pre_GRetIdeal m →
    θ_run (Cert.GRetIdeal.defs (F := Ideal)) (onTc (τ := Cert.GRetIdeal.τ) (Cert.GRetIdeal.main (F := Ideal))) ⟨m, fun _ => 0, g⟩ (fun r => (∀ c : Dev Cert.GRetIdeal.nD,
      r.2.mem ((c.tc : Thread Cert.GRetIdeal.nD Cert.GRetIdeal.τ).loc Cert.GRetIdeal.main_arg0) = m ((c.tc : Thread Cert.GRetIdeal.nD Cert.GRetIdeal.τ).loc Cert.GRetIdeal.main_arg0)
      ∧ r.2.mem ((c.tc : Thread Cert.GRetIdeal.nD Cert.GRetIdeal.τ).loc Cert.GRetIdeal.main_arg1) = m ((c.tc : Thread Cert.GRetIdeal.nD Cert.GRetIdeal.τ).loc Cert.GRetIdeal.main_arg1))
      ∧ r.2.sem = fun _ => 0)

def quiescent_GRetRefIdeal [hGRetRefIdeal : Cert.GRetRefIdeal.Facts] : Prop :=
  ∀ (m : (ℓ : Loc Cert.GRetRefIdeal.nD Cert.GRetRefIdeal.τ Cert.GRetRefIdeal.sig) → Buf (Elt Ideal) ℓ) (g : Dev Cert.GRetRefIdeal.nD → PrngReg), Pre_GRetRefIdeal m →
    θ_run (Cert.GRetRefIdeal.defs (F := Ideal)) (onTc (τ := Cert.GRetRefIdeal.τ) (Cert.GRetRefIdeal.main (F := Ideal))) ⟨m, fun _ => 0, g⟩ (fun r => (∀ c : Dev Cert.GRetRefIdeal.nD,
      r.2.mem ((c.tc : Thread Cert.GRetRefIdeal.nD Cert.GRetRefIdeal.τ).loc Cert.GRetRefIdeal.main_arg0) = m ((c.tc : Thread Cert.GRetRefIdeal.nD Cert.GRetRefIdeal.τ).loc Cert.GRetRefIdeal.main_arg0)
      ∧ r.2.mem ((c.tc : Thread Cert.GRetRefIdeal.nD Cert.GRetRefIdeal.τ).loc Cert.GRetRefIdeal.main_arg1) = m ((c.tc : Thread Cert.GRetRefIdeal.nD Cert.GRetRefIdeal.τ).loc Cert.GRetRefIdeal.main_arg1))
      ∧ r.2.sem = fun _ => 0)

def quiescent_GRwkv [hGRwkv : Cert.GRwkv.Facts] : Prop :=
  ∀ (m : (ℓ : Loc Cert.GRwkv.nD Cert.GRwkv.τ Cert.GRwkv.sig) → Buf (Elt Bits) ℓ) (g : Dev Cert.GRwkv.nD → PrngReg), Pre_GRwkv m →
    θ_run (Cert.GRwkv.defs (F := Bits)) (onTc (τ := Cert.GRwkv.τ) (Cert.GRwkv.main (F := Bits))) ⟨m, fun _ => 0, g⟩ (fun r => (∀ c : Dev Cert.GRwkv.nD,
      r.2.mem ((c.tc : Thread Cert.GRwkv.nD Cert.GRwkv.τ).loc Cert.GRwkv.main_arg0) = m ((c.tc : Thread Cert.GRwkv.nD Cert.GRwkv.τ).loc Cert.GRwkv.main_arg0)
      ∧ r.2.mem ((c.tc : Thread Cert.GRwkv.nD Cert.GRwkv.τ).loc Cert.GRwkv.main_arg1) = m ((c.tc : Thread Cert.GRwkv.nD Cert.GRwkv.τ).loc Cert.GRwkv.main_arg1))
      ∧ r.2.sem = fun _ => 0)

def quiescent_GRwkvIdeal [hGRwkvIdeal : Cert.GRwkvIdeal.Facts] : Prop :=
  ∀ (m : (ℓ : Loc Cert.GRwkvIdeal.nD Cert.GRwkvIdeal.τ Cert.GRwkvIdeal.sig) → Buf (Elt Ideal) ℓ) (g : Dev Cert.GRwkvIdeal.nD → PrngReg), Pre_GRwkvIdeal m →
    θ_run (Cert.GRwkvIdeal.defs (F := Ideal)) (onTc (τ := Cert.GRwkvIdeal.τ) (Cert.GRwkvIdeal.main (F := Ideal))) ⟨m, fun _ => 0, g⟩ (fun r => (∀ c : Dev Cert.GRwkvIdeal.nD,
      r.2.mem ((c.tc : Thread Cert.GRwkvIdeal.nD Cert.GRwkvIdeal.τ).loc Cert.GRwkvIdeal.main_arg0) = m ((c.tc : Thread Cert.GRwkvIdeal.nD Cert.GRwkvIdeal.τ).loc Cert.GRwkvIdeal.main_arg0)
      ∧ r.2.mem ((c.tc : Thread Cert.GRwkvIdeal.nD Cert.GRwkvIdeal.τ).loc Cert.GRwkvIdeal.main_arg1) = m ((c.tc : Thread Cert.GRwkvIdeal.nD Cert.GRwkvIdeal.τ).loc Cert.GRwkvIdeal.main_arg1))
      ∧ r.2.sem = fun _ => 0)

def quiescent_GRwkvRefIdeal [hGRwkvRefIdeal : Cert.GRwkvRefIdeal.Facts] : Prop :=
  ∀ (m : (ℓ : Loc Cert.GRwkvRefIdeal.nD Cert.GRwkvRefIdeal.τ Cert.GRwkvRefIdeal.sig) → Buf (Elt Ideal) ℓ) (g : Dev Cert.GRwkvRefIdeal.nD → PrngReg), Pre_GRwkvRefIdeal m →
    θ_run (Cert.GRwkvRefIdeal.defs (F := Ideal)) (onTc (τ := Cert.GRwkvRefIdeal.τ) (Cert.GRwkvRefIdeal.main (F := Ideal))) ⟨m, fun _ => 0, g⟩ (fun r => (∀ c : Dev Cert.GRwkvRefIdeal.nD,
      r.2.mem ((c.tc : Thread Cert.GRwkvRefIdeal.nD Cert.GRwkvRefIdeal.τ).loc Cert.GRwkvRefIdeal.main_arg0) = m ((c.tc : Thread Cert.GRwkvRefIdeal.nD Cert.GRwkvRefIdeal.τ).loc Cert.GRwkvRefIdeal.main_arg0)
      ∧ r.2.mem ((c.tc : Thread Cert.GRwkvRefIdeal.nD Cert.GRwkvRefIdeal.τ).loc Cert.GRwkvRefIdeal.main_arg1) = m ((c.tc : Thread Cert.GRwkvRefIdeal.nD Cert.GRwkvRefIdeal.τ).loc Cert.GRwkvRefIdeal.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![8, 1024, 464]⟩ ⟨3, ![64, 1024, 464]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨3, ![8, 128, 1024]⟩ ⟨3, ![64, 128, 1024]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨3, ![8, 64, 64]⟩ ⟨3, ![64, 64, 64]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 64, 64]⟩ ⟨3, ![64, 64, 64]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨3, ![8, 72, 128]⟩ ⟨3, ![64, 72, 128]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v2)) (v1 : Buf (Elt Ideal) (((0 : Dev Cert.ReferenceIdeal.nD).tc : Thread Cert.ReferenceIdeal.nD Cert.ReferenceIdeal.τ).loc Cert.ReferenceIdeal.main_v5)) (v2 : Buf (Elt Ideal) (((0 : Dev Cert.ReferenceIdeal.nD).tc : Thread Cert.ReferenceIdeal.nD Cert.ReferenceIdeal.τ).loc Cert.ReferenceIdeal.main_v8)) (v3 : Buf (Elt Ideal) (((0 : Dev Cert.ReferenceIdeal.nD).tc : Thread Cert.ReferenceIdeal.nD Cert.ReferenceIdeal.τ).loc Cert.ReferenceIdeal.main_v11)) (v4 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨3, ![8, 1024, 464]⟩ ⟨3, ![64, 1024, 464]⟩ 0 8 c v0
          ∧ r.2.mem ((c.tc : Thread Cert.KernelIdeal.nD Cert.KernelIdeal.τ).loc Cert.KernelIdeal.main_v1_1) = Layout.block ⟨3, ![8, 128, 1024]⟩ ⟨3, ![64, 128, 1024]⟩ 0 8 c v1
          ∧ r.2.mem ((c.tc : Thread Cert.KernelIdeal.nD Cert.KernelIdeal.τ).loc Cert.KernelIdeal.main_v1_2) = Layout.block ⟨3, ![8, 64, 64]⟩ ⟨3, ![64, 64, 64]⟩ 0 8 c v2
          ∧ r.2.mem ((c.tc : Thread Cert.KernelIdeal.nD Cert.KernelIdeal.τ).loc Cert.KernelIdeal.main_v1_3) = Layout.block ⟨3, ![8, 64, 64]⟩ ⟨3, ![64, 64, 64]⟩ 0 8 c v3
          ∧ r.2.mem ((c.tc : Thread Cert.KernelIdeal.nD Cert.KernelIdeal.τ).loc Cert.KernelIdeal.main_v1_4) = Layout.block ⟨3, ![8, 72, 128]⟩ ⟨3, ![64, 72, 128]⟩ 0 8 c v4
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_v5) = v1
          ∧ r.2.mem (((0 : Dev Cert.ReferenceIdeal.nD).tc : Thread Cert.ReferenceIdeal.nD Cert.ReferenceIdeal.τ).loc Cert.ReferenceIdeal.main_v8) = v2
          ∧ r.2.mem (((0 : Dev Cert.ReferenceIdeal.nD).tc : Thread Cert.ReferenceIdeal.nD Cert.ReferenceIdeal.τ).loc Cert.ReferenceIdeal.main_v11) = v3
          ∧ r.2.mem (((0 : Dev Cert.ReferenceIdeal.nD).tc : Thread Cert.ReferenceIdeal.nD Cert.ReferenceIdeal.τ).loc Cert.ReferenceIdeal.main_v14) = v4
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨3, ![8, 1024, 464]⟩ ⟨3, ![64, 1024, 464]⟩ 0 8 c (m' (((0 : Dev Cert.Reference.nD).tc : Thread Cert.Reference.nD Cert.Reference.τ).loc Cert.Reference.main_arg0))
      ∧ m ((c.tc : Thread Cert.Kernel.nD Cert.Kernel.τ).loc Cert.Kernel.main_arg1) = Layout.block ⟨3, ![8, 128, 1024]⟩ ⟨3, ![64, 128, 1024]⟩ 0 8 c (m' (((0 : Dev Cert.Reference.nD).tc : Thread Cert.Reference.nD Cert.Reference.τ).loc Cert.Reference.main_arg1))
      ∧ m ((c.tc : Thread Cert.Kernel.nD Cert.Kernel.τ).loc Cert.Kernel.main_arg2) = Layout.block ⟨3, ![8, 64, 64]⟩ ⟨3, ![64, 64, 64]⟩ 0 8 c (m' (((0 : Dev Cert.Reference.nD).tc : Thread Cert.Reference.nD Cert.Reference.τ).loc Cert.Reference.main_arg2))
      ∧ m ((c.tc : Thread Cert.Kernel.nD Cert.Kernel.τ).loc Cert.Kernel.main_arg3) = Layout.block ⟨3, ![8, 64, 64]⟩ ⟨3, ![64, 64, 64]⟩ 0 8 c (m' (((0 : Dev Cert.Reference.nD).tc : Thread Cert.Reference.nD Cert.Reference.τ).loc Cert.Reference.main_arg3))
      ∧ m ((c.tc : Thread Cert.Kernel.nD Cert.Kernel.τ).loc Cert.Kernel.main_arg4) = Layout.block ⟨3, ![8, 72, 128]⟩ ⟨3, ![64, 72, 128]⟩ 0 8 c (m' (((0 : Dev Cert.Reference.nD).tc : Thread Cert.Reference.nD Cert.Reference.τ).loc Cert.Reference.main_arg4))) →
    ∃ (v0 : Buf (Elt Bits) (((0 : Dev Cert.Reference.nD).tc : Thread Cert.Reference.nD Cert.Reference.τ).loc Cert.Reference.main_v2)) (v1 : Buf (Elt Bits) (((0 : Dev Cert.Reference.nD).tc : Thread Cert.Reference.nD Cert.Reference.τ).loc Cert.Reference.main_v5)) (v2 : Buf (Elt Bits) (((0 : Dev Cert.Reference.nD).tc : Thread Cert.Reference.nD Cert.Reference.τ).loc Cert.Reference.main_v8)) (v3 : Buf (Elt Bits) (((0 : Dev Cert.Reference.nD).tc : Thread Cert.Reference.nD Cert.Reference.τ).loc Cert.Reference.main_v11)) (v4 : Buf (Elt Bits) (((0 : Dev Cert.Reference.nD).tc : Thread Cert.Reference.nD Cert.Reference.τ).loc Cert.Reference.main_v14)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = Layout.block ⟨3, ![8, 1024, 464]⟩ ⟨3, ![64, 1024, 464]⟩ 0 8 c v0
          ∧ r.2.mem ((c.tc : Thread Cert.Kernel.nD Cert.Kernel.τ).loc Cert.Kernel.main_v1_1) = Layout.block ⟨3, ![8, 128, 1024]⟩ ⟨3, ![64, 128, 1024]⟩ 0 8 c v1
          ∧ r.2.mem ((c.tc : Thread Cert.Kernel.nD Cert.Kernel.τ).loc Cert.Kernel.main_v1_2) = Layout.block ⟨3, ![8, 64, 64]⟩ ⟨3, ![64, 64, 64]⟩ 0 8 c v2
          ∧ r.2.mem ((c.tc : Thread Cert.Kernel.nD Cert.Kernel.τ).loc Cert.Kernel.main_v1_3) = Layout.block ⟨3, ![8, 64, 64]⟩ ⟨3, ![64, 64, 64]⟩ 0 8 c v3
          ∧ r.2.mem ((c.tc : Thread Cert.Kernel.nD Cert.Kernel.τ).loc Cert.Kernel.main_v1_4) = Layout.block ⟨3, ![8, 72, 128]⟩ ⟨3, ![64, 72, 128]⟩ 0 8 c v4
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v2) = v0
          ∧ r.2.mem (((0 : Dev Cert.Reference.nD).tc : Thread Cert.Reference.nD Cert.Reference.τ).loc Cert.Reference.main_v5) = v1
          ∧ r.2.mem (((0 : Dev Cert.Reference.nD).tc : Thread Cert.Reference.nD Cert.Reference.τ).loc Cert.Reference.main_v8) = v2
          ∧ r.2.mem (((0 : Dev Cert.Reference.nD).tc : Thread Cert.Reference.nD Cert.Reference.τ).loc Cert.Reference.main_v11) = v3
          ∧ r.2.mem (((0 : Dev Cert.Reference.nD).tc : Thread Cert.Reference.nD Cert.Reference.τ).loc Cert.Reference.main_v14) = v4
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0)
          ∧ r.2.mem (((0 : Dev Cert.Reference.nD).tc : Thread Cert.Reference.nD Cert.Reference.τ).loc Cert.Reference.main_arg1) = m' (((0 : Dev Cert.Reference.nD).tc : Thread Cert.Reference.nD Cert.Reference.τ).loc Cert.Reference.main_arg1)
          ∧ r.2.mem (((0 : Dev Cert.Reference.nD).tc : Thread Cert.Reference.nD Cert.Reference.τ).loc Cert.Reference.main_arg2) = m' (((0 : Dev Cert.Reference.nD).tc : Thread Cert.Reference.nD Cert.Reference.τ).loc Cert.Reference.main_arg2)
          ∧ r.2.mem (((0 : Dev Cert.Reference.nD).tc : Thread Cert.Reference.nD Cert.Reference.τ).loc Cert.Reference.main_arg3) = m' (((0 : Dev Cert.Reference.nD).tc : Thread Cert.Reference.nD Cert.Reference.τ).loc Cert.Reference.main_arg3)
          ∧ r.2.mem (((0 : Dev Cert.Reference.nD).tc : Thread Cert.Reference.nD Cert.Reference.τ).loc Cert.Reference.main_arg4) = m' (((0 : Dev Cert.Reference.nD).tc : Thread Cert.Reference.nD Cert.Reference.τ).loc Cert.Reference.main_arg4))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)
      ∧ m' ((c.tc : Thread Cert.WInRefIdeal.nD Cert.WInRefIdeal.τ).loc Cert.WInRefIdeal.main_arg2) = m ((c.tc : Thread Cert.WInIdeal.nD Cert.WInIdeal.τ).loc Cert.WInIdeal.main_arg2)
      ∧ m' ((c.tc : Thread Cert.WInRefIdeal.nD Cert.WInRefIdeal.τ).loc Cert.WInRefIdeal.main_arg3) = m ((c.tc : Thread Cert.WInIdeal.nD Cert.WInIdeal.τ).loc Cert.WInIdeal.main_arg3)) →
    ∃ (v0 : (c : Dev Cert.WInIdeal.nD) → Buf (Elt Ideal) ((c.tc : Thread Cert.WInIdeal.nD Cert.WInIdeal.τ).loc Cert.WInIdeal.main_v0_0)) (v1 : (c : Dev Cert.WInIdeal.nD) → Buf (Elt Ideal) ((c.tc : Thread Cert.WInIdeal.nD Cert.WInIdeal.τ).loc Cert.WInIdeal.main_v0_1)) (v2 : (c : Dev Cert.WInIdeal.nD) → Buf (Elt Ideal) ((c.tc : Thread Cert.WInIdeal.nD Cert.WInIdeal.τ).loc Cert.WInIdeal.main_v0_2)) (v3 : (c : Dev Cert.WInIdeal.nD) → Buf (Elt Ideal) ((c.tc : Thread Cert.WInIdeal.nD Cert.WInIdeal.τ).loc Cert.WInIdeal.main_v0_3)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0_0) = v0 c
          ∧ r.2.mem ((c.tc : Thread Cert.WInIdeal.nD Cert.WInIdeal.τ).loc Cert.WInIdeal.main_v0_1) = v1 c
          ∧ r.2.mem ((c.tc : Thread Cert.WInIdeal.nD Cert.WInIdeal.τ).loc Cert.WInIdeal.main_v0_2) = v2 c
          ∧ r.2.mem ((c.tc : Thread Cert.WInIdeal.nD Cert.WInIdeal.τ).loc Cert.WInIdeal.main_v0_3) = v3 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1)
          ∧ r.2.mem ((c.tc : Thread Cert.WInIdeal.nD Cert.WInIdeal.τ).loc Cert.WInIdeal.main_arg2) = m ((c.tc : Thread Cert.WInIdeal.nD Cert.WInIdeal.τ).loc Cert.WInIdeal.main_arg2)
          ∧ r.2.mem ((c.tc : Thread Cert.WInIdeal.nD Cert.WInIdeal.τ).loc Cert.WInIdeal.main_arg3) = m ((c.tc : Thread Cert.WInIdeal.nD Cert.WInIdeal.τ).loc Cert.WInIdeal.main_arg3))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v0) = v0 c
          ∧ r.2.mem ((c.tc : Thread Cert.WInRefIdeal.nD Cert.WInRefIdeal.τ).loc Cert.WInRefIdeal.main_v24) = v1 c
          ∧ r.2.mem ((c.tc : Thread Cert.WInRefIdeal.nD Cert.WInRefIdeal.τ).loc Cert.WInRefIdeal.main_v5) = v2 c
          ∧ r.2.mem ((c.tc : Thread Cert.WInRefIdeal.nD Cert.WInRefIdeal.τ).loc Cert.WInRefIdeal.main_v11) = v3 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1)
          ∧ r.2.mem ((c.tc : Thread Cert.WInRefIdeal.nD Cert.WInRefIdeal.τ).loc Cert.WInRefIdeal.main_arg2) = m' ((c.tc : Thread Cert.WInRefIdeal.nD Cert.WInRefIdeal.τ).loc Cert.WInRefIdeal.main_arg2)
          ∧ r.2.mem ((c.tc : Thread Cert.WInRefIdeal.nD Cert.WInRefIdeal.τ).loc Cert.WInRefIdeal.main_arg3) = m' ((c.tc : Thread Cert.WInRefIdeal.nD Cert.WInRefIdeal.τ).loc Cert.WInRefIdeal.main_arg3))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)
      ∧ m' ((c.tc : Thread Cert.WOutRefIdeal.nD Cert.WOutRefIdeal.τ).loc Cert.WOutRefIdeal.main_arg2) = m ((c.tc : Thread Cert.WOutIdeal.nD Cert.WOutIdeal.τ).loc Cert.WOutIdeal.main_arg2)
      ∧ m' ((c.tc : Thread Cert.WOutRefIdeal.nD Cert.WOutRefIdeal.τ).loc Cert.WOutRefIdeal.main_arg3) = m ((c.tc : Thread Cert.WOutIdeal.nD Cert.WOutIdeal.τ).loc Cert.WOutIdeal.main_arg3)) →
    ∃ (v0 : (c : Dev Cert.WOutIdeal.nD) → Buf (Elt Ideal) ((c.tc : Thread Cert.WOutIdeal.nD Cert.WOutIdeal.τ).loc Cert.WOutIdeal.main_v0_0)) (v1 : (c : Dev Cert.WOutIdeal.nD) → Buf (Elt Ideal) ((c.tc : Thread Cert.WOutIdeal.nD Cert.WOutIdeal.τ).loc Cert.WOutIdeal.main_v0_1)) (v2 : (c : Dev Cert.WOutIdeal.nD) → Buf (Elt Ideal) ((c.tc : Thread Cert.WOutIdeal.nD Cert.WOutIdeal.τ).loc Cert.WOutIdeal.main_v0_2)) (v3 : (c : Dev Cert.WOutIdeal.nD) → Buf (Elt Ideal) ((c.tc : Thread Cert.WOutIdeal.nD Cert.WOutIdeal.τ).loc Cert.WOutIdeal.main_v0_3)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0_0) = v0 c
          ∧ r.2.mem ((c.tc : Thread Cert.WOutIdeal.nD Cert.WOutIdeal.τ).loc Cert.WOutIdeal.main_v0_1) = v1 c
          ∧ r.2.mem ((c.tc : Thread Cert.WOutIdeal.nD Cert.WOutIdeal.τ).loc Cert.WOutIdeal.main_v0_2) = v2 c
          ∧ r.2.mem ((c.tc : Thread Cert.WOutIdeal.nD Cert.WOutIdeal.τ).loc Cert.WOutIdeal.main_v0_3) = v3 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1)
          ∧ r.2.mem ((c.tc : Thread Cert.WOutIdeal.nD Cert.WOutIdeal.τ).loc Cert.WOutIdeal.main_arg2) = m ((c.tc : Thread Cert.WOutIdeal.nD Cert.WOutIdeal.τ).loc Cert.WOutIdeal.main_arg2)
          ∧ r.2.mem ((c.tc : Thread Cert.WOutIdeal.nD Cert.WOutIdeal.τ).loc Cert.WOutIdeal.main_arg3) = m ((c.tc : Thread Cert.WOutIdeal.nD Cert.WOutIdeal.τ).loc Cert.WOutIdeal.main_arg3))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v0) = v0 c
          ∧ r.2.mem ((c.tc : Thread Cert.WOutRefIdeal.nD Cert.WOutRefIdeal.τ).loc Cert.WOutRefIdeal.main_v24) = v1 c
          ∧ r.2.mem ((c.tc : Thread Cert.WOutRefIdeal.nD Cert.WOutRefIdeal.τ).loc Cert.WOutRefIdeal.main_v5) = v2 c
          ∧ r.2.mem ((c.tc : Thread Cert.WOutRefIdeal.nD Cert.WOutRefIdeal.τ).loc Cert.WOutRefIdeal.main_v11) = v3 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1)
          ∧ r.2.mem ((c.tc : Thread Cert.WOutRefIdeal.nD Cert.WOutRefIdeal.τ).loc Cert.WOutRefIdeal.main_arg2) = m' ((c.tc : Thread Cert.WOutRefIdeal.nD Cert.WOutRefIdeal.τ).loc Cert.WOutRefIdeal.main_arg2)
          ∧ r.2.mem ((c.tc : Thread Cert.WOutRefIdeal.nD Cert.WOutRefIdeal.τ).loc Cert.WOutRefIdeal.main_arg3) = m' ((c.tc : Thread Cert.WOutRefIdeal.nD Cert.WOutRefIdeal.τ).loc Cert.WOutRefIdeal.main_arg3))

def preserves_WLora_WLoraIdeal : Prop :=
  True

def algebraic_WLoraIdeal_WLoraRefIdeal [hWLoraIdeal : Cert.WLoraIdeal.Facts] [hWLoraRefIdeal : Cert.WLoraRefIdeal.Facts] : Prop :=
  ∀ (m : (ℓ : Loc Cert.WLoraIdeal.nD Cert.WLoraIdeal.τ Cert.WLoraIdeal.sig) → Buf (Elt Ideal) ℓ) (g : Dev Cert.WLoraIdeal.nD → PrngReg)
    (m' : (ℓ : Loc Cert.WLoraRefIdeal.nD Cert.WLoraRefIdeal.τ Cert.WLoraRefIdeal.sig) → Buf (Elt Ideal) ℓ) (g' : Dev Cert.WLoraRefIdeal.nD → PrngReg), Pre_WLoraIdeal m →
    (∀ c : Dev Cert.WLoraIdeal.nD,
      m' ((c.tc : Thread Cert.WLoraRefIdeal.nD Cert.WLoraRefIdeal.τ).loc Cert.WLoraRefIdeal.main_arg0) = m ((c.tc : Thread Cert.WLoraIdeal.nD Cert.WLoraIdeal.τ).loc Cert.WLoraIdeal.main_arg0)
      ∧ m' ((c.tc : Thread Cert.WLoraRefIdeal.nD Cert.WLoraRefIdeal.τ).loc Cert.WLoraRefIdeal.main_arg1) = m ((c.tc : Thread Cert.WLoraIdeal.nD Cert.WLoraIdeal.τ).loc Cert.WLoraIdeal.main_arg1)
      ∧ m' ((c.tc : Thread Cert.WLoraRefIdeal.nD Cert.WLoraRefIdeal.τ).loc Cert.WLoraRefIdeal.main_arg2) = m ((c.tc : Thread Cert.WLoraIdeal.nD Cert.WLoraIdeal.τ).loc Cert.WLoraIdeal.main_arg2)
      ∧ m' ((c.tc : Thread Cert.WLoraRefIdeal.nD Cert.WLoraRefIdeal.τ).loc Cert.WLoraRefIdeal.main_arg3) = m ((c.tc : Thread Cert.WLoraIdeal.nD Cert.WLoraIdeal.τ).loc Cert.WLoraIdeal.main_arg3)) →
    ∃ (v0 : (c : Dev Cert.WLoraIdeal.nD) → Buf (Elt Ideal) ((c.tc : Thread Cert.WLoraIdeal.nD Cert.WLoraIdeal.τ).loc Cert.WLoraIdeal.main_v0_0)) (v1 : (c : Dev Cert.WLoraIdeal.nD) → Buf (Elt Ideal) ((c.tc : Thread Cert.WLoraIdeal.nD Cert.WLoraIdeal.τ).loc Cert.WLoraIdeal.main_v0_1)) (v2 : (c : Dev Cert.WLoraIdeal.nD) → Buf (Elt Ideal) ((c.tc : Thread Cert.WLoraIdeal.nD Cert.WLoraIdeal.τ).loc Cert.WLoraIdeal.main_v0_2)) (v3 : (c : Dev Cert.WLoraIdeal.nD) → Buf (Elt Ideal) ((c.tc : Thread Cert.WLoraIdeal.nD Cert.WLoraIdeal.τ).loc Cert.WLoraIdeal.main_v0_3)),
      θ_run (Cert.WLoraIdeal.defs (F := Ideal)) (onTc (τ := Cert.WLoraIdeal.τ) (Cert.WLoraIdeal.main (F := Ideal))) ⟨m, fun _ => 0, g⟩ (fun r => ∀ c : Dev Cert.WLoraIdeal.nD,
          r.2.mem ((c.tc : Thread Cert.WLoraIdeal.nD Cert.WLoraIdeal.τ).loc Cert.WLoraIdeal.main_v0_0) = v0 c
          ∧ r.2.mem ((c.tc : Thread Cert.WLoraIdeal.nD Cert.WLoraIdeal.τ).loc Cert.WLoraIdeal.main_v0_1) = v1 c
          ∧ r.2.mem ((c.tc : Thread Cert.WLoraIdeal.nD Cert.WLoraIdeal.τ).loc Cert.WLoraIdeal.main_v0_2) = v2 c
          ∧ r.2.mem ((c.tc : Thread Cert.WLoraIdeal.nD Cert.WLoraIdeal.τ).loc Cert.WLoraIdeal.main_v0_3) = v3 c
          ∧ r.2.mem ((c.tc : Thread Cert.WLoraIdeal.nD Cert.WLoraIdeal.τ).loc Cert.WLoraIdeal.main_arg0) = m ((c.tc : Thread Cert.WLoraIdeal.nD Cert.WLoraIdeal.τ).loc Cert.WLoraIdeal.main_arg0)
          ∧ r.2.mem ((c.tc : Thread Cert.WLoraIdeal.nD Cert.WLoraIdeal.τ).loc Cert.WLoraIdeal.main_arg1) = m ((c.tc : Thread Cert.WLoraIdeal.nD Cert.WLoraIdeal.τ).loc Cert.WLoraIdeal.main_arg1)
          ∧ r.2.mem ((c.tc : Thread Cert.WLoraIdeal.nD Cert.WLoraIdeal.τ).loc Cert.WLoraIdeal.main_arg2) = m ((c.tc : Thread Cert.WLoraIdeal.nD Cert.WLoraIdeal.τ).loc Cert.WLoraIdeal.main_arg2)
          ∧ r.2.mem ((c.tc : Thread Cert.WLoraIdeal.nD Cert.WLoraIdeal.τ).loc Cert.WLoraIdeal.main_arg3) = m ((c.tc : Thread Cert.WLoraIdeal.nD Cert.WLoraIdeal.τ).loc Cert.WLoraIdeal.main_arg3))
      ∧ θ_run (Cert.WLoraRefIdeal.defs (F := Ideal)) (onTc (τ := Cert.WLoraRefIdeal.τ) (Cert.WLoraRefIdeal.main (F := Ideal))) ⟨m', fun _ => 0, g'⟩ (fun r => ∀ c : Dev Cert.WLoraRefIdeal.nD,
          r.2.mem ((c.tc : Thread Cert.WLoraRefIdeal.nD Cert.WLoraRefIdeal.τ).loc Cert.WLoraRefIdeal.main_v0) = v0 c
          ∧ r.2.mem ((c.tc : Thread Cert.WLoraRefIdeal.nD Cert.WLoraRefIdeal.τ).loc Cert.WLoraRefIdeal.main_v24) = v1 c
          ∧ r.2.mem ((c.tc : Thread Cert.WLoraRefIdeal.nD Cert.WLoraRefIdeal.τ).loc Cert.WLoraRefIdeal.main_v5) = v2 c
          ∧ r.2.mem ((c.tc : Thread Cert.WLoraRefIdeal.nD Cert.WLoraRefIdeal.τ).loc Cert.WLoraRefIdeal.main_v11) = v3 c
          ∧ r.2.mem ((c.tc : Thread Cert.WLoraRefIdeal.nD Cert.WLoraRefIdeal.τ).loc Cert.WLoraRefIdeal.main_arg0) = m' ((c.tc : Thread Cert.WLoraRefIdeal.nD Cert.WLoraRefIdeal.τ).loc Cert.WLoraRefIdeal.main_arg0)
          ∧ r.2.mem ((c.tc : Thread Cert.WLoraRefIdeal.nD Cert.WLoraRefIdeal.τ).loc Cert.WLoraRefIdeal.main_arg1) = m' ((c.tc : Thread Cert.WLoraRefIdeal.nD Cert.WLoraRefIdeal.τ).loc Cert.WLoraRefIdeal.main_arg1)
          ∧ r.2.mem ((c.tc : Thread Cert.WLoraRefIdeal.nD Cert.WLoraRefIdeal.τ).loc Cert.WLoraRefIdeal.main_arg2) = m' ((c.tc : Thread Cert.WLoraRefIdeal.nD Cert.WLoraRefIdeal.τ).loc Cert.WLoraRefIdeal.main_arg2)
          ∧ r.2.mem ((c.tc : Thread Cert.WLoraRefIdeal.nD Cert.WLoraRefIdeal.τ).loc Cert.WLoraRefIdeal.main_arg3) = m' ((c.tc : Thread Cert.WLoraRefIdeal.nD Cert.WLoraRefIdeal.τ).loc Cert.WLoraRefIdeal.main_arg3))

def preserves_ALora_ALoraIdeal : Prop :=
  True

def algebraic_ALoraIdeal_ALoraRefIdeal [hALoraIdeal : Cert.ALoraIdeal.Facts] [hALoraRefIdeal : Cert.ALoraRefIdeal.Facts] : Prop :=
  ∀ (m : (ℓ : Loc Cert.ALoraIdeal.nD Cert.ALoraIdeal.τ Cert.ALoraIdeal.sig) → Buf (Elt Ideal) ℓ) (g : Dev Cert.ALoraIdeal.nD → PrngReg)
    (m' : (ℓ : Loc Cert.ALoraRefIdeal.nD Cert.ALoraRefIdeal.τ Cert.ALoraRefIdeal.sig) → Buf (Elt Ideal) ℓ) (g' : Dev Cert.ALoraRefIdeal.nD → PrngReg), Pre_ALoraIdeal m →
    (∀ c : Dev Cert.ALoraIdeal.nD,
      m' ((c.tc : Thread Cert.ALoraRefIdeal.nD Cert.ALoraRefIdeal.τ).loc Cert.ALoraRefIdeal.main_arg0) = m ((c.tc : Thread Cert.ALoraIdeal.nD Cert.ALoraIdeal.τ).loc Cert.ALoraIdeal.main_arg0)
      ∧ m' ((c.tc : Thread Cert.ALoraRefIdeal.nD Cert.ALoraRefIdeal.τ).loc Cert.ALoraRefIdeal.main_arg1) = m ((c.tc : Thread Cert.ALoraIdeal.nD Cert.ALoraIdeal.τ).loc Cert.ALoraIdeal.main_arg1)
      ∧ m' ((c.tc : Thread Cert.ALoraRefIdeal.nD Cert.ALoraRefIdeal.τ).loc Cert.ALoraRefIdeal.main_arg2) = m ((c.tc : Thread Cert.ALoraIdeal.nD Cert.ALoraIdeal.τ).loc Cert.ALoraIdeal.main_arg2)
      ∧ m' ((c.tc : Thread Cert.ALoraRefIdeal.nD Cert.ALoraRefIdeal.τ).loc Cert.ALoraRefIdeal.main_arg3) = m ((c.tc : Thread Cert.ALoraIdeal.nD Cert.ALoraIdeal.τ).loc Cert.ALoraIdeal.main_arg3)) →
    ∃ (v0 : (c : Dev Cert.ALoraIdeal.nD) → Buf (Elt Ideal) ((c.tc : Thread Cert.ALoraIdeal.nD Cert.ALoraIdeal.τ).loc Cert.ALoraIdeal.main_v0_0)) (v1 : (c : Dev Cert.ALoraIdeal.nD) → Buf (Elt Ideal) ((c.tc : Thread Cert.ALoraIdeal.nD Cert.ALoraIdeal.τ).loc Cert.ALoraIdeal.main_v0_1)) (v2 : (c : Dev Cert.ALoraIdeal.nD) → Buf (Elt Ideal) ((c.tc : Thread Cert.ALoraIdeal.nD Cert.ALoraIdeal.τ).loc Cert.ALoraIdeal.main_v0_2)) (v3 : (c : Dev Cert.ALoraIdeal.nD) → Buf (Elt Ideal) ((c.tc : Thread Cert.ALoraIdeal.nD Cert.ALoraIdeal.τ).loc Cert.ALoraIdeal.main_v0_3)),
      θ_run (Cert.ALoraIdeal.defs (F := Ideal)) (onTc (τ := Cert.ALoraIdeal.τ) (Cert.ALoraIdeal.main (F := Ideal))) ⟨m, fun _ => 0, g⟩ (fun r => ∀ c : Dev Cert.ALoraIdeal.nD,
          r.2.mem ((c.tc : Thread Cert.ALoraIdeal.nD Cert.ALoraIdeal.τ).loc Cert.ALoraIdeal.main_v0_0) = v0 c
          ∧ r.2.mem ((c.tc : Thread Cert.ALoraIdeal.nD Cert.ALoraIdeal.τ).loc Cert.ALoraIdeal.main_v0_1) = v1 c
          ∧ r.2.mem ((c.tc : Thread Cert.ALoraIdeal.nD Cert.ALoraIdeal.τ).loc Cert.ALoraIdeal.main_v0_2) = v2 c
          ∧ r.2.mem ((c.tc : Thread Cert.ALoraIdeal.nD Cert.ALoraIdeal.τ).loc Cert.ALoraIdeal.main_v0_3) = v3 c
          ∧ r.2.mem ((c.tc : Thread Cert.ALoraIdeal.nD Cert.ALoraIdeal.τ).loc Cert.ALoraIdeal.main_arg0) = m ((c.tc : Thread Cert.ALoraIdeal.nD Cert.ALoraIdeal.τ).loc Cert.ALoraIdeal.main_arg0)
          ∧ r.2.mem ((c.tc : Thread Cert.ALoraIdeal.nD Cert.ALoraIdeal.τ).loc Cert.ALoraIdeal.main_arg1) = m ((c.tc : Thread Cert.ALoraIdeal.nD Cert.ALoraIdeal.τ).loc Cert.ALoraIdeal.main_arg1)
          ∧ r.2.mem ((c.tc : Thread Cert.ALoraIdeal.nD Cert.ALoraIdeal.τ).loc Cert.ALoraIdeal.main_arg2) = m ((c.tc : Thread Cert.ALoraIdeal.nD Cert.ALoraIdeal.τ).loc Cert.ALoraIdeal.main_arg2)
          ∧ r.2.mem ((c.tc : Thread Cert.ALoraIdeal.nD Cert.ALoraIdeal.τ).loc Cert.ALoraIdeal.main_arg3) = m ((c.tc : Thread Cert.ALoraIdeal.nD Cert.ALoraIdeal.τ).loc Cert.ALoraIdeal.main_arg3))
      ∧ θ_run (Cert.ALoraRefIdeal.defs (F := Ideal)) (onTc (τ := Cert.ALoraRefIdeal.τ) (Cert.ALoraRefIdeal.main (F := Ideal))) ⟨m', fun _ => 0, g'⟩ (fun r => ∀ c : Dev Cert.ALoraRefIdeal.nD,
          r.2.mem ((c.tc : Thread Cert.ALoraRefIdeal.nD Cert.ALoraRefIdeal.τ).loc Cert.ALoraRefIdeal.main_v0) = v0 c
          ∧ r.2.mem ((c.tc : Thread Cert.ALoraRefIdeal.nD Cert.ALoraRefIdeal.τ).loc Cert.ALoraRefIdeal.main_v24) = v1 c
          ∧ r.2.mem ((c.tc : Thread Cert.ALoraRefIdeal.nD Cert.ALoraRefIdeal.τ).loc Cert.ALoraRefIdeal.main_v5) = v2 c
          ∧ r.2.mem ((c.tc : Thread Cert.ALoraRefIdeal.nD Cert.ALoraRefIdeal.τ).loc Cert.ALoraRefIdeal.main_v11) = v3 c
          ∧ r.2.mem ((c.tc : Thread Cert.ALoraRefIdeal.nD Cert.ALoraRefIdeal.τ).loc Cert.ALoraRefIdeal.main_arg0) = m' ((c.tc : Thread Cert.ALoraRefIdeal.nD Cert.ALoraRefIdeal.τ).loc Cert.ALoraRefIdeal.main_arg0)
          ∧ r.2.mem ((c.tc : Thread Cert.ALoraRefIdeal.nD Cert.ALoraRefIdeal.τ).loc Cert.ALoraRefIdeal.main_arg1) = m' ((c.tc : Thread Cert.ALoraRefIdeal.nD Cert.ALoraRefIdeal.τ).loc Cert.ALoraRefIdeal.main_arg1)
          ∧ r.2.mem ((c.tc : Thread Cert.ALoraRefIdeal.nD Cert.ALoraRefIdeal.τ).loc Cert.ALoraRefIdeal.main_arg2) = m' ((c.tc : Thread Cert.ALoraRefIdeal.nD Cert.ALoraRefIdeal.τ).loc Cert.ALoraRefIdeal.main_arg2)
          ∧ r.2.mem ((c.tc : Thread Cert.ALoraRefIdeal.nD Cert.ALoraRefIdeal.τ).loc Cert.ALoraRefIdeal.main_arg3) = m' ((c.tc : Thread Cert.ALoraRefIdeal.nD Cert.ALoraRefIdeal.τ).loc Cert.ALoraRefIdeal.main_arg3))

def preserves_Vectors_VectorsIdeal : Prop :=
  True

def algebraic_VectorsIdeal_VectorsRefIdeal [hVectorsIdeal : Cert.VectorsIdeal.Facts] [hVectorsRefIdeal : Cert.VectorsRefIdeal.Facts] : Prop :=
  ∀ (m : (ℓ : Loc Cert.VectorsIdeal.nD Cert.VectorsIdeal.τ Cert.VectorsIdeal.sig) → Buf (Elt Ideal) ℓ) (g : Dev Cert.VectorsIdeal.nD → PrngReg)
    (m' : (ℓ : Loc Cert.VectorsRefIdeal.nD Cert.VectorsRefIdeal.τ Cert.VectorsRefIdeal.sig) → Buf (Elt Ideal) ℓ) (g' : Dev Cert.VectorsRefIdeal.nD → PrngReg), Pre_VectorsIdeal m →
    (∀ c : Dev Cert.VectorsIdeal.nD,
      m' ((c.tc : Thread Cert.VectorsRefIdeal.nD Cert.VectorsRefIdeal.τ).loc Cert.VectorsRefIdeal.main_arg0) = m ((c.tc : Thread Cert.VectorsIdeal.nD Cert.VectorsIdeal.τ).loc Cert.VectorsIdeal.main_arg0)
      ∧ m' ((c.tc : Thread Cert.VectorsRefIdeal.nD Cert.VectorsRefIdeal.τ).loc Cert.VectorsRefIdeal.main_arg1) = m ((c.tc : Thread Cert.VectorsIdeal.nD Cert.VectorsIdeal.τ).loc Cert.VectorsIdeal.main_arg1)
      ∧ m' ((c.tc : Thread Cert.VectorsRefIdeal.nD Cert.VectorsRefIdeal.τ).loc Cert.VectorsRefIdeal.main_arg2) = m ((c.tc : Thread Cert.VectorsIdeal.nD Cert.VectorsIdeal.τ).loc Cert.VectorsIdeal.main_arg2)
      ∧ m' ((c.tc : Thread Cert.VectorsRefIdeal.nD Cert.VectorsRefIdeal.τ).loc Cert.VectorsRefIdeal.main_arg3) = m ((c.tc : Thread Cert.VectorsIdeal.nD Cert.VectorsIdeal.τ).loc Cert.VectorsIdeal.main_arg3)) →
    ∃ (v0 : (c : Dev Cert.VectorsIdeal.nD) → Buf (Elt Ideal) ((c.tc : Thread Cert.VectorsIdeal.nD Cert.VectorsIdeal.τ).loc Cert.VectorsIdeal.main_v0_0)) (v1 : (c : Dev Cert.VectorsIdeal.nD) → Buf (Elt Ideal) ((c.tc : Thread Cert.VectorsIdeal.nD Cert.VectorsIdeal.τ).loc Cert.VectorsIdeal.main_v0_1)) (v2 : (c : Dev Cert.VectorsIdeal.nD) → Buf (Elt Ideal) ((c.tc : Thread Cert.VectorsIdeal.nD Cert.VectorsIdeal.τ).loc Cert.VectorsIdeal.main_v0_2)) (v3 : (c : Dev Cert.VectorsIdeal.nD) → Buf (Elt Ideal) ((c.tc : Thread Cert.VectorsIdeal.nD Cert.VectorsIdeal.τ).loc Cert.VectorsIdeal.main_v0_3)),
      θ_run (Cert.VectorsIdeal.defs (F := Ideal)) (onTc (τ := Cert.VectorsIdeal.τ) (Cert.VectorsIdeal.main (F := Ideal))) ⟨m, fun _ => 0, g⟩ (fun r => ∀ c : Dev Cert.VectorsIdeal.nD,
          r.2.mem ((c.tc : Thread Cert.VectorsIdeal.nD Cert.VectorsIdeal.τ).loc Cert.VectorsIdeal.main_v0_0) = v0 c
          ∧ r.2.mem ((c.tc : Thread Cert.VectorsIdeal.nD Cert.VectorsIdeal.τ).loc Cert.VectorsIdeal.main_v0_1) = v1 c
          ∧ r.2.mem ((c.tc : Thread Cert.VectorsIdeal.nD Cert.VectorsIdeal.τ).loc Cert.VectorsIdeal.main_v0_2) = v2 c
          ∧ r.2.mem ((c.tc : Thread Cert.VectorsIdeal.nD Cert.VectorsIdeal.τ).loc Cert.VectorsIdeal.main_v0_3) = v3 c
          ∧ r.2.mem ((c.tc : Thread Cert.VectorsIdeal.nD Cert.VectorsIdeal.τ).loc Cert.VectorsIdeal.main_arg0) = m ((c.tc : Thread Cert.VectorsIdeal.nD Cert.VectorsIdeal.τ).loc Cert.VectorsIdeal.main_arg0)
          ∧ r.2.mem ((c.tc : Thread Cert.VectorsIdeal.nD Cert.VectorsIdeal.τ).loc Cert.VectorsIdeal.main_arg1) = m ((c.tc : Thread Cert.VectorsIdeal.nD Cert.VectorsIdeal.τ).loc Cert.VectorsIdeal.main_arg1)
          ∧ r.2.mem ((c.tc : Thread Cert.VectorsIdeal.nD Cert.VectorsIdeal.τ).loc Cert.VectorsIdeal.main_arg2) = m ((c.tc : Thread Cert.VectorsIdeal.nD Cert.VectorsIdeal.τ).loc Cert.VectorsIdeal.main_arg2)
          ∧ r.2.mem ((c.tc : Thread Cert.VectorsIdeal.nD Cert.VectorsIdeal.τ).loc Cert.VectorsIdeal.main_arg3) = m ((c.tc : Thread Cert.VectorsIdeal.nD Cert.VectorsIdeal.τ).loc Cert.VectorsIdeal.main_arg3))
      ∧ θ_run (Cert.VectorsRefIdeal.defs (F := Ideal)) (onTc (τ := Cert.VectorsRefIdeal.τ) (Cert.VectorsRefIdeal.main (F := Ideal))) ⟨m', fun _ => 0, g'⟩ (fun r => ∀ c : Dev Cert.VectorsRefIdeal.nD,
          r.2.mem ((c.tc : Thread Cert.VectorsRefIdeal.nD Cert.VectorsRefIdeal.τ).loc Cert.VectorsRefIdeal.main_v0) = v0 c
          ∧ r.2.mem ((c.tc : Thread Cert.VectorsRefIdeal.nD Cert.VectorsRefIdeal.τ).loc Cert.VectorsRefIdeal.main_v24) = v1 c
          ∧ r.2.mem ((c.tc : Thread Cert.VectorsRefIdeal.nD Cert.VectorsRefIdeal.τ).loc Cert.VectorsRefIdeal.main_v5) = v2 c
          ∧ r.2.mem ((c.tc : Thread Cert.VectorsRefIdeal.nD Cert.VectorsRefIdeal.τ).loc Cert.VectorsRefIdeal.main_v11) = v3 c
          ∧ r.2.mem ((c.tc : Thread Cert.VectorsRefIdeal.nD Cert.VectorsRefIdeal.τ).loc Cert.VectorsRefIdeal.main_arg0) = m' ((c.tc : Thread Cert.VectorsRefIdeal.nD Cert.VectorsRefIdeal.τ).loc Cert.VectorsRefIdeal.main_arg0)
          ∧ r.2.mem ((c.tc : Thread Cert.VectorsRefIdeal.nD Cert.VectorsRefIdeal.τ).loc Cert.VectorsRefIdeal.main_arg1) = m' ((c.tc : Thread Cert.VectorsRefIdeal.nD Cert.VectorsRefIdeal.τ).loc Cert.VectorsRefIdeal.main_arg1)
          ∧ r.2.mem ((c.tc : Thread Cert.VectorsRefIdeal.nD Cert.VectorsRefIdeal.τ).loc Cert.VectorsRefIdeal.main_arg2) = m' ((c.tc : Thread Cert.VectorsRefIdeal.nD Cert.VectorsRefIdeal.τ).loc Cert.VectorsRefIdeal.main_arg2)
          ∧ r.2.mem ((c.tc : Thread Cert.VectorsRefIdeal.nD Cert.VectorsRefIdeal.τ).loc Cert.VectorsRefIdeal.main_arg3) = m' ((c.tc : Thread Cert.VectorsRefIdeal.nD Cert.VectorsRefIdeal.τ).loc Cert.VectorsRefIdeal.main_arg3))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)
      ∧ m' ((c.tc : Thread Cert.InXRefIdeal.nD Cert.InXRefIdeal.τ).loc Cert.InXRefIdeal.main_arg3) = m ((c.tc : Thread Cert.InXIdeal.nD Cert.InXIdeal.τ).loc Cert.InXIdeal.main_arg3)
      ∧ m' ((c.tc : Thread Cert.InXRefIdeal.nD Cert.InXRefIdeal.τ).loc Cert.InXRefIdeal.main_arg4) = m ((c.tc : Thread Cert.InXIdeal.nD Cert.InXIdeal.τ).loc Cert.InXIdeal.main_arg4)
      ∧ m' ((c.tc : Thread Cert.InXRefIdeal.nD Cert.InXRefIdeal.τ).loc Cert.InXRefIdeal.main_arg5) = m ((c.tc : Thread Cert.InXIdeal.nD Cert.InXIdeal.τ).loc Cert.InXIdeal.main_arg5)
      ∧ m' ((c.tc : Thread Cert.InXRefIdeal.nD Cert.InXRefIdeal.τ).loc Cert.InXRefIdeal.main_arg6) = m ((c.tc : Thread Cert.InXIdeal.nD Cert.InXIdeal.τ).loc Cert.InXIdeal.main_arg6)
      ∧ m' ((c.tc : Thread Cert.InXRefIdeal.nD Cert.InXRefIdeal.τ).loc Cert.InXRefIdeal.main_arg7) = m ((c.tc : Thread Cert.InXIdeal.nD Cert.InXIdeal.τ).loc Cert.InXIdeal.main_arg7)) →
    ∃ (v0 : (c : Dev Cert.InXIdeal.nD) → Buf (Elt Ideal) ((c.tc : Thread Cert.InXIdeal.nD Cert.InXIdeal.τ).loc Cert.InXIdeal.main_v0_0)) (v1 : (c : Dev Cert.InXIdeal.nD) → Buf (Elt Ideal) ((c.tc : Thread Cert.InXIdeal.nD Cert.InXIdeal.τ).loc Cert.InXIdeal.main_v0_1)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0_0) = v0 c
          ∧ r.2.mem ((c.tc : Thread Cert.InXIdeal.nD Cert.InXIdeal.τ).loc Cert.InXIdeal.main_v0_1) = v1 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2)
          ∧ r.2.mem ((c.tc : Thread Cert.InXIdeal.nD Cert.InXIdeal.τ).loc Cert.InXIdeal.main_arg3) = m ((c.tc : Thread Cert.InXIdeal.nD Cert.InXIdeal.τ).loc Cert.InXIdeal.main_arg3)
          ∧ r.2.mem ((c.tc : Thread Cert.InXIdeal.nD Cert.InXIdeal.τ).loc Cert.InXIdeal.main_arg4) = m ((c.tc : Thread Cert.InXIdeal.nD Cert.InXIdeal.τ).loc Cert.InXIdeal.main_arg4)
          ∧ r.2.mem ((c.tc : Thread Cert.InXIdeal.nD Cert.InXIdeal.τ).loc Cert.InXIdeal.main_arg5) = m ((c.tc : Thread Cert.InXIdeal.nD Cert.InXIdeal.τ).loc Cert.InXIdeal.main_arg5)
          ∧ r.2.mem ((c.tc : Thread Cert.InXIdeal.nD Cert.InXIdeal.τ).loc Cert.InXIdeal.main_arg6) = m ((c.tc : Thread Cert.InXIdeal.nD Cert.InXIdeal.τ).loc Cert.InXIdeal.main_arg6)
          ∧ r.2.mem ((c.tc : Thread Cert.InXIdeal.nD Cert.InXIdeal.τ).loc Cert.InXIdeal.main_arg7) = m ((c.tc : Thread Cert.InXIdeal.nD Cert.InXIdeal.τ).loc Cert.InXIdeal.main_arg7))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v39) = v0 c
          ∧ r.2.mem ((c.tc : Thread Cert.InXRefIdeal.nD Cert.InXRefIdeal.τ).loc Cert.InXRefIdeal.main_v22) = v1 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2)
          ∧ r.2.mem ((c.tc : Thread Cert.InXRefIdeal.nD Cert.InXRefIdeal.τ).loc Cert.InXRefIdeal.main_arg3) = m' ((c.tc : Thread Cert.InXRefIdeal.nD Cert.InXRefIdeal.τ).loc Cert.InXRefIdeal.main_arg3)
          ∧ r.2.mem ((c.tc : Thread Cert.InXRefIdeal.nD Cert.InXRefIdeal.τ).loc Cert.InXRefIdeal.main_arg4) = m' ((c.tc : Thread Cert.InXRefIdeal.nD Cert.InXRefIdeal.τ).loc Cert.InXRefIdeal.main_arg4)
          ∧ r.2.mem ((c.tc : Thread Cert.InXRefIdeal.nD Cert.InXRefIdeal.τ).loc Cert.InXRefIdeal.main_arg5) = m' ((c.tc : Thread Cert.InXRefIdeal.nD Cert.InXRefIdeal.τ).loc Cert.InXRefIdeal.main_arg5)
          ∧ r.2.mem ((c.tc : Thread Cert.InXRefIdeal.nD Cert.InXRefIdeal.τ).loc Cert.InXRefIdeal.main_arg6) = m' ((c.tc : Thread Cert.InXRefIdeal.nD Cert.InXRefIdeal.τ).loc Cert.InXRefIdeal.main_arg6)
          ∧ r.2.mem ((c.tc : Thread Cert.InXRefIdeal.nD Cert.InXRefIdeal.τ).loc Cert.InXRefIdeal.main_arg7) = m' ((c.tc : Thread Cert.InXRefIdeal.nD Cert.InXRefIdeal.τ).loc Cert.InXRefIdeal.main_arg7))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)) →
    ∃ (v0 : (c : Dev Cert.InIdeal.nD) → Buf (Elt Ideal) ((c.tc : Thread Cert.InIdeal.nD Cert.InIdeal.τ).loc Cert.InIdeal.main_v0_0)) (v1 : (c : Dev Cert.InIdeal.nD) → Buf (Elt Ideal) ((c.tc : Thread Cert.InIdeal.nD Cert.InIdeal.τ).loc Cert.InIdeal.main_v0_1)) (v2 : (c : Dev Cert.InIdeal.nD) → Buf (Elt Ideal) ((c.tc : Thread Cert.InIdeal.nD Cert.InIdeal.τ).loc Cert.InIdeal.main_v0_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0_0) = v0 c
          ∧ r.2.mem ((c.tc : Thread Cert.InIdeal.nD Cert.InIdeal.τ).loc Cert.InIdeal.main_v0_1) = v1 c
          ∧ r.2.mem ((c.tc : Thread Cert.InIdeal.nD Cert.InIdeal.τ).loc Cert.InIdeal.main_v0_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v15) = v0 c
          ∧ r.2.mem ((c.tc : Thread Cert.InRefIdeal.nD Cert.InRefIdeal.τ).loc Cert.InRefIdeal.main_v16) = v1 c
          ∧ r.2.mem ((c.tc : Thread Cert.InRefIdeal.nD Cert.InRefIdeal.τ).loc Cert.InRefIdeal.main_v17) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3))

def preserves_GQkv_GQkvIdeal : Prop :=
  True

def algebraic_GQkvIdeal_GQkvRefIdeal [hGQkvIdeal : Cert.GQkvIdeal.Facts] [hGQkvRefIdeal : Cert.GQkvRefIdeal.Facts] : Prop :=
  ∀ (m : (ℓ : Loc Cert.GQkvIdeal.nD Cert.GQkvIdeal.τ Cert.GQkvIdeal.sig) → Buf (Elt Ideal) ℓ) (g : Dev Cert.GQkvIdeal.nD → PrngReg)
    (m' : (ℓ : Loc Cert.GQkvRefIdeal.nD Cert.GQkvRefIdeal.τ Cert.GQkvRefIdeal.sig) → Buf (Elt Ideal) ℓ) (g' : Dev Cert.GQkvRefIdeal.nD → PrngReg), Pre_GQkvIdeal m →
    (∀ c : Dev Cert.GQkvIdeal.nD,
      m' ((c.tc : Thread Cert.GQkvRefIdeal.nD Cert.GQkvRefIdeal.τ).loc Cert.GQkvRefIdeal.main_arg0) = m ((c.tc : Thread Cert.GQkvIdeal.nD Cert.GQkvIdeal.τ).loc Cert.GQkvIdeal.main_arg0)
      ∧ m' ((c.tc : Thread Cert.GQkvRefIdeal.nD Cert.GQkvRefIdeal.τ).loc Cert.GQkvRefIdeal.main_arg1) = m ((c.tc : Thread Cert.GQkvIdeal.nD Cert.GQkvIdeal.τ).loc Cert.GQkvIdeal.main_arg1)) →
    ∃ (v0 : (c : Dev Cert.GQkvIdeal.nD) → Buf (Elt Ideal) ((c.tc : Thread Cert.GQkvIdeal.nD Cert.GQkvIdeal.τ).loc Cert.GQkvIdeal.main_v0)),
      θ_run (Cert.GQkvIdeal.defs (F := Ideal)) (onTc (τ := Cert.GQkvIdeal.τ) (Cert.GQkvIdeal.main (F := Ideal))) ⟨m, fun _ => 0, g⟩ (fun r => ∀ c : Dev Cert.GQkvIdeal.nD,
          r.2.mem ((c.tc : Thread Cert.GQkvIdeal.nD Cert.GQkvIdeal.τ).loc Cert.GQkvIdeal.main_v0) = v0 c
          ∧ r.2.mem ((c.tc : Thread Cert.GQkvIdeal.nD Cert.GQkvIdeal.τ).loc Cert.GQkvIdeal.main_arg0) = m ((c.tc : Thread Cert.GQkvIdeal.nD Cert.GQkvIdeal.τ).loc Cert.GQkvIdeal.main_arg0)
          ∧ r.2.mem ((c.tc : Thread Cert.GQkvIdeal.nD Cert.GQkvIdeal.τ).loc Cert.GQkvIdeal.main_arg1) = m ((c.tc : Thread Cert.GQkvIdeal.nD Cert.GQkvIdeal.τ).loc Cert.GQkvIdeal.main_arg1))
      ∧ θ_run (Cert.GQkvRefIdeal.defs (F := Ideal)) (onTc (τ := Cert.GQkvRefIdeal.τ) (Cert.GQkvRefIdeal.main (F := Ideal))) ⟨m', fun _ => 0, g'⟩ (fun r => ∀ c : Dev Cert.GQkvRefIdeal.nD,
          r.2.mem ((c.tc : Thread Cert.GQkvRefIdeal.nD Cert.GQkvRefIdeal.τ).loc Cert.GQkvRefIdeal.main_v4) = v0 c
          ∧ r.2.mem ((c.tc : Thread Cert.GQkvRefIdeal.nD Cert.GQkvRefIdeal.τ).loc Cert.GQkvRefIdeal.main_arg0) = m' ((c.tc : Thread Cert.GQkvRefIdeal.nD Cert.GQkvRefIdeal.τ).loc Cert.GQkvRefIdeal.main_arg0)
          ∧ r.2.mem ((c.tc : Thread Cert.GQkvRefIdeal.nD Cert.GQkvRefIdeal.τ).loc Cert.GQkvRefIdeal.main_arg1) = m' ((c.tc : Thread Cert.GQkvRefIdeal.nD Cert.GQkvRefIdeal.τ).loc Cert.GQkvRefIdeal.main_arg1))

def preserves_GRet_GRetIdeal : Prop :=
  True

def algebraic_GRetIdeal_GRetRefIdeal [hGRetIdeal : Cert.GRetIdeal.Facts] [hGRetRefIdeal : Cert.GRetRefIdeal.Facts] : Prop :=
  ∀ (m : (ℓ : Loc Cert.GRetIdeal.nD Cert.GRetIdeal.τ Cert.GRetIdeal.sig) → Buf (Elt Ideal) ℓ) (g : Dev Cert.GRetIdeal.nD → PrngReg)
    (m' : (ℓ : Loc Cert.GRetRefIdeal.nD Cert.GRetRefIdeal.τ Cert.GRetRefIdeal.sig) → Buf (Elt Ideal) ℓ) (g' : Dev Cert.GRetRefIdeal.nD → PrngReg), Pre_GRetIdeal m →
    (∀ c : Dev Cert.GRetIdeal.nD,
      m' ((c.tc : Thread Cert.GRetRefIdeal.nD Cert.GRetRefIdeal.τ).loc Cert.GRetRefIdeal.main_arg0) = m ((c.tc : Thread Cert.GRetIdeal.nD Cert.GRetIdeal.τ).loc Cert.GRetIdeal.main_arg0)
      ∧ m' ((c.tc : Thread Cert.GRetRefIdeal.nD Cert.GRetRefIdeal.τ).loc Cert.GRetRefIdeal.main_arg1) = m ((c.tc : Thread Cert.GRetIdeal.nD Cert.GRetIdeal.τ).loc Cert.GRetIdeal.main_arg1)) →
    ∃ (v0 : (c : Dev Cert.GRetIdeal.nD) → Buf (Elt Ideal) ((c.tc : Thread Cert.GRetIdeal.nD Cert.GRetIdeal.τ).loc Cert.GRetIdeal.main_v0)),
      θ_run (Cert.GRetIdeal.defs (F := Ideal)) (onTc (τ := Cert.GRetIdeal.τ) (Cert.GRetIdeal.main (F := Ideal))) ⟨m, fun _ => 0, g⟩ (fun r => ∀ c : Dev Cert.GRetIdeal.nD,
          r.2.mem ((c.tc : Thread Cert.GRetIdeal.nD Cert.GRetIdeal.τ).loc Cert.GRetIdeal.main_v0) = v0 c
          ∧ r.2.mem ((c.tc : Thread Cert.GRetIdeal.nD Cert.GRetIdeal.τ).loc Cert.GRetIdeal.main_arg0) = m ((c.tc : Thread Cert.GRetIdeal.nD Cert.GRetIdeal.τ).loc Cert.GRetIdeal.main_arg0)
          ∧ r.2.mem ((c.tc : Thread Cert.GRetIdeal.nD Cert.GRetIdeal.τ).loc Cert.GRetIdeal.main_arg1) = m ((c.tc : Thread Cert.GRetIdeal.nD Cert.GRetIdeal.τ).loc Cert.GRetIdeal.main_arg1))
      ∧ θ_run (Cert.GRetRefIdeal.defs (F := Ideal)) (onTc (τ := Cert.GRetRefIdeal.τ) (Cert.GRetRefIdeal.main (F := Ideal))) ⟨m', fun _ => 0, g'⟩ (fun r => ∀ c : Dev Cert.GRetRefIdeal.nD,
          r.2.mem ((c.tc : Thread Cert.GRetRefIdeal.nD Cert.GRetRefIdeal.τ).loc Cert.GRetRefIdeal.main_v4) = v0 c
          ∧ r.2.mem ((c.tc : Thread Cert.GRetRefIdeal.nD Cert.GRetRefIdeal.τ).loc Cert.GRetRefIdeal.main_arg0) = m' ((c.tc : Thread Cert.GRetRefIdeal.nD Cert.GRetRefIdeal.τ).loc Cert.GRetRefIdeal.main_arg0)
          ∧ r.2.mem ((c.tc : Thread Cert.GRetRefIdeal.nD Cert.GRetRefIdeal.τ).loc Cert.GRetRefIdeal.main_arg1) = m' ((c.tc : Thread Cert.GRetRefIdeal.nD Cert.GRetRefIdeal.τ).loc Cert.GRetRefIdeal.main_arg1))

def preserves_GRwkv_GRwkvIdeal : Prop :=
  True

def algebraic_GRwkvIdeal_GRwkvRefIdeal [hGRwkvIdeal : Cert.GRwkvIdeal.Facts] [hGRwkvRefIdeal : Cert.GRwkvRefIdeal.Facts] : Prop :=
  ∀ (m : (ℓ : Loc Cert.GRwkvIdeal.nD Cert.GRwkvIdeal.τ Cert.GRwkvIdeal.sig) → Buf (Elt Ideal) ℓ) (g : Dev Cert.GRwkvIdeal.nD → PrngReg)
    (m' : (ℓ : Loc Cert.GRwkvRefIdeal.nD Cert.GRwkvRefIdeal.τ Cert.GRwkvRefIdeal.sig) → Buf (Elt Ideal) ℓ) (g' : Dev Cert.GRwkvRefIdeal.nD → PrngReg), Pre_GRwkvIdeal m →
    (∀ c : Dev Cert.GRwkvIdeal.nD,
      m' ((c.tc : Thread Cert.GRwkvRefIdeal.nD Cert.GRwkvRefIdeal.τ).loc Cert.GRwkvRefIdeal.main_arg0) = m ((c.tc : Thread Cert.GRwkvIdeal.nD Cert.GRwkvIdeal.τ).loc Cert.GRwkvIdeal.main_arg0)
      ∧ m' ((c.tc : Thread Cert.GRwkvRefIdeal.nD Cert.GRwkvRefIdeal.τ).loc Cert.GRwkvRefIdeal.main_arg1) = m ((c.tc : Thread Cert.GRwkvIdeal.nD Cert.GRwkvIdeal.τ).loc Cert.GRwkvIdeal.main_arg1)) →
    ∃ (v0 : (c : Dev Cert.GRwkvIdeal.nD) → Buf (Elt Ideal) ((c.tc : Thread Cert.GRwkvIdeal.nD Cert.GRwkvIdeal.τ).loc Cert.GRwkvIdeal.main_v0)),
      θ_run (Cert.GRwkvIdeal.defs (F := Ideal)) (onTc (τ := Cert.GRwkvIdeal.τ) (Cert.GRwkvIdeal.main (F := Ideal))) ⟨m, fun _ => 0, g⟩ (fun r => ∀ c : Dev Cert.GRwkvIdeal.nD,
          r.2.mem ((c.tc : Thread Cert.GRwkvIdeal.nD Cert.GRwkvIdeal.τ).loc Cert.GRwkvIdeal.main_v0) = v0 c
          ∧ r.2.mem ((c.tc : Thread Cert.GRwkvIdeal.nD Cert.GRwkvIdeal.τ).loc Cert.GRwkvIdeal.main_arg0) = m ((c.tc : Thread Cert.GRwkvIdeal.nD Cert.GRwkvIdeal.τ).loc Cert.GRwkvIdeal.main_arg0)
          ∧ r.2.mem ((c.tc : Thread Cert.GRwkvIdeal.nD Cert.GRwkvIdeal.τ).loc Cert.GRwkvIdeal.main_arg1) = m ((c.tc : Thread Cert.GRwkvIdeal.nD Cert.GRwkvIdeal.τ).loc Cert.GRwkvIdeal.main_arg1))
      ∧ θ_run (Cert.GRwkvRefIdeal.defs (F := Ideal)) (onTc (τ := Cert.GRwkvRefIdeal.τ) (Cert.GRwkvRefIdeal.main (F := Ideal))) ⟨m', fun _ => 0, g'⟩ (fun r => ∀ c : Dev Cert.GRwkvRefIdeal.nD,
          r.2.mem ((c.tc : Thread Cert.GRwkvRefIdeal.nD Cert.GRwkvRefIdeal.τ).loc Cert.GRwkvRefIdeal.main_v4) = v0 c
          ∧ r.2.mem ((c.tc : Thread Cert.GRwkvRefIdeal.nD Cert.GRwkvRefIdeal.τ).loc Cert.GRwkvRefIdeal.main_arg0) = m' ((c.tc : Thread Cert.GRwkvRefIdeal.nD Cert.GRwkvRefIdeal.τ).loc Cert.GRwkvRefIdeal.main_arg0)
          ∧ r.2.mem ((c.tc : Thread Cert.GRwkvRefIdeal.nD Cert.GRwkvRefIdeal.τ).loc Cert.GRwkvRefIdeal.main_arg1) = m' ((c.tc : Thread Cert.GRwkvRefIdeal.nD Cert.GRwkvRefIdeal.τ).loc Cert.GRwkvRefIdeal.main_arg1))

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)) (v2 : (c : Dev Cert.PrepIdeal.nD) → Buf (Elt Ideal) ((c.tc : Thread Cert.PrepIdeal.nD Cert.PrepIdeal.τ).loc Cert.PrepIdeal.main_v4_2)) (v3 : (c : Dev Cert.PrepIdeal.nD) → Buf (Elt Ideal) ((c.tc : Thread Cert.PrepIdeal.nD Cert.PrepIdeal.τ).loc Cert.PrepIdeal.main_v4_3)) (v4 : (c : Dev Cert.PrepIdeal.nD) → Buf (Elt Ideal) ((c.tc : Thread Cert.PrepIdeal.nD Cert.PrepIdeal.τ).loc Cert.PrepIdeal.main_v4_4)) (v5 : (c : Dev Cert.PrepIdeal.nD) → Buf (Elt Ideal) ((c.tc : Thread Cert.PrepIdeal.nD Cert.PrepIdeal.τ).loc Cert.PrepIdeal.main_v4_5)) (v6 : (c : Dev Cert.PrepIdeal.nD) → Buf (Elt Ideal) ((c.tc : Thread Cert.PrepIdeal.nD Cert.PrepIdeal.τ).loc Cert.PrepIdeal.main_v4_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_v4_2) = v2 c
          ∧ r.2.mem ((c.tc : Thread Cert.PrepIdeal.nD Cert.PrepIdeal.τ).loc Cert.PrepIdeal.main_v4_3) = v3 c
          ∧ r.2.mem ((c.tc : Thread Cert.PrepIdeal.nD Cert.PrepIdeal.τ).loc Cert.PrepIdeal.main_v4_4) = v4 c
          ∧ r.2.mem ((c.tc : Thread Cert.PrepIdeal.nD Cert.PrepIdeal.τ).loc Cert.PrepIdeal.main_v4_5) = v5 c
          ∧ r.2.mem ((c.tc : Thread Cert.PrepIdeal.nD Cert.PrepIdeal.τ).loc Cert.PrepIdeal.main_v4_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v6) = v0 c
          ∧ r.2.mem ((c.tc : Thread Cert.PrepRefIdeal.nD Cert.PrepRefIdeal.τ).loc Cert.PrepRefIdeal.main_v23) = v1 c
          ∧ r.2.mem ((c.tc : Thread Cert.PrepRefIdeal.nD Cert.PrepRefIdeal.τ).loc Cert.PrepRefIdeal.main_v50) = v2 c
          ∧ r.2.mem ((c.tc : Thread Cert.PrepRefIdeal.nD Cert.PrepRefIdeal.τ).loc Cert.PrepRefIdeal.main_v8) = v3 c
          ∧ r.2.mem ((c.tc : Thread Cert.PrepRefIdeal.nD Cert.PrepRefIdeal.τ).loc Cert.PrepRefIdeal.main_v51) = v4 c
          ∧ r.2.mem ((c.tc : Thread Cert.PrepRefIdeal.nD Cert.PrepRefIdeal.τ).loc Cert.PrepRefIdeal.main_v32) = v5 c
          ∧ r.2.mem ((c.tc : Thread Cert.PrepRefIdeal.nD Cert.PrepRefIdeal.τ).loc Cert.PrepRefIdeal.main_v9) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7))

def Claim : Prop :=
  ∃ (hKernel : Cert.Kernel.Facts) (hKernelIdeal : Cert.KernelIdeal.Facts) (hReferenceIdeal : Cert.ReferenceIdeal.Facts) (hReference : Cert.Reference.Facts) (hWIn : Cert.WIn.Facts) (hWInIdeal : Cert.WInIdeal.Facts) (hWInRefIdeal : Cert.WInRefIdeal.Facts) (hWOut : Cert.WOut.Facts) (hWOutIdeal : Cert.WOutIdeal.Facts) (hWOutRefIdeal : Cert.WOutRefIdeal.Facts) (hWLora : Cert.WLora.Facts) (hWLoraIdeal : Cert.WLoraIdeal.Facts) (hWLoraRefIdeal : Cert.WLoraRefIdeal.Facts) (hALora : Cert.ALora.Facts) (hALoraIdeal : Cert.ALoraIdeal.Facts) (hALoraRefIdeal : Cert.ALoraRefIdeal.Facts) (hVectors : Cert.Vectors.Facts) (hVectorsIdeal : Cert.VectorsIdeal.Facts) (hVectorsRefIdeal : Cert.VectorsRefIdeal.Facts) (hInX : Cert.InX.Facts) (hInXIdeal : Cert.InXIdeal.Facts) (hInXRefIdeal : Cert.InXRefIdeal.Facts) (hIn : Cert.In.Facts) (hInIdeal : Cert.InIdeal.Facts) (hInRefIdeal : Cert.InRefIdeal.Facts) (hGQkv : Cert.GQkv.Facts) (hGQkvIdeal : Cert.GQkvIdeal.Facts) (hGQkvRefIdeal : Cert.GQkvRefIdeal.Facts) (hGRet : Cert.GRet.Facts) (hGRetIdeal : Cert.GRetIdeal.Facts) (hGRetRefIdeal : Cert.GRetRefIdeal.Facts) (hGRwkv : Cert.GRwkv.Facts) (hGRwkvIdeal : Cert.GRwkvIdeal.Facts) (hGRwkvRefIdeal : Cert.GRwkvRefIdeal.Facts) (hPrepIdeal : Cert.PrepIdeal.Facts) (hPrepRefIdeal : Cert.PrepRefIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_WIn (hWIn := hWIn)
    ∧ quiescent_WInIdeal (hWInIdeal := hWInIdeal)
    ∧ quiescent_WInRefIdeal (hWInRefIdeal := hWInRefIdeal)
    ∧ quiescent_WOut (hWOut := hWOut)
    ∧ quiescent_WOutIdeal (hWOutIdeal := hWOutIdeal)
    ∧ quiescent_WOutRefIdeal (hWOutRefIdeal := hWOutRefIdeal)
    ∧ quiescent_WLora (hWLora := hWLora)
    ∧ quiescent_WLoraIdeal (hWLoraIdeal := hWLoraIdeal)
    ∧ quiescent_WLoraRefIdeal (hWLoraRefIdeal := hWLoraRefIdeal)
    ∧ quiescent_ALora (hALora := hALora)
    ∧ quiescent_ALoraIdeal (hALoraIdeal := hALoraIdeal)
    ∧ quiescent_ALoraRefIdeal (hALoraRefIdeal := hALoraRefIdeal)
    ∧ quiescent_Vectors (hVectors := hVectors)
    ∧ quiescent_VectorsIdeal (hVectorsIdeal := hVectorsIdeal)
    ∧ quiescent_VectorsRefIdeal (hVectorsRefIdeal := hVectorsRefIdeal)
    ∧ quiescent_InX (hInX := hInX)
    ∧ quiescent_InXIdeal (hInXIdeal := hInXIdeal)
    ∧ quiescent_InXRefIdeal (hInXRefIdeal := hInXRefIdeal)
    ∧ quiescent_In (hIn := hIn)
    ∧ quiescent_InIdeal (hInIdeal := hInIdeal)
    ∧ quiescent_InRefIdeal (hInRefIdeal := hInRefIdeal)
    ∧ quiescent_GQkv (hGQkv := hGQkv)
    ∧ quiescent_GQkvIdeal (hGQkvIdeal := hGQkvIdeal)
    ∧ quiescent_GQkvRefIdeal (hGQkvRefIdeal := hGQkvRefIdeal)
    ∧ quiescent_GRet (hGRet := hGRet)
    ∧ quiescent_GRetIdeal (hGRetIdeal := hGRetIdeal)
    ∧ quiescent_GRetRefIdeal (hGRetRefIdeal := hGRetRefIdeal)
    ∧ quiescent_GRwkv (hGRwkv := hGRwkv)
    ∧ quiescent_GRwkvIdeal (hGRwkvIdeal := hGRwkvIdeal)
    ∧ quiescent_GRwkvRefIdeal (hGRwkvRefIdeal := hGRwkvRefIdeal)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_WIn_WInIdeal
    ∧ algebraic_WInIdeal_WInRefIdeal (hWInIdeal := hWInIdeal) (hWInRefIdeal := hWInRefIdeal)
    ∧ preserves_WOut_WOutIdeal
    ∧ algebraic_WOutIdeal_WOutRefIdeal (hWOutIdeal := hWOutIdeal) (hWOutRefIdeal := hWOutRefIdeal)
    ∧ preserves_WLora_WLoraIdeal
    ∧ algebraic_WLoraIdeal_WLoraRefIdeal (hWLoraIdeal := hWLoraIdeal) (hWLoraRefIdeal := hWLoraRefIdeal)
    ∧ preserves_ALora_ALoraIdeal
    ∧ algebraic_ALoraIdeal_ALoraRefIdeal (hALoraIdeal := hALoraIdeal) (hALoraRefIdeal := hALoraRefIdeal)
    ∧ preserves_Vectors_VectorsIdeal
    ∧ algebraic_VectorsIdeal_VectorsRefIdeal (hVectorsIdeal := hVectorsIdeal) (hVectorsRefIdeal := hVectorsRefIdeal)
    ∧ preserves_InX_InXIdeal
    ∧ algebraic_InXIdeal_InXRefIdeal (hInXIdeal := hInXIdeal) (hInXRefIdeal := hInXRefIdeal)
    ∧ preserves_In_InIdeal
    ∧ algebraic_InIdeal_InRefIdeal (hInIdeal := hInIdeal) (hInRefIdeal := hInRefIdeal)
    ∧ preserves_GQkv_GQkvIdeal
    ∧ algebraic_GQkvIdeal_GQkvRefIdeal (hGQkvIdeal := hGQkvIdeal) (hGQkvRefIdeal := hGQkvRefIdeal)
    ∧ preserves_GRet_GRetIdeal
    ∧ algebraic_GRetIdeal_GRetRefIdeal (hGRetIdeal := hGRetIdeal) (hGRetRefIdeal := hGRetRefIdeal)
    ∧ preserves_GRwkv_GRwkvIdeal
    ∧ algebraic_GRwkvIdeal_GRwkvRefIdeal (hGRwkvIdeal := hGRwkvIdeal) (hGRwkvRefIdeal := hGRwkvRefIdeal)
    ∧ algebraic_PrepIdeal_PrepRefIdeal (hPrepIdeal := hPrepIdeal) (hPrepRefIdeal := hPrepRefIdeal)
-- ==== Kernel.lean ====
abbrev S8x1024x464 : Shape := ⟨3, ![8, 1024, 464]⟩
abbrev S8x128x1024 : Shape := ⟨3, ![8, 128, 1024]⟩
abbrev S8x64x64 : Shape := ⟨3, ![8, 64, 64]⟩
abbrev S8x72x128 : Shape := ⟨3, ![8, 72, 128]⟩
abbrev S5x7 : Shape := ⟨2, ![5, 7]⟩
abbrev S5 : Shape := ⟨1, ![5]⟩
abbrev S1 : Shape := ⟨1, ![1]⟩
abbrev S_ : Shape := ⟨0, ![]⟩
abbrev S1x1024x464 : Shape := ⟨3, ![1, 1024, 464]⟩
abbrev S1024x464 : Shape := ⟨2, ![1024, 464]⟩
abbrev S1x128x1024 : Shape := ⟨3, ![1, 128, 1024]⟩
abbrev S128x1024 : Shape := ⟨2, ![128, 1024]⟩
abbrev S1x64x64 : Shape := ⟨3, ![1, 64, 64]⟩
abbrev S64x64 : Shape := ⟨2, ![64, 64]⟩
abbrev S1x72x128 : Shape := ⟨3, ![1, 72, 128]⟩
abbrev S72x128 : Shape := ⟨2, ![72, 128]⟩
abbrev S1x1 : Shape := ⟨2, ![1, 1]⟩

abbrev nBuf : Space → Nat
  | .hbm => 10
  | .vmem => 0
  | .smem => 0
  | _ => 0

abbrev bufTy : (tb : Table) → Fin (tcTables nBuf tb) → BufTy
  | .hbm, ⟨0, _⟩ => ⟨S8x1024x464, .f32⟩
  | .hbm, ⟨1, _⟩ => ⟨S8x128x1024, .f32⟩
  | .hbm, ⟨2, _⟩ => ⟨S8x64x64, .f32⟩
  | .hbm, ⟨3, _⟩ => ⟨S8x64x64, .f32⟩
  | .hbm, ⟨4, _⟩ => ⟨S8x72x128, .f32⟩
  | .hbm, ⟨5, _⟩ => ⟨S8x1024x464, .f32⟩
  | .hbm, ⟨6, _⟩ => ⟨S8x128x1024, .f32⟩
  | .hbm, ⟨7, _⟩ => ⟨S8x64x64, .f32⟩
  | .hbm, ⟨8, _⟩ => ⟨S8x64x64, .f32⟩
  | .hbm, ⟨9, _⟩ => ⟨S8x72x128, .f32⟩
  | _, _ => ⟨S8x1024x464, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_10 : BitVec 32 := 0#32
  let c0_i32_11 : BitVec 32 := 0#32
  ![v12.toNat, 0, 0]
def k0_off3 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_15 : BitVec 32 := 0#32
  let c0_i32_16 : BitVec 32 := 0#32
  ![v12.toNat, 0, 0]
def k0_off4 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_24 : BitVec 32 := 0#32
  let c0_i32_25 : BitVec 32 := 0#32
  ![v12.toNat, 0, 0]
def k0_off5 (d0 : Dev nD) (c0_i32_28 : BitVec 32) (c0_i32_29 : BitVec 32) (c1_i32_30 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.xori v2 c0_i32_28
  let v46 : BitVec 32 := Scalar.muli c4_i32_31 v43
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.xori v5 c0_i32_29
  let v47 : BitVec 32 := Scalar.muli c2_i32_32 v44
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.xori v8 c1_i32_30
  let v49 : BitVec 32 := Scalar.addi v48 v45
  let c0_i32_73 : BitVec 32 := 0#32
  let c0_i32_74 : BitVec 32 := 0#32
  ![v49.toNat, 0, 0]
def k0_off5_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev1 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_67 : BitVec 32 := 4#32
  let v92 : BitVec 32 := Scalar.muli v43 c4_i32_67
  let v93 : BitVec 32 := Scalar.addi c0_i32_68 v92
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_69 : BitVec 32 := 2#32
  let v94 : BitVec 32 := Scalar.muli v44 c2_i32_69
  let v95 : BitVec 32 := Scalar.addi v93 v94
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_70 : BitVec 32 := 1#32
  let v96 : BitVec 32 := Scalar.muli v45 c1_i32_70
  let v97 : BitVec 32 := Scalar.addi v95 v96
  v97.toNat
def k0_off6 (d0 : Dev nD) (c0_i32_28 : BitVec 32) (c0_i32_29 : BitVec 32) (c1_i32_30 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.xori v2 c0_i32_28
  let v46 : BitVec 32 := Scalar.muli c4_i32_31 v43
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.xori v5 c0_i32_29
  let v47 : BitVec 32 := Scalar.muli c2_i32_32 v44
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.xori v8 c1_i32_30
  let v49 : BitVec 32 := Scalar.addi v48 v45
  let c0_i32_85 : BitVec 32 := 0#32
  let c0_i32_86 : BitVec 32 := 0#32
  ![v49.toNat, 0, 0]
def k0_off6_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev2 (d0 : Dev nD) : Nat :=
  let c0_i32_80 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_79 : BitVec 32 := 4#32
  let v106 : BitVec 32 := Scalar.muli v43 c4_i32_79
  let v107 : BitVec 32 := Scalar.addi c0_i32_80 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_81 : BitVec 32 := 2#32
  let v108 : BitVec 32 := Scalar.muli v44 c2_i32_81
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_82 : BitVec 32 := 1#32
  let v110 : BitVec 32 := Scalar.muli v45 c1_i32_82
  let v111 : BitVec 32 := Scalar.addi v109 v110
  v111.toNat
def k0_off7 (d0 : Dev nD) (c0_i32_28 : BitVec 32) (c0_i32_29 : BitVec 32) (c1_i32_30 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.xori v2 c0_i32_28
  let v46 : BitVec 32 := Scalar.muli c4_i32_31 v43
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.xori v5 c0_i32_29
  let v47 : BitVec 32 := Scalar.muli c2_i32_32 v44
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.xori v8 c1_i32_30
  let v49 : BitVec 32 := Scalar.addi v48 v45
  let c0_i32_97 : BitVec 32 := 0#32
  let c0_i32_98 : BitVec 32 := 0#32
  ![v49.toNat, 0, 0]
def k0_off7_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev3 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_91 : BitVec 32 := 4#32
  let v120 : BitVec 32 := Scalar.muli v43 c4_i32_91
  let v121 : BitVec 32 := Scalar.addi c0_i32_92 v120
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_93 : BitVec 32 := 2#32
  let v122 : BitVec 32 := Scalar.muli v44 c2_i32_93
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_94 : BitVec 32 := 1#32
  let v124 : BitVec 32 := Scalar.muli v45 c1_i32_94
  let v125 : BitVec 32 := Scalar.addi v123 v124
  v125.toNat
def k0_dev4 (d0 : Dev nD) : Nat :=
  let c0_i32_104 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_103 : BitVec 32 := 4#32
  let v134 : BitVec 32 := Scalar.muli v43 c4_i32_103
  let v135 : BitVec 32 := Scalar.addi c0_i32_104 v134
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_105 : BitVec 32 := 2#32
  let v136 : BitVec 32 := Scalar.muli v44 c2_i32_105
  let v137 : BitVec 32 := Scalar.addi v135 v136
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_106 : BitVec 32 := 1#32
  let v138 : BitVec 32 := Scalar.muli v45 c1_i32_106
  let v139 : BitVec 32 := Scalar.addi v137 v138
  v139.toNat
def k0_off8 (d0 : Dev nD) (c0_i32_28 : BitVec 32) (c0_i32_29 : BitVec 32) (c1_i32_30 : BitVec 32) : Fin 3 → Nat :=
  let c4_i32_31 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v43 : BitVec 32 := Scalar.xori v2 c0_i32_28
  let v46 : BitVec 32 := Scalar.muli c4_i32_31 v43
  let c2_i32_32 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v44 : BitVec 32 := Scalar.xori v5 c0_i32_29
  let v47 : BitVec 32 := Scalar.muli c2_i32_32 v44
  let v48 : BitVec 32 := Scalar.addi v46 v47
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v45 : BitVec 32 := Scalar.xori v8 c1_i32_30
  let v49 : BitVec 32 := Scalar.addi v48 v45
  let c0_i32_121 : BitVec 32 := 0#32
  let c0_i32_122 : BitVec 32 := 0#32
  ![v49.toNat, 0, 0]
def k0_off8_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
def k0_dev5 (d0 : Dev nD) : Nat :=
  let c0_i32_116 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_28 : BitVec 32 := 0#32
  let v43 : BitVec 32 := Scalar.xori v2 c0_i32_28
  let c4_i32_115 : BitVec 32 := 4#32
  let v148 : BitVec 32 := Scalar.muli v43 c4_i32_115
  let v149 : BitVec 32 := Scalar.addi c0_i32_116 v148
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_29 : BitVec 32 := 0#32
  let v44 : BitVec 32 := Scalar.xori v5 c0_i32_29
  let c2_i32_117 : BitVec 32 := 2#32
  let v150 : BitVec 32 := Scalar.muli v44 c2_i32_117
  let v151 : BitVec 32 := Scalar.addi v149 v150
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v45 : BitVec 32 := Scalar.xori v8 c1_i32_30
  let c1_i32_118 : BitVec 32 := 1#32
  let v152 : BitVec 32 := Scalar.muli v45 c1_i32_118
  let v153 : BitVec 32 := Scalar.addi v151 v152
  v153.toNat
def k0_dev6 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_127 : BitVec 32 := 4#32
  let v162 : BitVec 32 := Scalar.muli v50 c4_i32_127
  let v163 : BitVec 32 := Scalar.addi c0_i32_128 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_129 : BitVec 32 := 2#32
  let v164 : BitVec 32 := Scalar.muli v51 c2_i32_129
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_130 : BitVec 32 := 1#32
  let v166 : BitVec 32 := Scalar.muli v52 c1_i32_130
  let v167 : BitVec 32 := Scalar.addi v165 v166
  v167.toNat
def k0_dev7 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_139 : BitVec 32 := 4#32
  let v176 : BitVec 32 := Scalar.muli v50 c4_i32_139
  let v177 : BitVec 32 := Scalar.addi c0_i32_140 v176
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_141 : BitVec 32 := 2#32
  let v178 : BitVec 32 := Scalar.muli v51 c2_i32_141
  let v179 : BitVec 32 := Scalar.addi v177 v178
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_142 : BitVec 32 := 1#32
  let v180 : BitVec 32 := Scalar.muli v52 c1_i32_142
  let v181 : BitVec 32 := Scalar.addi v179 v180
  v181.toNat
def k0_dev8 (d0 : Dev nD) : Nat :=
  let c0_i32_152 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_151 : BitVec 32 := 4#32
  let v190 : BitVec 32 := Scalar.muli v50 c4_i32_151
  let v191 : BitVec 32 := Scalar.addi c0_i32_152 v190
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_153 : BitVec 32 := 2#32
  let v192 : BitVec 32 := Scalar.muli v51 c2_i32_153
  let v193 : BitVec 32 := Scalar.addi v191 v192
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_154 : BitVec 32 := 1#32
  let v194 : BitVec 32 := Scalar.muli v52 c1_i32_154
  let v195 : BitVec 32 := Scalar.addi v193 v194
  v195.toNat
def k0_dev9 (d0 : Dev nD) : Nat :=
  let c0_i32_164 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_163 : BitVec 32 := 4#32
  let v204 : BitVec 32 := Scalar.muli v50 c4_i32_163
  let v205 : BitVec 32 := Scalar.addi c0_i32_164 v204
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_165 : BitVec 32 := 2#32
  let v206 : BitVec 32 := Scalar.muli v51 c2_i32_165
  let v207 : BitVec 32 := Scalar.addi v205 v206
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_166 : BitVec 32 := 1#32
  let v208 : BitVec 32 := Scalar.muli v52 c1_i32_166
  let v209 : BitVec 32 := Scalar.addi v207 v208
  v209.toNat
def k0_dev10 (d0 : Dev nD) : Nat :=
  let c0_i32_176 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_33 : BitVec 32 := 0#32
  let v50 : BitVec 32 := Scalar.xori v2 c0_i32_33
  let c4_i32_175 : BitVec 32 := 4#32
  let v218 : BitVec 32 := Scalar.muli v50 c4_i32_175
  let v219 : BitVec 32 := Scalar.addi c0_i32_176 v218
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_34 : BitVec 32 := 1#32
  let v51 : BitVec 32 := Scalar.xori v5 c1_i32_34
  let c2_i32_177 : BitVec 32 := 2#32
  let v220 : BitVec 32 := Scalar.muli v51 c2_i32_177
  let v221 : BitVec 32 := Scalar.addi v219 v220
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_35 : BitVec 32 := 0#32
  let v52 : BitVec 32 := Scalar.xori v8 c0_i32_35
  let c1_i32_178 : BitVec 32 := 1#32
  let v222 : BitVec 32 := Scalar.muli v52 c1_i32_178
  let v223 : BitVec 32 := Scalar.addi v221 v222
  v223.toNat
def k0_dev11 (d0 : Dev nD) : Nat :=
  let c0_i32_188 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_187 : BitVec 32 := 4#32
  let v232 : BitVec 32 := Scalar.muli v57 c4_i32_187
  let v233 : BitVec 32 := Scalar.addi c0_i32_188 v232
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_189 : BitVec 32 := 2#32
  let v234 : BitVec 32 := Scalar.muli v58 c2_i32_189
  let v235 : BitVec 32 := Scalar.addi v233 v234
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_190 : BitVec 32 := 1#32
  let v236 : BitVec 32 := Scalar.muli v59 c1_i32_190
  let v237 : BitVec 32 := Scalar.addi v235 v236
  v237.toNat
def k0_dev12 (d0 : Dev nD) : Nat :=
  let c0_i32_200 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_199 : BitVec 32 := 4#32
  let v246 : BitVec 32 := Scalar.muli v57 c4_i32_199
  let v247 : BitVec 32 := Scalar.addi c0_i32_200 v246
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_201 : BitVec 32 := 2#32
  let v248 : BitVec 32 := Scalar.muli v58 c2_i32_201
  let v249 : BitVec 32 := Scalar.addi v247 v248
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_202 : BitVec 32 := 1#32
  let v250 : BitVec 32 := Scalar.muli v59 c1_i32_202
  let v251 : BitVec 32 := Scalar.addi v249 v250
  v251.toNat
def k0_dev13 (d0 : Dev nD) : Nat :=
  let c0_i32_212 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_211 : BitVec 32 := 4#32
  let v260 : BitVec 32 := Scalar.muli v57 c4_i32_211
  let v261 : BitVec 32 := Scalar.addi c0_i32_212 v260
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_213 : BitVec 32 := 2#32
  let v262 : BitVec 32 := Scalar.muli v58 c2_i32_213
  let v263 : BitVec 32 := Scalar.addi v261 v262
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_214 : BitVec 32 := 1#32
  let v264 : BitVec 32 := Scalar.muli v59 c1_i32_214
  let v265 : BitVec 32 := Scalar.addi v263 v264
  v265.toNat
def k0_dev14 (d0 : Dev nD) : Nat :=
  let c0_i32_224 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_223 : BitVec 32 := 4#32
  let v274 : BitVec 32 := Scalar.muli v57 c4_i32_223
  let v275 : BitVec 32 := Scalar.addi c0_i32_224 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_225 : BitVec 32 := 2#32
  let v276 : BitVec 32 := Scalar.muli v58 c2_i32_225
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_226 : BitVec 32 := 1#32
  let v278 : BitVec 32 := Scalar.muli v59 c1_i32_226
  let v279 : BitVec 32 := Scalar.addi v277 v278
  v279.toNat
def k0_dev15 (d0 : Dev nD) : Nat :=
  let c0_i32_236 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_38 : BitVec 32 := 0#32
  let v57 : BitVec 32 := Scalar.xori v2 c0_i32_38
  let c4_i32_235 : BitVec 32 := 4#32
  let v288 : BitVec 32 := Scalar.muli v57 c4_i32_235
  let v289 : BitVec 32 := Scalar.addi c0_i32_236 v288
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_39 : BitVec 32 := 1#32
  let v58 : BitVec 32 := Scalar.xori v5 c1_i32_39
  let c2_i32_237 : BitVec 32 := 2#32
  let v290 : BitVec 32 := Scalar.muli v58 c2_i32_237
  let v291 : BitVec 32 := Scalar.addi v289 v290
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v59 : BitVec 32 := Scalar.xori v8 c1_i32_40
  let c1_i32_238 : BitVec 32 := 1#32
  let v292 : BitVec 32 := Scalar.muli v59 c1_i32_238
  let v293 : BitVec 32 := Scalar.addi v291 v292
  v293.toNat
def k0_dev16 (d0 : Dev nD) : Nat :=
  let c0_i32_248 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_247 : BitVec 32 := 4#32
  let v302 : BitVec 32 := Scalar.muli v64 c4_i32_247
  let v303 : BitVec 32 := Scalar.addi c0_i32_248 v302
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_249 : BitVec 32 := 2#32
  let v304 : BitVec 32 := Scalar.muli v65 c2_i32_249
  let v305 : BitVec 32 := Scalar.addi v303 v304
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_250 : BitVec 32 := 1#32
  let v306 : BitVec 32 := Scalar.muli v66 c1_i32_250
  let v307 : BitVec 32 := Scalar.addi v305 v306
  v307.toNat
def k0_dev17 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_259 : BitVec 32 := 4#32
  let v316 : BitVec 32 := Scalar.muli v64 c4_i32_259
  let v317 : BitVec 32 := Scalar.addi c0_i32_260 v316
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_261 : BitVec 32 := 2#32
  let v318 : BitVec 32 := Scalar.muli v65 c2_i32_261
  let v319 : BitVec 32 := Scalar.addi v317 v318
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_262 : BitVec 32 := 1#32
  let v320 : BitVec 32 := Scalar.muli v66 c1_i32_262
  let v321 : BitVec 32 := Scalar.addi v319 v320
  v321.toNat
def k0_dev18 (d0 : Dev nD) : Nat :=
  let c0_i32_272 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_271 : BitVec 32 := 4#32
  let v330 : BitVec 32 := Scalar.muli v64 c4_i32_271
  let v331 : BitVec 32 := Scalar.addi c0_i32_272 v330
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_273 : BitVec 32 := 2#32
  let v332 : BitVec 32 := Scalar.muli v65 c2_i32_273
  let v333 : BitVec 32 := Scalar.addi v331 v332
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_274 : BitVec 32 := 1#32
  let v334 : BitVec 32 := Scalar.muli v66 c1_i32_274
  let v335 : BitVec 32 := Scalar.addi v333 v334
  v335.toNat
def k0_dev19 (d0 : Dev nD) : Nat :=
  let c0_i32_284 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_283 : BitVec 32 := 4#32
  let v344 : BitVec 32 := Scalar.muli v64 c4_i32_283
  let v345 : BitVec 32 := Scalar.addi c0_i32_284 v344
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_285 : BitVec 32 := 2#32
  let v346 : BitVec 32 := Scalar.muli v65 c2_i32_285
  let v347 : BitVec 32 := Scalar.addi v345 v346
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_286 : BitVec 32 := 1#32
  let v348 : BitVec 32 := Scalar.muli v66 c1_i32_286
  let v349 : BitVec 32 := Scalar.addi v347 v348
  v349.toNat
def k0_dev20 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_43 : BitVec 32 := 1#32
  let v64 : BitVec 32 := Scalar.xori v2 c1_i32_43
  let c4_i32_295 : BitVec 32 := 4#32
  let v358 : BitVec 32 := Scalar.muli v64 c4_i32_295
  let v359 : BitVec 32 := Scalar.addi c0_i32_296 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_44 : BitVec 32 := 0#32
  let v65 : BitVec 32 := Scalar.xori v5 c0_i32_44
  let c2_i32_297 : BitVec 32 := 2#32
  let v360 : BitVec 32 := Scalar.muli v65 c2_i32_297
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_45 : BitVec 32 := 0#32
  let v66 : BitVec 32 := Scalar.xori v8 c0_i32_45
  let c1_i32_298 : BitVec 32 := 1#32
  let v362 : BitVec 32 := Scalar.muli v66 c1_i32_298
  let v363 : BitVec 32 := Scalar.addi v361 v362
  v363.toNat
def k0_dev21 (d0 : Dev nD) : Nat :=
  let c0_i32_308 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_307 : BitVec 32 := 4#32
  let v372 : BitVec 32 := Scalar.muli v71 c4_i32_307
  let v373 : BitVec 32 := Scalar.addi c0_i32_308 v372
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_309 : BitVec 32 := 2#32
  let v374 : BitVec 32 := Scalar.muli v72 c2_i32_309
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_310 : BitVec 32 := 1#32
  let v376 : BitVec 32 := Scalar.muli v73 c1_i32_310
  let v377 : BitVec 32 := Scalar.addi v375 v376
  v377.toNat
def k0_dev22 (d0 : Dev nD) : Nat :=
  let c0_i32_320 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_319 : BitVec 32 := 4#32
  let v386 : BitVec 32 := Scalar.muli v71 c4_i32_319
  let v387 : BitVec 32 := Scalar.addi c0_i32_320 v386
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_321 : BitVec 32 := 2#32
  let v388 : BitVec 32 := Scalar.muli v72 c2_i32_321
  let v389 : BitVec 32 := Scalar.addi v387 v388
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_322 : BitVec 32 := 1#32
  let v390 : BitVec 32 := Scalar.muli v73 c1_i32_322
  let v391 : BitVec 32 := Scalar.addi v389 v390
  v391.toNat
def k0_dev23 (d0 : Dev nD) : Nat :=
  let c0_i32_332 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_331 : BitVec 32 := 4#32
  let v400 : BitVec 32 := Scalar.muli v71 c4_i32_331
  let v401 : BitVec 32 := Scalar.addi c0_i32_332 v400
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_333 : BitVec 32 := 2#32
  let v402 : BitVec 32 := Scalar.muli v72 c2_i32_333
  let v403 : BitVec 32 := Scalar.addi v401 v402
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_334 : BitVec 32 := 1#32
  let v404 : BitVec 32 := Scalar.muli v73 c1_i32_334
  let v405 : BitVec 32 := Scalar.addi v403 v404
  v405.toNat
def k0_dev24 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_343 : BitVec 32 := 4#32
  let v414 : BitVec 32 := Scalar.muli v71 c4_i32_343
  let v415 : BitVec 32 := Scalar.addi c0_i32_344 v414
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_345 : BitVec 32 := 2#32
  let v416 : BitVec 32 := Scalar.muli v72 c2_i32_345
  let v417 : BitVec 32 := Scalar.addi v415 v416
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_346 : BitVec 32 := 1#32
  let v418 : BitVec 32 := Scalar.muli v73 c1_i32_346
  let v419 : BitVec 32 := Scalar.addi v417 v418
  v419.toNat
def k0_dev25 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_48 : BitVec 32 := 1#32
  let v71 : BitVec 32 := Scalar.xori v2 c1_i32_48
  let c4_i32_355 : BitVec 32 := 4#32
  let v428 : BitVec 32 := Scalar.muli v71 c4_i32_355
  let v429 : BitVec 32 := Scalar.addi c0_i32_356 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_49 : BitVec 32 := 0#32
  let v72 : BitVec 32 := Scalar.xori v5 c0_i32_49
  let c2_i32_357 : BitVec 32 := 2#32
  let v430 : BitVec 32 := Scalar.muli v72 c2_i32_357
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_50 : BitVec 32 := 1#32
  let v73 : BitVec 32 := Scalar.xori v8 c1_i32_50
  let c1_i32_358 : BitVec 32 := 1#32
  let v432 : BitVec 32 := Scalar.muli v73 c1_i32_358
  let v433 : BitVec 32 := Scalar.addi v431 v432
  v433.toNat
def k0_dev26 (d0 : Dev nD) : Nat :=
  let c0_i32_367 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_366 : BitVec 32 := 4#32
  let v442 : BitVec 32 := Scalar.muli v78 c4_i32_366
  let v443 : BitVec 32 := Scalar.addi c0_i32_367 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_368 : BitVec 32 := 2#32
  let v444 : BitVec 32 := Scalar.muli v79 c2_i32_368
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_369 : BitVec 32 := 1#32
  let v446 : BitVec 32 := Scalar.muli v80 c1_i32_369
  let v447 : BitVec 32 := Scalar.addi v445 v446
  v447.toNat
def k0_dev27 (d0 : Dev nD) : Nat :=
  let c0_i32_379 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_378 : BitVec 32 := 4#32
  let v456 : BitVec 32 := Scalar.muli v78 c4_i32_378
  let v457 : BitVec 32 := Scalar.addi c0_i32_379 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_380 : BitVec 32 := 2#32
  let v458 : BitVec 32 := Scalar.muli v79 c2_i32_380
  let v459 : BitVec 32 := Scalar.addi v457 v458
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_381 : BitVec 32 := 1#32
  let v460 : BitVec 32 := Scalar.muli v80 c1_i32_381
  let v461 : BitVec 32 := Scalar.addi v459 v460
  v461.toNat
def k0_dev28 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_390 : BitVec 32 := 4#32
  let v470 : BitVec 32 := Scalar.muli v78 c4_i32_390
  let v471 : BitVec 32 := Scalar.addi c0_i32_391 v470
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_392 : BitVec 32 := 2#32
  let v472 : BitVec 32 := Scalar.muli v79 c2_i32_392
  let v473 : BitVec 32 := Scalar.addi v471 v472
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_393 : BitVec 32 := 1#32
  let v474 : BitVec 32 := Scalar.muli v80 c1_i32_393
  let v475 : BitVec 32 := Scalar.addi v473 v474
  v475.toNat
def k0_dev29 (d0 : Dev nD) : Nat :=
  let c0_i32_403 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_402 : BitVec 32 := 4#32
  let v484 : BitVec 32 := Scalar.muli v78 c4_i32_402
  let v485 : BitVec 32 := Scalar.addi c0_i32_403 v484
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_404 : BitVec 32 := 2#32
  let v486 : BitVec 32 := Scalar.muli v79 c2_i32_404
  let v487 : BitVec 32 := Scalar.addi v485 v486
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_405 : BitVec 32 := 1#32
  let v488 : BitVec 32 := Scalar.muli v80 c1_i32_405
  let v489 : BitVec 32 := Scalar.addi v487 v488
  v489.toNat
def k0_dev30 (d0 : Dev nD) : Nat :=
  let c0_i32_415 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_53 : BitVec 32 := 1#32
  let v78 : BitVec 32 := Scalar.xori v2 c1_i32_53
  let c4_i32_414 : BitVec 32 := 4#32
  let v498 : BitVec 32 := Scalar.muli v78 c4_i32_414
  let v499 : BitVec 32 := Scalar.addi c0_i32_415 v498
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_54 : BitVec 32 := 1#32
  let v79 : BitVec 32 := Scalar.xori v5 c1_i32_54
  let c2_i32_416 : BitVec 32 := 2#32
  let v500 : BitVec 32 := Scalar.muli v79 c2_i32_416
  let v501 : BitVec 32 := Scalar.addi v499 v500
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_55 : BitVec 32 := 0#32
  let v80 : BitVec 32 := Scalar.xori v8 c0_i32_55
  let c1_i32_417 : BitVec 32 := 1#32
  let v502 : BitVec 32 := Scalar.muli v80 c1_i32_417
  let v503 : BitVec 32 := Scalar.addi v501 v502
  v503.toNat
def k0_dev31 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_425 : BitVec 32 := 4#32
  let v512 : BitVec 32 := Scalar.muli v85 c4_i32_425
  let v513 : BitVec 32 := Scalar.addi c0_i32_426 v512
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_427 : BitVec 32 := 2#32
  let v514 : BitVec 32 := Scalar.muli v86 c2_i32_427
  let v515 : BitVec 32 := Scalar.addi v513 v514
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_428 : BitVec 32 := 1#32
  let v516 : BitVec 32 := Scalar.muli v87 c1_i32_428
  let v517 : BitVec 32 := Scalar.addi v515 v516
  v517.toNat
def k0_dev32 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_437 : BitVec 32 := 4#32
  let v526 : BitVec 32 := Scalar.muli v85 c4_i32_437
  let v527 : BitVec 32 := Scalar.addi c0_i32_438 v526
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_439 : BitVec 32 := 2#32
  let v528 : BitVec 32 := Scalar.muli v86 c2_i32_439
  let v529 : BitVec 32 := Scalar.addi v527 v528
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_440 : BitVec 32 := 1#32
  let v530 : BitVec 32 := Scalar.muli v87 c1_i32_440
  let v531 : BitVec 32 := Scalar.addi v529 v530
  v531.toNat
def k0_dev33 (d0 : Dev nD) : Nat :=
  let c0_i32_450 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_449 : BitVec 32 := 4#32
  let v540 : BitVec 32 := Scalar.muli v85 c4_i32_449
  let v541 : BitVec 32 := Scalar.addi c0_i32_450 v540
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_451 : BitVec 32 := 2#32
  let v542 : BitVec 32 := Scalar.muli v86 c2_i32_451
  let v543 : BitVec 32 := Scalar.addi v541 v542
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_452 : BitVec 32 := 1#32
  let v544 : BitVec 32 := Scalar.muli v87 c1_i32_452
  let v545 : BitVec 32 := Scalar.addi v543 v544
  v545.toNat
def k0_dev34 (d0 : Dev nD) : Nat :=
  let c0_i32_462 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_461 : BitVec 32 := 4#32
  let v554 : BitVec 32 := Scalar.muli v85 c4_i32_461
  let v555 : BitVec 32 := Scalar.addi c0_i32_462 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_463 : BitVec 32 := 2#32
  let v556 : BitVec 32 := Scalar.muli v86 c2_i32_463
  let v557 : BitVec 32 := Scalar.addi v555 v556
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_464 : BitVec 32 := 1#32
  let v558 : BitVec 32 := Scalar.muli v87 c1_i32_464
  let v559 : BitVec 32 := Scalar.addi v557 v558
  v559.toNat
def k0_dev35 (d0 : Dev nD) : Nat :=
  let c0_i32_474 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_58 : BitVec 32 := 1#32
  let v85 : BitVec 32 := Scalar.xori v2 c1_i32_58
  let c4_i32_473 : BitVec 32 := 4#32
  let v568 : BitVec 32 := Scalar.muli v85 c4_i32_473
  let v569 : BitVec 32 := Scalar.addi c0_i32_474 v568
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_59 : BitVec 32 := 1#32
  let v86 : BitVec 32 := Scalar.xori v5 c1_i32_59
  let c2_i32_475 : BitVec 32 := 2#32
  let v570 : BitVec 32 := Scalar.muli v86 c2_i32_475
  let v571 : BitVec 32 := Scalar.addi v569 v570
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v87 : BitVec 32 := Scalar.xori v8 c1_i32_60
  let c1_i32_476 : BitVec 32 := 1#32
  let v572 : BitVec 32 := Scalar.muli v87 c1_i32_476
  let v573 : BitVec 32 := Scalar.addi v571 v572
  v573.toNat
-- ==== Reference.lean ====
abbrev S64x1024x464 : Shape := ⟨3, ![64, 1024, 464]⟩
abbrev S64x128x1024 : Shape := ⟨3, ![64, 128, 1024]⟩
abbrev S64x64x64 : Shape := ⟨3, ![64, 64, 64]⟩
abbrev S64x72x128 : Shape := ⟨3, ![64, 72, 128]⟩
abbrev S8x8x1024x464 : Shape := ⟨4, ![8, 8, 1024, 464]⟩
abbrev S8x8x128x1024 : Shape := ⟨4, ![8, 8, 128, 1024]⟩
abbrev S8x8x64x64 : Shape := ⟨4, ![8, 8, 64, 64]⟩
abbrev S8x8x72x128 : Shape := ⟨4, ![8, 8, 72, 128]⟩

abbrev nBuf : Space → Nat
  | .hbm => 20
  | .vmem => 0
  | .smem => 0
  | _ => 0

abbrev bufTy : (tb : Table) → Fin (tcTables nBuf tb) → BufTy
  | .hbm, ⟨0, _⟩ => ⟨S64x1024x464, .f32⟩
  | .hbm, ⟨1, _⟩ => ⟨S64x128x1024, .f32⟩
  | .hbm, ⟨2, _⟩ => ⟨S64x64x64, .f32⟩
  | .hbm, ⟨3, _⟩ => ⟨S64x64x64, .f32⟩
  | .hbm, ⟨4, _⟩ => ⟨S64x72x128, .f32⟩
  | .hbm, ⟨5, _⟩ => ⟨S8x8x1024x464, .f32⟩
  | .hbm, ⟨6, _⟩ => ⟨S8x8x1024x464, .f32⟩
  | .hbm, ⟨7, _⟩ => ⟨S64x1024x464, .f32⟩
  | .hbm, ⟨8, _⟩ => ⟨S8x8x128x1024, .f32⟩
  | .hbm, ⟨9, _⟩ => ⟨S8x8x128x1024, .f32⟩
  | .hbm, ⟨10, _⟩ => ⟨S64x128x1024, .f32⟩
  | .hbm, ⟨11, _⟩ => ⟨S8x8x64x64, .f32⟩
  | .hbm, ⟨12, _⟩ => ⟨S8x8x64x64, .f32⟩
  | .hbm, ⟨13, _⟩ => ⟨S64x64x64, .f32⟩
  | .hbm, ⟨14, _⟩ => ⟨S8x8x64x64, .f32⟩
  | .hbm, ⟨15, _⟩ => ⟨S8x8x64x64, .f32⟩
  | .hbm, ⟨16, _⟩ => ⟨S64x64x64, .f32⟩
  | .hbm, ⟨17, _⟩ => ⟨S8x8x72x128, .f32⟩
  | .hbm, ⟨18, _⟩ => ⟨S8x8x72x128, .f32⟩
  | .hbm, ⟨19, _⟩ => ⟨S64x72x128, .f32⟩
  | _, _ => ⟨S64x1024x464, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== WIn.lean ====
abbrev S8x1024x464 : Shape := ⟨3, ![8, 1024, 464]⟩
abbrev S1024x464 : Shape := ⟨2, ![1024, 464]⟩
abbrev S8x256x464 : Shape := ⟨3, ![8, 256, 464]⟩
abbrev S256x464 : Shape := ⟨2, ![256, 464]⟩
abbrev S1x256x464 : Shape := ⟨3, ![1, 256, 464]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x464, .f32⟩
  | .hbm, ⟨1, _⟩ => ⟨S1024x464, .f32⟩
  | .hbm, ⟨2, _⟩ => ⟨S1024x464, .f32⟩
  | .hbm, ⟨3, _⟩ => ⟨S1024x464, .f32⟩
  | .hbm, ⟨4, _⟩ => ⟨S1024x464, .f32⟩
  | .hbm, ⟨5, _⟩ => ⟨S1024x464, .f32⟩
  | .hbm, ⟨6, _⟩ => ⟨S1024x464, .f32⟩
  | .hbm, ⟨7, _⟩ => ⟨S1024x464, .f32⟩
  | .local _ .vmem, ⟨0, _⟩ => ⟨S8x256x464, .f32⟩
  | .local _ .vmem, ⟨1, _⟩ => ⟨S8x256x464, .f32⟩
  | .local _ .vmem, ⟨2, _⟩ => ⟨S256x464, .f32⟩
  | .local _ .vmem, ⟨3, _⟩ => ⟨S256x464, .f32⟩
  | .local _ .vmem, ⟨4, _⟩ => ⟨S256x464, .f32⟩
  | .local _ .vmem, ⟨5, _⟩ => ⟨S256x464, .f32⟩
  | .local _ .vmem, ⟨6, _⟩ => ⟨S256x464, .f32⟩
  | .local _ .vmem, ⟨7, _⟩ => ⟨S256x464, .f32⟩
  | .local _ .vmem, ⟨8, _⟩ => ⟨S256x464, .f32⟩
  | .local _ .vmem, ⟨9, _⟩ => ⟨S256x464, .f32⟩
  | .local _ .vmem, ⟨10, _⟩ => ⟨S256x464, .f32⟩
  | .local _ .vmem, ⟨11, _⟩ => ⟨S256x464, .f32⟩
  | .local _ .vmem, ⟨12, _⟩ => ⟨S256x464, .f32⟩
  | .local _ .vmem, ⟨13, _⟩ => ⟨S256x464, .f32⟩
  | .local _ .vmem, ⟨14, _⟩ => ⟨S256x464, .f32⟩
  | .local _ .vmem, ⟨15, _⟩ => ⟨S256x464, .f32⟩
  | _, _ => ⟨S8x1024x464, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x464 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x464 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x464 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x464 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x464 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x464 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x464 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x464 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== WInRefIdeal.lean ====
abbrev S8x1024x464 : Shape := ⟨3, ![8, 1024, 464]⟩
abbrev S1024x464 : Shape := ⟨2, ![1024, 464]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1024x464, .f32⟩
  | .hbm, ⟨1, _⟩ => ⟨S1024x464, .f32⟩
  | .hbm, ⟨2, _⟩ => ⟨S1024x464, .f32⟩
  | .hbm, ⟨3, _⟩ => ⟨S1024x464, .f32⟩
  | .hbm, ⟨4, _⟩ => ⟨S_, .f32⟩
  | .hbm, ⟨5, _⟩ => ⟨S1024x464, .f32⟩
  | .hbm, ⟨6, _⟩ => ⟨S_, .f32⟩
  | .hbm, ⟨7, _⟩ => ⟨S1024x464, .f32⟩
  | .hbm, ⟨8, _⟩ => ⟨S1024x464, .f32⟩
  | .hbm, ⟨9, _⟩ => ⟨S_, .f32⟩
  | .hbm, ⟨10, _⟩ => ⟨S1024x464, .f32⟩
  | .hbm, ⟨11, _⟩ => ⟨S1024x464, .f32⟩
  | .hbm, ⟨12, _⟩ => ⟨S1024x464, .f32⟩
  | .hbm, ⟨13, _⟩ => ⟨S_, .f32⟩
  | .hbm, ⟨14, _⟩ => ⟨S1024x464, .f32⟩
  | .hbm, ⟨15, _⟩ => ⟨S1024x464, .f32⟩
  | .hbm, ⟨16, _⟩ => ⟨S1024x464, .f32⟩
  | .hbm, ⟨17, _⟩ => ⟨S_, .f32⟩
  | .hbm, ⟨18, _⟩ => ⟨S1024x464, .f32⟩
  | .hbm, ⟨19, _⟩ => ⟨S1024x464, .f32⟩
  | .hbm, ⟨20, _⟩ => ⟨S1024x464, .f32⟩
  | .hbm, ⟨21, _⟩ => ⟨S_, .f32⟩
  | .hbm, ⟨22, _⟩ => ⟨S1024x464, .f32⟩
  | .hbm, ⟨23, _⟩ => ⟨S1024x464, .f32⟩
  | .hbm, ⟨24, _⟩ => ⟨S_, .f32⟩
  | .hbm, ⟨25, _⟩ => ⟨S1024x464, .f32⟩
  | .hbm, ⟨26, _⟩ => ⟨S1024x464, .f32⟩
  | .hbm, ⟨27, _⟩ => ⟨S1024x464, .f32⟩
  | .hbm, ⟨28, _⟩ => ⟨S_, .f32⟩
  | .hbm, ⟨29, _⟩ => ⟨S1024x464, .f32⟩
  | .hbm, ⟨30, _⟩ => ⟨S1024x464, .f32⟩
  | .hbm, ⟨31, _⟩ => ⟨S1024x464, .f32⟩
  | .hbm, ⟨32, _⟩ => ⟨S_, .f32⟩
  | .hbm, ⟨33, _⟩ => ⟨S1024x464, .f32⟩
  | .hbm, ⟨34, _⟩ => ⟨S1024x464, .f32⟩
  | .hbm, ⟨35, _⟩ => ⟨S1024x464, .f32⟩
  | .hbm, ⟨36, _⟩ => ⟨S_, .f32⟩
  | .hbm, ⟨37, _⟩ => ⟨S1024x464, .f32⟩
  | .hbm, ⟨38, _⟩ => ⟨S1024x464, .f32⟩
  | _, _ => ⟨S8x1024x464, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== WOut.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== WOutRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== WLora.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== WLoraRefIdeal.lean ====
abbrev S8x64x64 : Shape := ⟨3, ![8, 64, 64]⟩
abbrev S64x64 : Shape := ⟨2, ![64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ALora.lean ====
abbrev S8x64x64 : Shape := ⟨3, ![8, 64, 64]⟩
abbrev S64x64 : Shape := ⟨2, ![64, 64]⟩
abbrev S1x64x64 : Shape := ⟨3, ![1, 64, 64]⟩

abbrev nBuf : Space → Nat
  | .hbm => 8
  | .vmem => 8
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .local _ .vmem, ⟨0, _⟩ => ⟨S8x64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S64x64, .f32⟩
  | _, _ => ⟨S8x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== ALoraRefIdeal.lean ====
abbrev S8x64x64 : Shape := ⟨3, ![8, 64, 64]⟩
abbrev S64x64 : Shape := ⟨2, ![64, 64]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x64x64, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S_, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S_, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S_, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S_, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S_, .f32⟩
  | .hbm, ⟨37, _⟩ => ⟨S64x64, .f32⟩
  | .hbm, ⟨38, _⟩ => ⟨S64x64, .f32⟩
  | _, _ => ⟨S8x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Vectors.lean ====
abbrev S8x72x128 : Shape := ⟨3, ![8, 72, 128]⟩
abbrev S72x128 : Shape := ⟨2, ![72, 128]⟩
abbrev S1x72x128 : Shape := ⟨3, ![1, 72, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S72x128, .f32⟩
  | .hbm, ⟨5, _⟩ => ⟨S72x128, .f32⟩
  | .hbm, ⟨6, _⟩ => ⟨S72x128, .f32⟩
  | .hbm, ⟨7, _⟩ => ⟨S72x128, .f32⟩
  | .local _ .vmem, ⟨0, _⟩ => ⟨S8x72x128, .f32⟩
  | .local _ .vmem, ⟨1, _⟩ => ⟨S72x128, .f32⟩
  | .local _ .vmem, ⟨2, _⟩ => ⟨S72x128, .f32⟩
  | .local _ .vmem, ⟨3, _⟩ => ⟨S72x128, .f32⟩
  | .local _ .vmem, ⟨4, _⟩ => ⟨S72x128, .f32⟩
  | .local _ .vmem, ⟨5, _⟩ => ⟨S72x128, .f32⟩
  | .local _ .vmem, ⟨6, _⟩ => ⟨S72x128, .f32⟩
  | .local _ .vmem, ⟨7, _⟩ => ⟨S72x128, .f32⟩
  | _, _ => ⟨S8x72x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x72x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S72x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S72x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S72x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S72x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S72x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S72x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S72x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== VectorsRefIdeal.lean ====
abbrev S8x72x128 : Shape := ⟨3, ![8, 72, 128]⟩
abbrev S72x128 : Shape := ⟨2, ![72, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x72x128, .f32⟩
  | .hbm, ⟨1, _⟩ => ⟨S72x128, .f32⟩
  | .hbm, ⟨2, _⟩ => ⟨S72x128, .f32⟩
  | .hbm, ⟨3, _⟩ => ⟨S72x128, .f32⟩
  | .hbm, ⟨4, _⟩ => ⟨S_, .f32⟩
  | .hbm, ⟨5, _⟩ => ⟨S72x128, .f32⟩
  | .hbm, ⟨6, _⟩ => ⟨S_, .f32⟩
  | .hbm, ⟨7, _⟩ => ⟨S72x128, .f32⟩
  | .hbm, ⟨8, _⟩ => ⟨S72x128, .f32⟩
  | .hbm, ⟨9, _⟩ => ⟨S_, .f32⟩
  | .hbm, ⟨10, _⟩ => ⟨S72x128, .f32⟩
  | .hbm, ⟨11, _⟩ => ⟨S72x128, .f32⟩
  | .hbm, ⟨12, _⟩ => ⟨S72x128, .f32⟩
  | .hbm, ⟨13, _⟩ => ⟨S_, .f32⟩
  | .hbm, ⟨14, _⟩ => ⟨S72x128, .f32⟩
  | .hbm, ⟨15, _⟩ => ⟨S72x128, .f32⟩
  | .hbm, ⟨16, _⟩ => ⟨S72x128, .f32⟩
  | .hbm, ⟨17, _⟩ => ⟨S_, .f32⟩
  | .hbm, ⟨18, _⟩ => ⟨S72x128, .f32⟩
  | .hbm, ⟨19, _⟩ => ⟨S72x128, .f32⟩
  | .hbm, ⟨20, _⟩ => ⟨S72x128, .f32⟩
  | .hbm, ⟨21, _⟩ => ⟨S_, .f32⟩
  | .hbm, ⟨22, _⟩ => ⟨S72x128, .f32⟩
  | .hbm, ⟨23, _⟩ => ⟨S72x128, .f32⟩
  | .hbm, ⟨24, _⟩ => ⟨S_, .f32⟩
  | .hbm, ⟨25, _⟩ => ⟨S72x128, .f32⟩
  | .hbm, ⟨26, _⟩ => ⟨S72x128, .f32⟩
  | .hbm, ⟨27, _⟩ => ⟨S72x128, .f32⟩
  | .hbm, ⟨28, _⟩ => ⟨S_, .f32⟩
  | .hbm, ⟨29, _⟩ => ⟨S72x128, .f32⟩
  | .hbm, ⟨30, _⟩ => ⟨S72x128, .f32⟩
  | .hbm, ⟨31, _⟩ => ⟨S72x128, .f32⟩
  | .hbm, ⟨32, _⟩ => ⟨S_, .f32⟩
  | .hbm, ⟨33, _⟩ => ⟨S72x128, .f32⟩
  | .hbm, ⟨34, _⟩ => ⟨S72x128, .f32⟩
  | .hbm, ⟨35, _⟩ => ⟨S72x128, .f32⟩
  | .hbm, ⟨36, _⟩ => ⟨S_, .f32⟩
  | .hbm, ⟨37, _⟩ => ⟨S72x128, .f32⟩
  | .hbm, ⟨38, _⟩ => ⟨S72x128, .f32⟩
  | _, _ => ⟨S8x72x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== InX.lean ====
abbrev S2048x1024 : Shape := ⟨2, ![2048, 1024]⟩
abbrev S1x1024 : Shape := ⟨2, ![1, 1024]⟩
abbrev S2048x512 : Shape := ⟨2, ![2048, 512]⟩
abbrev S2048x2176 : Shape := ⟨2, ![2048, 2176]⟩
abbrev S1024x1536 : Shape := ⟨2, ![1024, 1536]⟩
abbrev S1024x2176 : Shape := ⟨2, ![1024, 2176]⟩
abbrev S256x1024 : Shape := ⟨2, ![256, 1024]⟩
abbrev S256x512 : Shape := ⟨2, ![256, 512]⟩
abbrev S256x2176 : Shape := ⟨2, ![256, 2176]⟩
abbrev S256 : Shape := ⟨1, ![256]⟩
abbrev S256x1 : Shape := ⟨2, ![256, 1]⟩
abbrev S1024x1024 : Shape := ⟨2, ![1024, 1024]⟩
abbrev S1024x512 : Shape := ⟨2, ![1024, 512]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x512, .f32⟩
  | .hbm, ⟨4, _⟩ => ⟨S2048x2176, .f32⟩
  | .hbm, ⟨5, _⟩ => ⟨S2048x1024, .f32⟩
  | .hbm, ⟨6, _⟩ => ⟨S1024x1536, .bf16⟩
  | .hbm, ⟨7, _⟩ => ⟨S1024x2176, .bf16⟩
  | .hbm, ⟨8, _⟩ => ⟨S2048x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x512, .f32⟩
  | .local _ .vmem, ⟨6, _⟩ => ⟨S256x512, .f32⟩
  | .local _ .vmem, ⟨7, _⟩ => ⟨S256x2176, .f32⟩
  | .local _ .vmem, ⟨8, _⟩ => ⟨S256x2176, .f32⟩
  | .local _ .vmem, ⟨9, _⟩ => ⟨S256x1024, .f32⟩
  | .local _ .vmem, ⟨10, _⟩ => ⟨S256x1024, .f32⟩
  | .local _ .vmem, ⟨11, _⟩ => ⟨S1024x1536, .bf16⟩
  | .local _ .vmem, ⟨12, _⟩ => ⟨S1024x2176, .bf16⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2176 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== InXRefIdeal.lean ====
abbrev S2048x1024 : Shape := ⟨2, ![2048, 1024]⟩
abbrev S1x1024 : Shape := ⟨2, ![1, 1024]⟩
abbrev S2048x512 : Shape := ⟨2, ![2048, 512]⟩
abbrev S2048x2176 : Shape := ⟨2, ![2048, 2176]⟩
abbrev S1024x1536 : Shape := ⟨2, ![1024, 1536]⟩
abbrev S1024x2176 : Shape := ⟨2, ![1024, 2176]⟩
abbrev S1024x3712 : Shape := ⟨2, ![1024, 3712]⟩
abbrev S_ : Shape := ⟨0, ![]⟩
abbrev S2048 : Shape := ⟨1, ![2048]⟩
abbrev S2048x1 : Shape := ⟨2, ![2048, 1]⟩
abbrev S2048x3712 : Shape := ⟨2, ![2048, 3712]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x512, .f32⟩
  | .hbm, ⟨4, _⟩ => ⟨S2048x2176, .f32⟩
  | .hbm, ⟨5, _⟩ => ⟨S2048x1024, .f32⟩
  | .hbm, ⟨6, _⟩ => ⟨S1024x1536, .bf16⟩
  | .hbm, ⟨7, _⟩ => ⟨S1024x2176, .bf16⟩
  | .hbm, ⟨8, _⟩ => ⟨S1024x3712, .bf16⟩
  | .hbm, ⟨9, _⟩ => ⟨S1024x3712, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x3712, .f32⟩
  | .hbm, ⟨30, _⟩ => ⟨S2048x3712, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]
-- ==== In.lean ====
abbrev S2048x1024 : Shape := ⟨2, ![2048, 1024]⟩
abbrev S1x1024 : Shape := ⟨2, ![1, 1024]⟩
abbrev S1024x1536 : Shape := ⟨2, ![1024, 1536]⟩
abbrev S1024x2176 : Shape := ⟨2, ![1024, 2176]⟩
abbrev S2048x1536 : Shape := ⟨2, ![2048, 1536]⟩
abbrev S2048x2176 : Shape := ⟨2, ![2048, 2176]⟩
abbrev S256x1024 : Shape := ⟨2, ![256, 1024]⟩
abbrev S256x1536 : Shape := ⟨2, ![256, 1536]⟩
abbrev S256x2176 : Shape := ⟨2, ![256, 2176]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1536, .bf16⟩
  | .hbm, ⟨3, _⟩ => ⟨S1024x2176, .bf16⟩
  | .hbm, ⟨4, _⟩ => ⟨S2048x1536, .f32⟩
  | .hbm, ⟨5, _⟩ => ⟨S2048x2176, .f32⟩
  | .hbm, ⟨6, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x1536, .bf16⟩
  | .local _ .vmem, ⟨4, _⟩ => ⟨S1024x2176, .bf16⟩
  | .local _ .vmem, ⟨5, _⟩ => ⟨S256x1536, .f32⟩
  | .local _ .vmem, ⟨6, _⟩ => ⟨S256x1536, .f32⟩
  | .local _ .vmem, ⟨7, _⟩ => ⟨S256x2176, .f32⟩
  | .local _ .vmem, ⟨8, _⟩ => ⟨S256x2176, .f32⟩
  | .local _ .vmem, ⟨9, _⟩ => ⟨S256x1024, .bf16⟩
  | .local _ .vmem, ⟨10, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2176 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InRefIdeal.lean ====
abbrev S2048x1024 : Shape := ⟨2, ![2048, 1024]⟩
abbrev S1x1024 : Shape := ⟨2, ![1, 1024]⟩
abbrev S1024x1536 : Shape := ⟨2, ![1024, 1536]⟩
abbrev S1024x2176 : Shape := ⟨2, ![1024, 2176]⟩
abbrev S_ : Shape := ⟨0, ![]⟩
abbrev S2048 : Shape := ⟨1, ![2048]⟩
abbrev S2048x1 : Shape := ⟨2, ![2048, 1]⟩
abbrev S1024x3712 : Shape := ⟨2, ![1024, 3712]⟩
abbrev S2048x3712 : Shape := ⟨2, ![2048, 3712]⟩
abbrev S2048x1536 : Shape := ⟨2, ![2048, 1536]⟩
abbrev S2048x2176 : Shape := ⟨2, ![2048, 2176]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x1536, .bf16⟩
  | .hbm, ⟨3, _⟩ => ⟨S1024x2176, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S1024x3712, .bf16⟩
  | .hbm, ⟨20, _⟩ => ⟨S1024x3712, .f32⟩
  | .hbm, ⟨21, _⟩ => ⟨S2048x3712, .f32⟩
  | .hbm, ⟨22, _⟩ => ⟨S2048x1536, .f32⟩
  | .hbm, ⟨23, _⟩ => ⟨S2048x2176, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== GQkv.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GQkvRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GRet.lean ====
abbrev S2048x1024 : Shape := ⟨2, ![2048, 1024]⟩
abbrev S2048x512 : Shape := ⟨2, ![2048, 512]⟩
abbrev S1024x512 : Shape := ⟨2, ![1024, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S1024x512, .f32⟩
  | .local _ .vmem, ⟨0, _⟩ => ⟨S512x1024, .bf16⟩
  | .local _ .vmem, ⟨1, _⟩ => ⟨S512x1024, .bf16⟩
  | .local _ .vmem, ⟨2, _⟩ => ⟨S512x512, .f32⟩
  | .local _ .vmem, ⟨3, _⟩ => ⟨S512x512, .f32⟩
  | .local _ .vmem, ⟨4, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GRetRefIdeal.lean ====
abbrev S2048x1024 : Shape := ⟨2, ![2048, 1024]⟩
abbrev S2048x512 : Shape := ⟨2, ![2048, 512]⟩
abbrev S_ : Shape := ⟨0, ![]⟩
abbrev S1024x512 : Shape := ⟨2, ![1024, 512]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x512, .f32⟩
  | .hbm, ⟨2, _⟩ => ⟨S_, .f32⟩
  | .hbm, ⟨3, _⟩ => ⟨S1024x512, .f32⟩
  | .hbm, ⟨4, _⟩ => ⟨S2048x1024, .f32⟩
  | .hbm, ⟨5, _⟩ => ⟨S2048x512, .f32⟩
  | .hbm, ⟨6, _⟩ => ⟨S512x1024, .f32⟩
  | .hbm, ⟨7, _⟩ => ⟨S1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GRwkv.lean ====
abbrev S2048x1024 : Shape := ⟨2, ![2048, 1024]⟩
abbrev S2048x2176 : Shape := ⟨2, ![2048, 2176]⟩
abbrev S1024x2176 : Shape := ⟨2, ![1024, 2176]⟩
abbrev S512x1024 : Shape := ⟨2, ![512, 1024]⟩
abbrev S512x2176 : Shape := ⟨2, ![512, 2176]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .f32⟩
  | .hbm, ⟨2, _⟩ => ⟨S1024x2176, .f32⟩
  | .local _ .vmem, ⟨0, _⟩ => ⟨S512x1024, .bf16⟩
  | .local _ .vmem, ⟨1, _⟩ => ⟨S512x1024, .bf16⟩
  | .local _ .vmem, ⟨2, _⟩ => ⟨S512x2176, .f32⟩
  | .local _ .vmem, ⟨3, _⟩ => ⟨S512x2176, .f32⟩
  | .local _ .vmem, ⟨4, _⟩ => ⟨S1024x2176, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== GRwkvRefIdeal.lean ====
abbrev S2048x1024 : Shape := ⟨2, ![2048, 1024]⟩
abbrev S2048x2176 : Shape := ⟨2, ![2048, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .f32⟩
  | .hbm, ⟨2, _⟩ => ⟨S_, .f32⟩
  | .hbm, ⟨3, _⟩ => ⟨S1024x2176, .f32⟩
  | .hbm, ⟨4, _⟩ => ⟨S2048x1024, .f32⟩
  | .hbm, ⟨5, _⟩ => ⟨S2048x2176, .f32⟩
  | .hbm, ⟨6, _⟩ => ⟨S2176x1024, .f32⟩
  | .hbm, ⟨7, _⟩ => ⟨S1024x2176, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== PrepIdeal.lean ====
abbrev S2048x2176 : Shape := ⟨2, ![2048, 2176]⟩
abbrev S1x2176 : Shape := ⟨2, ![1, 2176]⟩
abbrev S1x512 : Shape := ⟨2, ![1, 512]⟩
abbrev S64x512 : Shape := ⟨2, ![64, 512]⟩
abbrev S512x512 : Shape := ⟨2, ![512, 512]⟩
abbrev S_ : Shape := ⟨0, ![]⟩
abbrev S128x512 : Shape := ⟨2, ![128, 512]⟩
abbrev S2048x512 : Shape := ⟨2, ![2048, 512]⟩
abbrev S256x2176 : Shape := ⟨2, ![256, 2176]⟩
abbrev S8x2176 : Shape := ⟨2, ![8, 2176]⟩
abbrev S256x512 : Shape := ⟨2, ![256, 512]⟩
abbrev S256x128 : Shape := ⟨2, ![256, 128]⟩

abbrev nBuf : Space → Nat
  | .hbm => 22
  | .vmem => 26
  | .smem => 0
  | _ => 0

abbrev bufTy : (tb : Table) → Fin (tcTables nBuf tb) → BufTy
  | .hbm, ⟨0, _⟩ => ⟨S2048x2176, .f32⟩
  | .hbm, ⟨1, _⟩ => ⟨S1x2176, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S64x512, .f32⟩
  | .hbm, ⟨7, _⟩ => ⟨S64x512, .f32⟩
  | .hbm, ⟨8, _⟩ => ⟨S512x512, .f32⟩
  | .hbm, ⟨9, _⟩ => ⟨S_, .f32⟩
  | .hbm, ⟨10, _⟩ => ⟨S64x512, .f32⟩
  | .hbm, ⟨11, _⟩ => ⟨S128x512, .f32⟩
  | .hbm, ⟨12, _⟩ => ⟨S_, .f32⟩
  | .hbm, ⟨13, _⟩ => ⟨S64x512, .f32⟩
  | .hbm, ⟨14, _⟩ => ⟨S128x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S2048x512, .f32⟩
  | .local _ .vmem, ⟨0, _⟩ => ⟨S256x2176, .f32⟩
  | .local _ .vmem, ⟨1, _⟩ => ⟨S256x2176, .f32⟩
  | .local _ .vmem, ⟨2, _⟩ => ⟨S8x2176, .f32⟩
  | .local _ .vmem, ⟨3, _⟩ => ⟨S8x2176, .f32⟩
  | .local _ .vmem, ⟨4, _⟩ => ⟨S1x2176, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S128x512, .f32⟩
  | .local _ .vmem, ⟨10, _⟩ => ⟨S128x512, .f32⟩
  | .local _ .vmem, ⟨11, _⟩ => ⟨S512x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev main_v4_5 : Ref sig .tc := ⟨.hbm, 20, rfl⟩
abbrev main_v4_6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2176 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2176 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2176 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepRefIdeal.lean ====
abbrev S2048x2176 : Shape := ⟨2, ![2048, 2176]⟩
abbrev S1x2176 : Shape := ⟨2, ![1, 2176]⟩
abbrev S1x512 : Shape := ⟨2, ![1, 512]⟩
abbrev S64x512 : Shape := ⟨2, ![64, 512]⟩
abbrev S_ : Shape := ⟨0, ![]⟩
abbrev S2049x2176 : Shape := ⟨2, ![2049, 2176]⟩
abbrev S2048x512 : Shape := ⟨2, ![2048, 512]⟩
abbrev S2048x64 : Shape := ⟨2, ![2048, 64]⟩
abbrev S2048x8x64 : Shape := ⟨3, ![2048, 8, 64]⟩
abbrev S2048x8 : Shape := ⟨2, ![2048, 8]⟩
abbrev S2048x8x1 : Shape := ⟨3, ![2048, 8, 1]⟩

abbrev nBuf : Space → Nat
  | .hbm => 82
  | .vmem => 0
  | .smem => 0
  | _ => 0

abbrev bufTy : (tb : Table) → Fin (tcTables nBuf tb) → BufTy
  | .hbm, ⟨0, _⟩ => ⟨S2048x2176, .f32⟩
  | .hbm, ⟨1, _⟩ => ⟨S1x2176, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S64x512, .f32⟩
  | .hbm, ⟨7, _⟩ => ⟨S64x512, .f32⟩
  | .hbm, ⟨8, _⟩ => ⟨S_, .i32⟩
  | .hbm, ⟨9, _⟩ => ⟨S_, .f32⟩
  | .hbm, ⟨10, _⟩ => ⟨S2049x2176, .f32⟩
  | .hbm, ⟨11, _⟩ => ⟨S2048x2176, .f32⟩
  | .hbm, ⟨12, _⟩ => ⟨S2048x2176, .f32⟩
  | .hbm, ⟨13, _⟩ => ⟨S2048x2176, .f32⟩
  | .hbm, ⟨14, _⟩ => ⟨S2048x2176, .f32⟩
  | .hbm, ⟨15, _⟩ => ⟨S2048x2176, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S_, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S2048x512, .f32⟩
  | .hbm, ⟨32, _⟩ => ⟨S2048x512, .i1⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S2048x512, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S2048x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S_, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | .hbm, ⟨61, _⟩ => ⟨S2048x8x64, .f32⟩
  | .hbm, ⟨62, _⟩ => ⟨S2048x8x64, .f32⟩
  | .hbm, ⟨63, _⟩ => ⟨S_, .f32⟩
  | .hbm, ⟨64, _⟩ => ⟨S2048x8, .f32⟩
  | .hbm, ⟨65, _⟩ => ⟨S2048x8x1, .f32⟩
  | .hbm, ⟨66, _⟩ => ⟨S2048x8x1, .f32⟩
  | .hbm, ⟨67, _⟩ => ⟨S_, .f32⟩
  | .hbm, ⟨68, _⟩ => ⟨S2048x8x1, .f32⟩
  | .hbm, ⟨69, _⟩ => ⟨S2048x8x1, .f32⟩
  | .hbm, ⟨70, _⟩ => ⟨S2048x8x64, .f32⟩
  | .hbm, ⟨71, _⟩ => ⟨S2048x8x64, .f32⟩
  | .hbm, ⟨72, _⟩ => ⟨S_, .f32⟩
  | .hbm, ⟨73, _⟩ => ⟨S2048x512, .f32⟩
  | .hbm, ⟨74, _⟩ => ⟨S2048x512, .f32⟩
  | .hbm, ⟨75, _⟩ => ⟨S2048x512, .f32⟩
  | .hbm, ⟨76, _⟩ => ⟨S2048x512, .f32⟩
  | .hbm, ⟨77, _⟩ => ⟨S_, .f32⟩
  | .hbm, ⟨78, _⟩ => ⟨S2048x512, .f32⟩
  | .hbm, ⟨79, _⟩ => ⟨S2048x512, .f32⟩
  | .hbm, ⟨80, _⟩ => ⟨S2048x512, .f32⟩
  | .hbm, ⟨81, _⟩ => ⟨S2048x512, .f32⟩
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_v17 : Ref sig .tc := ⟨.hbm, 40, rfl⟩
abbrev main_v18 : Ref sig .tc := ⟨.hbm, 41, rfl⟩
abbrev main_cst : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_0 : Ref sig .tc := ⟨.hbm, 53, rfl⟩
abbrev main_v29 : Ref sig .tc := ⟨.hbm, 54, rfl⟩
abbrev main_v30 : Ref sig .tc := ⟨.hbm, 55, rfl⟩
abbrev main_cst_1 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_2 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_3 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_4 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩

abbrev nD : Nat := 1
abbrev τ : Topo := Topo.v7x

variable {F : FTy → Type} [FloatOps F]
-- ==== Proof.Project.lean ====
/-
The norm and the projection around it, one row at a time over the extended reals: what the gradients of the input and
of the norm's gain are.
-/
module

public import Idealize.ShloMosaic.Lib.Pipeline.Value
public import Idealize.ShloMosaic.Lib.Pointwise

@[expose] public section

noncomputable section

namespace Cert.Project

open Idealize.ShloMosaic

/-- A row of a matrix. -/
def row {r c : ℕ} (x : (⟨2, ![r, c]⟩ : Shape).Idx → EReal) (i : Fin r) : Fin c → EReal := fun k => x (ix2 i k)

/-- The length of a row, as the program holds it. -/
def len : EReal := Ideal.ofBits .f32 0x44800000#32

/-- The mean of a row's squares, and the norm's small constant. -/
def power (x : Fin 1024 → EReal) : EReal :=
  Ideal.div (∑ k, x k * x k) len + Ideal.ofBits .f32 0x358637BD#32

/-- What the norm multiplies a row by. -/
def scale (x : Fin 1024 → EReal) : EReal := Ideal.rsqrt (power x)

/-- An element of the normed row. -/
def unit (x g : Fin 1024 → EReal) (j : Fin 1024) : EReal := x j * scale x * g j

/-- What reaches one element of the normed row from the gradients of the three projections of that row, through the
weight's row for the element. -/
def pull (q : Fin 1024 → EReal) (s : Fin 512 → EReal) (p : Fin 2176 → EReal) (w : Fin 1536 → EReal)
    (v : Fin 2176 → EReal) : EReal :=
  (∑ k : Fin 1024, q k * w ⟨k.val, by omega⟩) + (∑ k : Fin 512, s k * w ⟨1024 + k.val, by omega⟩)
    + ∑ k : Fin 2176, p k * v k

/-- Half of what the scale's own dependence on the row adds, per unit of the row. -/
def drift (x g u : Fin 1024 → EReal) : EReal :=
  Ideal.div ((∑ k, x k * (u k * g k)) * (Ideal.ofBits .f32 0xBF000000#32 * Ideal.div (scale x) (power x))) len

/-- The gradient of the row: through the scaled element, twice through the scale, and what came past the norm. -/
def dx (x g u : Fin 1024 → EReal) (h : EReal) (j : Fin 1024) : EReal :=
  u j * g j * scale x + x j * drift x g u + drift x g u * x j + h

/-- The row's part of the gain's gradient. -/
def dg (x u : Fin 1024 → EReal) (j : Fin 1024) : EReal := x j * scale x * u j

/-- The matrix of the input's gradient: row by row, from the input, the gain, what reaches the normed rows and what came
past the norm. -/
def inputGrad {r : ℕ} (x : (⟨2, ![r, 1024]⟩ : Shape).Idx → EReal) (g : (⟨2, ![1, 1024]⟩ : Shape).Idx → EReal)
    (u : Fin r → Fin 1024 → EReal) (h : (⟨2, ![r, 1024]⟩ : Shape).Idx → EReal) :
    (⟨2, ![r, 1024]⟩ : Shape).Idx → EReal :=
  fun y => dx (row x (y 0)) (row g 0) (u (y 0)) (h y) (y 1)

/-- The gain's gradient: the sum of the rows' parts. -/
def gainGrad {r : ℕ} (x : (⟨2, ![r, 1024]⟩ : Shape).Idx → EReal) (u : Fin r → Fin 1024 → EReal) :
    (⟨2, ![1, 1024]⟩ : Shape).Idx → EReal :=
  fun y => ∑ a, dg (row x a) (u a) (y 1)

/-- What reaches each element of the normed rows. -/
def pulls {r : ℕ} (q : (⟨2, ![r, 1024]⟩ : Shape).Idx → EReal) (s : (⟨2, ![r, 512]⟩ : Shape).Idx → EReal)
    (p : (⟨2, ![r, 2176]⟩ : Shape).Idx → EReal) (w : (⟨2, ![1024, 1536]⟩ : Shape).Idx → EReal)
    (v : (⟨2, ![1024, 2176]⟩ : Shape).Idx → EReal) (i : Fin r) (l : Fin 1024) : EReal :=
  pull (row q i) (row s i) (row p i) (row w l) (row v l)

/-- The normed rows. -/
def normed (x : (⟨2, ![2048, 1024]⟩ : Shape).Idx → EReal) (g : (⟨2, ![1, 1024]⟩ : Shape).Idx → EReal) :
    (⟨2, ![2048, 1024]⟩ : Shape).Idx → EReal :=
  fun y => unit (row x (y 0)) (row g 0) (y 1)

/-- The normed rows through a weight. -/
def through {n : ℕ} (x : (⟨2, ![2048, 1024]⟩ : Shape).Idx → EReal) (g : (⟨2, ![1, 1024]⟩ : Shape).Idx → EReal)
    (w : (⟨2, ![1024, n]⟩ : Shape).Idx → EReal) : (⟨2, ![2048, n]⟩ : Shape).Idx → EReal :=
  fun y => ∑ k : Fin 1024, unit (row x (y 0)) (row g 0) k * w (ix2 k (y 1))

/-- The gradient of a projection's weight: the normed rows' columns against its own gradient's. -/
def outer {n : ℕ} (u : (⟨2, ![2048, 1024]⟩ : Shape).Idx → EReal) (p : (⟨2, ![2048, n]⟩ : Shape).Idx → EReal) :
    (⟨2, ![1024, n]⟩ : Shape).Idx → EReal :=
  fun y => ∑ a : Fin 2048, u (ix2 a (y 0)) * p (ix2 a (y 1))

end Cert.Project

end
-- ==== Proof.BackX.lean ====
/-
The gradients of the input and of the norm's gain: what the kernel leaves in its two results.
-/
module

public import proofs.«01_k».proof.Proof.Project
public import proofs.«01_k».proof.Proof.Gen.InXIdeal.Value
public import Idealize.ShloMosaic.Lib.Pipeline.ValueKit.Geometry
public import Idealize.ShloMosaic.Lib.Pipeline.ValueKit.Acc

@[expose] public section

noncomputable section

namespace Cert.InXIdeal.Back

open Idealize.ShloMosaic Idealize.SL.Sem Cert.Project
open Cert.InXIdeal.Gen Cert.InXIdeal.Value

section
variable {F : FTy → Type} [FloatOps F]

/-- What reaches the normed rows of a tile. -/
def du (x2 : Vec F S256x1024 .f32) (x3 : Vec F S256x512 .f32) (x4 : Vec F S256x2176 .f32) (x6 : Vec F S1024x1536 .bf16)
    (x7 : Vec F S1024x2176 .bf16) : Vec F S256x1024 .f32 :=
  k0_pay7 x2 (View.ld x6 (Rect.unit ![0, 0] ![1024, 1024] inb_S1024x1536_S1024x1024_0_0)) x3
    (View.ld x6 (Rect.unit ![0, 1024] ![1024, 512] inb_S1024x1536_S1024x512_0_1024)) x4 x7

/-- The tile of the input's gradient. -/
def tile (x0 : Vec F S256x1024 .f32) (x1 : Vec F S1x1024 .f32) (x2 : Vec F S256x1024 .f32) (x3 : Vec F S256x512 .f32)
    (x4 : Vec F S256x2176 .f32) (x5 : Vec F S256x1024 .f32) (x6 : Vec F S1024x1536 .bf16) (x7 : Vec F S1024x2176 .bf16) :
    Vec F S256x1024 .f32 :=
  k0_pay1 x0 x1 (k0_pay5 x0) (k0_pay6 x0) (du x2 x3 x4 x6 x7) x5

/-- The gain's gradient after a tile, from what it was before. -/
def gain (acc : Vec F S1x1024 .f32) (x0 : Vec F S256x1024 .f32) (x2 : Vec F S256x1024 .f32) (x3 : Vec F S256x512 .f32)
    (x4 : Vec F S256x2176 .f32) (x6 : Vec F S1024x1536 .bf16) (x7 : Vec F S1024x2176 .bf16) : Vec F S1x1024 .f32 :=
  k0_pay2 (k0_pay8 x0 x2 (View.ld x6 (Rect.unit ![0, 0] ![1024, 1024] inb_S1024x1536_S1024x1024_0_0)) x3
    (View.ld x6 (Rect.unit ![0, 1024] ![1024, 512] inb_S1024x1536_S1024x512_0_1024)) x4 x7) acc

/-- The first point leaves its tile. -/
theorem out_A_8_eq (c : Dev nD) (i : grid0.Coords) (arg1 : Memref sig .tc .vmem S256x1024 .f32) (harg1 : arg1.IsWhole) (arg2 : Memref sig .tc .vmem S1x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x2176 .f32) (harg5 : arg5.IsWhole) (arg6 : Memref sig .tc .vmem S256x1024 .f32) (harg6 : arg6.IsWhole)
    (arg7 : Memref sig .tc .vmem S1024x1536 .bf16) (harg7 : arg7.IsWhole) (arg8 : Memref sig .tc .vmem S1024x2176 .bf16) (harg8 : arg8.IsWhole) (arg9 : Memref sig .tc .vmem S256x1024 .f32) (harg9 : arg9.IsWhole)
    (arg10 : Memref sig .tc .vmem S1x1024 .f32) (harg10 : arg10.IsWhole) (hc0 : cond0_0 i)
    (x0 : Vec F S256x1024 .f32) (x1 : Vec F S1x1024 .f32) (x2 : Vec F S256x1024 .f32) (x3 : Vec F S256x512 .f32) (x4 : Vec F S256x2176 .f32) (x5 : Vec F S256x1024 .f32) (x6 : Vec F S1024x1536 .bf16) (x7 : Vec F S1024x2176 .bf16) :
    out0_A_8 c i arg1 harg1 arg2 harg2 arg3 harg3 arg4 harg4 arg5 harg5 arg6 harg6 arg7 harg7 arg8 harg8 arg9 harg9 arg10 harg10 hc0 x0 x1 x2 x3 x4 x5 x6 x7 = tile x0 x1 x2 x3 x4 x5 x6 x7 := by
  have hz : (![0, 0] : Fin 2 → ℕ) = fun _ => 0 := funext fun a => match a with | 0 => rfl | 1 => rfl
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg10.read_unread,
    View.ld_unit_zero (S := S256x1024) hz, View.ld_unit_zero (S := S1x1024) hz, View.ld_unit_zero (S := S256x512) hz,
    View.ld_unit_zero (S := S256x2176) hz, View.ld_unit_zero (S := S1024x2176) hz]
  rfl

/-- The first point starts the gain's gradient from zero. -/
theorem out_A_9_eq (c : Dev nD) (i : grid0.Coords) (arg1 : Memref sig .tc .vmem S256x1024 .f32) (harg1 : arg1.IsWhole) (arg2 : Memref sig .tc .vmem S1x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x2176 .f32) (harg5 : arg5.IsWhole) (arg6 : Memref sig .tc .vmem S256x1024 .f32) (harg6 : arg6.IsWhole)
    (arg7 : Memref sig .tc .vmem S1024x1536 .bf16) (harg7 : arg7.IsWhole) (arg8 : Memref sig .tc .vmem S1024x2176 .bf16) (harg8 : arg8.IsWhole) (arg9 : Memref sig .tc .vmem S256x1024 .f32) (harg9 : arg9.IsWhole)
    (arg10 : Memref sig .tc .vmem S1x1024 .f32) (harg10 : arg10.IsWhole) (hc0 : cond0_0 i)
    (x0 : Vec F S256x1024 .f32) (x1 : Vec F S1x1024 .f32) (x2 : Vec F S256x1024 .f32) (x3 : Vec F S256x512 .f32) (x4 : Vec F S256x2176 .f32) (x5 : Vec F S256x1024 .f32) (x6 : Vec F S1024x1536 .bf16) (x7 : Vec F S1024x2176 .bf16) :
    out0_A_9 c i arg1 harg1 arg2 harg2 arg3 harg3 arg4 harg4 arg5 harg5 arg6 harg6 arg7 harg7 arg8 harg8 arg9 harg9 arg10 harg10 hc0 x0 x1 x2 x3 x4 x5 x6 x7 = gain (k0_pay3 (F := F)) x0 x2 x3 x4 x6 x7 := by
  have hz : (![0, 0] : Fin 2 → ℕ) = fun _ => 0 := funext fun a => match a with | 0 => rfl | 1 => rfl
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6 x7)]
  unfold kernelRun0_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread,
    harg5.read_unread, harg6.read_unread, harg7.read_unread, harg8.read_unread, harg10.read_unread,
    View.ld_unit_zero (S := S256x1024) hz, View.ld_unit_zero (S := S1x1024) hz, View.ld_unit_zero (S := S256x512) hz,
    View.ld_unit_zero (S := S256x2176) hz, View.ld_unit_zero (S := S1024x2176) hz]
  rfl

/-- A later point leaves its tile. -/
theorem out_B_8_eq (c : Dev nD) (i : grid0.Coords) (arg1 : Memref sig .tc .vmem S256x1024 .f32) (harg1 : arg1.IsWhole) (arg2 : Memref sig .tc .vmem S1x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x2176 .f32) (harg5 : arg5.IsWhole) (arg6 : Memref sig .tc .vmem S256x1024 .f32) (harg6 : arg6.IsWhole)
    (arg7 : Memref sig .tc .vmem S1024x1536 .bf16) (harg7 : arg7.IsWhole) (arg8 : Memref sig .tc .vmem S1024x2176 .bf16) (harg8 : arg8.IsWhole) (arg9 : Memref sig .tc .vmem S256x1024 .f32) (harg9 : arg9.IsWhole)
    (arg10 : Memref sig .tc .vmem S1x1024 .f32) (harg10 : arg10.IsWhole) (hc0 : ¬cond0_0 i)
    (x0 : Vec F S256x1024 .f32) (x1 : Vec F S1x1024 .f32) (x2 : Vec F S256x1024 .f32) (x3 : Vec F S256x512 .f32) (x4 : Vec F S256x2176 .f32) (x5 : Vec F S256x1024 .f32) (x6 : Vec F S1024x1536 .bf16) (x7 : Vec F S1024x2176 .bf16) (xo9 : Vec F S1x1024 .f32) :
    out0_B_8 c i arg1 harg1 arg2 harg2 arg3 harg3 arg4 harg4 arg5 harg5 arg6 harg6 arg7 harg7 arg8 harg8 arg9 harg9 arg10 harg10 hc0 x0 x1 x2 x3 x4 x5 x6 x7 xo9 = tile x0 x1 x2 x3 x4 x5 x6 x7 := by
  have hz : (![0, 0] : Fin 2 → ℕ) = fun _ => 0 := funext fun a => match a with | 0 => rfl | 1 => rfl
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 x7 xo9)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg10.read_unread,
    View.ld_unit_zero (S := S256x1024) hz, View.ld_unit_zero (S := S1x1024) hz, View.ld_unit_zero (S := S256x512) hz,
    View.ld_unit_zero (S := S256x2176) hz, View.ld_unit_zero (S := S1024x2176) hz]
  rfl

/-- A later point adds to the gain's gradient. -/
theorem out_B_9_eq (c : Dev nD) (i : grid0.Coords) (arg1 : Memref sig .tc .vmem S256x1024 .f32) (harg1 : arg1.IsWhole) (arg2 : Memref sig .tc .vmem S1x1024 .f32) (harg2 : arg2.IsWhole)
    (arg3 : Memref sig .tc .vmem S256x1024 .f32) (harg3 : arg3.IsWhole) (arg4 : Memref sig .tc .vmem S256x512 .f32) (harg4 : arg4.IsWhole)
    (arg5 : Memref sig .tc .vmem S256x2176 .f32) (harg5 : arg5.IsWhole) (arg6 : Memref sig .tc .vmem S256x1024 .f32) (harg6 : arg6.IsWhole)
    (arg7 : Memref sig .tc .vmem S1024x1536 .bf16) (harg7 : arg7.IsWhole) (arg8 : Memref sig .tc .vmem S1024x2176 .bf16) (harg8 : arg8.IsWhole) (arg9 : Memref sig .tc .vmem S256x1024 .f32) (harg9 : arg9.IsWhole)
    (arg10 : Memref sig .tc .vmem S1x1024 .f32) (harg10 : arg10.IsWhole) (hc0 : ¬cond0_0 i)
    (x0 : Vec F S256x1024 .f32) (x1 : Vec F S1x1024 .f32) (x2 : Vec F S256x1024 .f32) (x3 : Vec F S256x512 .f32) (x4 : Vec F S256x2176 .f32) (x5 : Vec F S256x1024 .f32) (x6 : Vec F S1024x1536 .bf16) (x7 : Vec F S1024x2176 .bf16) (xo9 : Vec F S1x1024 .f32) :
    out0_B_9 c i arg1 harg1 arg2 harg2 arg3 harg3 arg4 harg4 arg5 harg5 arg6 harg6 arg7 harg7 arg8 harg8 arg9 harg9 arg10 harg10 hc0 x0 x1 x2 x3 x4 x5 x6 x7 xo9 = gain xo9 x0 x2 x3 x4 x6 x7 := by
  have hz : (![0, 0] : Fin 2 → ℕ) = fun _ => 0 := funext fun a => match a with | 0 => rfl | 1 => rfl
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 x7 xo9)]
  unfold kernelRun0_B
  dsimp only
  sl_unfold_words
  rw [View.canon_unit_zero hz]
  simp only [View.readAt_eq_ld, harg1.read_unread, harg2.read_unread, harg3.read_unread, harg4.read_unread,
    harg5.read_unread, harg6.read_unread, harg7.read_unread, harg8.read_unread, harg10.read_unread,
    View.ld_unit_zero (S := S256x1024) hz, View.ld_unit_zero (S := S1x1024) hz, View.ld_unit_zero (S := S256x512) hz,
    View.ld_unit_zero (S := S256x2176) hz, View.ld_unit_zero (S := S1024x2176) hz]
  rfl

variable (m : (ℓ : Loc nD τ sig) → Buf (Elt F) ℓ)

/-- What the first result's buffer holds after point `t`. -/
theorem after8 (c : Dev nD) (t : Fin cfg0.N) : (outsAt0 m c t.val t.isLt).1 =
    tile (iblk m c 0 t) (iblk m c 1 t) (iblk m c 2 t) (iblk m c 3 t) (iblk m c 4 t) (iblk m c 5 t) (iblk m c 6 t)
      (iblk m c 7 t) := by
  by_cases h0 : t.val % 8 = 0
  · simp only [outsAt0_A m c t h0, out_A_8_eq]
  · simp only [outsAt0_B m c t h0, out_B_8_eq]

/-- What the second's does at the first point, and at a later one. -/
theorem after9_A (c : Dev nD) (t : Fin cfg0.N) (h0 : t.val % 8 = 0) : (outsAt0 m c t.val t.isLt).2 =
    gain (k0_pay3 (F := F)) (iblk m c 0 t) (iblk m c 2 t) (iblk m c 3 t) (iblk m c 4 t) (iblk m c 6 t)
      (iblk m c 7 t) := by
  simp only [outsAt0_A m c t h0, out_A_9_eq]

theorem after9_B (c : Dev nD) (t : Fin cfg0.N) (h0 : ¬t.val % 8 = 0) : (outsAt0 m c t.val t.isLt).2 =
    gain (outsAt0 m c (t.val - 1) (Nat.lt_of_le_of_lt (Nat.sub_le _ _) t.isLt)).2 (iblk m c 0 t) (iblk m c 2 t)
      (iblk m c 3 t) (iblk m c 4 t) (iblk m c 6 t) (iblk m c 7 t) := by
  simp only [outsAt0_B m c t h0, out_B_9_eq]

end

/-- The scale of each of the tile's rows. -/
theorem pay4_apply (x : Vec Ideal S256x1024 .f32) (i : Fin 256) (j : Fin 1) :
    k0_pay4 x (ix2 i j) = power (row (r := 256) (c := 1024) x i) := by
  unfold k0_pay4
  simp only [pointwise]
  rfl

theorem pay5_apply (x : Vec Ideal S256x1024 .f32) (i : Fin 256) (j : Fin 1) :
    k0_pay5 x (ix2 i j) = scale (row (r := 256) (c := 1024) x i) := by
  unfold k0_pay5
  simp only [pointwise, pay4_apply]
  rfl

theorem pay6_apply (x : Vec Ideal S256x1024 .f32) (i : Fin 256) (j : Fin 1) :
    k0_pay6 x (ix2 i j) = Ideal.ofBits .f32 0xBF000000#32 *
      Ideal.div (scale (row (r := 256) (c := 1024) x i)) (power (row (r := 256) (c := 1024) x i)) := by
  unfold k0_pay6
  simp only [pointwise, pay4_apply, pay5_apply]

/-- The weight's two parts, as they are loaded. -/
theorem ld_left (w : Vec Ideal S1024x1536 .bf16) (j k : Fin 1024) :
    View.ld w (Rect.unit ![0, 0] ![1024, 1024] inb_S1024x1536_S1024x1024_0_0) (ix2 j k) =
      row (r := 1024) (c := 1536) w j ⟨k.val, by omega⟩ :=
  congrArg w (funext fun a => Fin.ext (by
    match a with
    | ⟨0, _⟩ => show 0 + 1 * j.val = j.val; omega
    | ⟨1, _⟩ => show 0 + 1 * k.val = k.val; omega))

theorem ld_right (w : Vec Ideal S1024x1536 .bf16) (j : Fin 1024) (k : Fin 512) :
    View.ld w (Rect.unit ![0, 1024] ![1024, 512] inb_S1024x1536_S1024x512_0_1024) (ix2 j k) =
      row (r := 1024) (c := 1536) w j ⟨1024 + k.val, by omega⟩ :=
  congrArg w (funext fun a => Fin.ext (by
    match a with
    | ⟨0, _⟩ => show 0 + 1 * j.val = j.val; omega
    | ⟨1, _⟩ => show 1024 + 1 * k.val = 1024 + k.val; omega))

/-- The three products of the tile's gradients and the weights. -/
theorem pay7_apply (x2 : Vec Ideal S256x1024 .f32) (wl : Vec Ideal S1024x1024 .bf16) (x3 : Vec Ideal S256x512 .f32)
    (wr : Vec Ideal S1024x512 .bf16) (x4 : Vec Ideal S256x2176 .f32) (x7 : Vec Ideal S1024x2176 .bf16) (i : Fin 256)
    (j : Fin 1024) :
    k0_pay7 x2 wl x3 wr x4 x7 (ix2 i j) =
      ((∑ k : Fin 1024, x2 (ix2 i k) * wl (ix2 j k) : EReal) + ∑ k : Fin 512, x3 (ix2 i k) * wr (ix2 j k))
        + ∑ k : Fin 2176, x4 (ix2 i k) * x7 (ix2 j k) := by
  unfold k0_pay7
  simp only [pointwise, zero_add]

/-- What reaches an element of the tile's normed rows. -/
theorem du_apply (x2 : Vec Ideal S256x1024 .f32) (x3 : Vec Ideal S256x512 .f32) (x4 : Vec Ideal S256x2176 .f32)
    (x6 : Vec Ideal S1024x1536 .bf16) (x7 : Vec Ideal S1024x2176 .bf16) (i : Fin 256) (j : Fin 1024) :
    du x2 x3 x4 x6 x7 (ix2 i j) = pull (row (r := 256) (c := 1024) x2 i) (row (r := 256) (c := 512) x3 i)
      (row (r := 256) (c := 2176) x4 i) (row (r := 1024) (c := 1536) x6 j) (row (r := 1024) (c := 2176) x7 j) := by
  refine (pay7_apply x2 _ x3 _ x4 x7 i j).trans ?_
  exact congrArg₂ (· + ·) (congrArg₂ (· + ·)
    (Finset.sum_congr rfl fun k _ => congrArg (x2 (ix2 i k) * · : EReal → EReal) (ld_left x6 j k))
    (Finset.sum_congr rfl fun k _ => congrArg (x3 (ix2 i k) * · : EReal → EReal) (ld_right x6 j k))) rfl

/-- An element of the tile. -/
theorem tile_apply (x0 : Vec Ideal S256x1024 .f32) (x1 : Vec Ideal S1x1024 .f32) (x2 : Vec Ideal S256x1024 .f32)
    (x3 : Vec Ideal S256x512 .f32) (x4 : Vec Ideal S256x2176 .f32) (x5 : Vec Ideal S256x1024 .f32)
    (x6 : Vec Ideal S1024x1536 .bf16) (x7 : Vec Ideal S1024x2176 .bf16) (i : Fin 256) (j : Fin 1024) :
    tile x0 x1 x2 x3 x4 x5 x6 x7 (ix2 i j) =
      dx (row (r := 256) (c := 1024) x0 i) (row (r := 1) (c := 1024) x1 0)
        (fun l => pull (row (r := 256) (c := 1024) x2 i) (row (r := 256) (c := 512) x3 i)
          (row (r := 256) (c := 2176) x4 i) (row (r := 1024) (c := 1536) x6 l) (row (r := 1024) (c := 2176) x7 l))
        (x5 (ix2 i j)) j := by
  unfold tile k0_pay1
  simp only [pointwise, Nat.reduceEqDiff, ↓reduceDIte, du_apply, pay5_apply, pay6_apply, Fin.sum_univ_one]
  rfl

/-- An element of the gain's gradient after a tile. -/
theorem gain_apply (acc : Vec Ideal S1x1024 .f32) (x0 : Vec Ideal S256x1024 .f32) (x2 : Vec Ideal S256x1024 .f32)
    (x3 : Vec Ideal S256x512 .f32) (x4 : Vec Ideal S256x2176 .f32) (x6 : Vec Ideal S1024x1536 .bf16)
    (x7 : Vec Ideal S1024x2176 .bf16) (i : Fin 1) (j : Fin 1024) :
    gain acc x0 x2 x3 x4 x6 x7 (ix2 i j) = acc (ix2 i j) + ∑ a : Fin 256,
      dg (row (r := 256) (c := 1024) x0 a)
        (fun l => pull (row (r := 256) (c := 1024) x2 a) (row (r := 256) (c := 512) x3 a)
          (row (r := 256) (c := 2176) x4 a) (row (r := 1024) (c := 1536) x6 l) (row (r := 1024) (c := 2176) x7 l)) j := by
  have e : ∀ (a : Fin 256) (l : Fin 1024), k0_pay7 x2 (View.ld x6 (Rect.unit ![0, 0] ![1024, 1024] inb_S1024x1536_S1024x1024_0_0)) x3
      (View.ld x6 (Rect.unit ![0, 1024] ![1024, 512] inb_S1024x1536_S1024x512_0_1024)) x4 x7 (ix2 a l) = _ :=
    du_apply x2 x3 x4 x6 x7
  unfold gain k0_pay2 k0_pay8
  simp only [pointwise, Nat.reduceEqDiff, ↓reduceDIte, e, pay5_apply]
  rfl

variable (m : (ℓ : Loc nD τ sig) → Buf (Elt Ideal) ℓ)

/-- Point `t` of the grid works on the rows from `256 t`. -/
theorem index0 : ∀ t : Fin cfg0.N, win0_0.index t (0 : Fin 2) = t.val ∧ win0_0.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index8 : ∀ t : Fin cfg0.N, win0_8.index t (0 : Fin 2) = t.val ∧ win0_8.index t (1 : Fin 2) = 0 :=
  (by decide +kernel : ∀ t : Fin grid0.N, _)

/-- The gain, the weights and the gain's gradient are whole. -/
theorem index1 : ∀ t : Fin cfg0.N, win0_1.index t (0 : Fin 2) = 0 ∧ win0_1.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)

/-- Row `i` of the tile at point `t`, as a row of the array. -/
def spot (t : Fin cfg0.N) (i : Fin 256) : Fin 2048 := ⟨t.val * 256 + i.val, by
  have ht : t.val < 8 := t.isLt
  omega⟩

/-- The rows of the tiles are rows of the arguments. -/
theorem row0 (c : Dev nD) (t : Fin cfg0.N) (i : Fin 256) :
    row (r := 256) (c := 1024) (iblk m c 0 t) i = row (r := 2048) (c := 1024) (V m c main_arg0) (spot t i) := by
  obtain ⟨e0, e1⟩ := index0 t
  refine funext fun k => congrArg (V m c main_arg0 : Vec Ideal S2048x1024 .f32) (funext fun a => Fin.ext ?_)
  match a with
  | ⟨0, _⟩ => show win0_0.index t (0 : Fin 2) * 256 + 1 * i.val = t.val * 256 + i.val; omega
  | ⟨1, _⟩ => show win0_0.index t (1 : Fin 2) * 1024 + 1 * k.val = k.val; omega

theorem row2 (c : Dev nD) (t : Fin cfg0.N) (i : Fin 256) :
    row (r := 256) (c := 1024) (iblk m c 2 t) i = row (r := 2048) (c := 1024) (V m c main_arg2) (spot t i) := by
  obtain ⟨e0, e1⟩ := index2 t
  refine funext fun k => congrArg (V m c main_arg2 : Vec Ideal S2048x1024 .f32) (funext fun a => Fin.ext ?_)
  match a with
  | ⟨0, _⟩ => show win0_2.index t (0 : Fin 2) * 256 + 1 * i.val = t.val * 256 + i.val; omega
  | ⟨1, _⟩ => show win0_2.index t (1 : Fin 2) * 1024 + 1 * k.val = k.val; omega

theorem row3 (c : Dev nD) (t : Fin cfg0.N) (i : Fin 256) :
    row (r := 256) (c := 512) (iblk m c 3 t) i = row (r := 2048) (c := 512) (V m c main_arg3) (spot t i) := by
  obtain ⟨e0, e1⟩ := index3 t
  refine funext fun k => congrArg (V m c main_arg3 : Vec Ideal S2048x512 .f32) (funext fun a => Fin.ext ?_)
  match a with
  | ⟨0, _⟩ => show win0_3.index t (0 : Fin 2) * 256 + 1 * i.val = t.val * 256 + i.val; omega
  | ⟨1, _⟩ => show win0_3.index t (1 : Fin 2) * 512 + 1 * k.val = k.val; omega

theorem row4 (c : Dev nD) (t : Fin cfg0.N) (i : Fin 256) :
    row (r := 256) (c := 2176) (iblk m c 4 t) i = row (r := 2048) (c := 2176) (V m c main_arg4) (spot t i) := by
  obtain ⟨e0, e1⟩ := index4 t
  refine funext fun k => congrArg (V m c main_arg4 : Vec Ideal S2048x2176 .f32) (funext fun a => Fin.ext ?_)
  match a with
  | ⟨0, _⟩ => show win0_4.index t (0 : Fin 2) * 256 + 1 * i.val = t.val * 256 + i.val; omega
  | ⟨1, _⟩ => show win0_4.index t (1 : Fin 2) * 2176 + 1 * k.val = k.val; omega

theorem row5 (c : Dev nD) (t : Fin cfg0.N) (i : Fin 256) :
    row (r := 256) (c := 1024) (iblk m c 5 t) i = row (r := 2048) (c := 1024) (V m c main_arg5) (spot t i) := by
  obtain ⟨e0, e1⟩ := index5 t
  refine funext fun k => congrArg (V m c main_arg5 : Vec Ideal S2048x1024 .f32) (funext fun a => Fin.ext ?_)
  match a with
  | ⟨0, _⟩ => show win0_5.index t (0 : Fin 2) * 256 + 1 * i.val = t.val * 256 + i.val; omega
  | ⟨1, _⟩ => show win0_5.index t (1 : Fin 2) * 1024 + 1 * k.val = k.val; omega

theorem row1 (c : Dev nD) (t : Fin cfg0.N) (i : Fin 1) :
    row (r := 1) (c := 1024) (iblk m c 1 t) i = row (r := 1) (c := 1024) (V m c main_arg1) i := by
  obtain ⟨e0, e1⟩ := index1 t
  refine funext fun k => congrArg (V m c main_arg1 : Vec Ideal S1x1024 .f32) (funext fun a => Fin.ext ?_)
  match a with
  | ⟨0, _⟩ => show win0_1.index t (0 : Fin 2) * 1 + 1 * i.val = i.val; omega
  | ⟨1, _⟩ => show win0_1.index t (1 : Fin 2) * 1024 + 1 * k.val = k.val; omega

theorem row6 (c : Dev nD) (t : Fin cfg0.N) (i : Fin 1024) :
    row (r := 1024) (c := 1536) (iblk m c 6 t) i = row (r := 1024) (c := 1536) (V m c main_arg6) i := by
  obtain ⟨e0, e1⟩ := index6 t
  refine funext fun k => congrArg (V m c main_arg6 : Vec Ideal S1024x1536 .bf16) (funext fun a => Fin.ext ?_)
  match a with
  | ⟨0, _⟩ => show win0_6.index t (0 : Fin 2) * 1024 + 1 * i.val = i.val; omega
  | ⟨1, _⟩ => show win0_6.index t (1 : Fin 2) * 1536 + 1 * k.val = k.val; omega

theorem row7 (c : Dev nD) (t : Fin cfg0.N) (i : Fin 1024) :
    row (r := 1024) (c := 2176) (iblk m c 7 t) i = row (r := 1024) (c := 2176) (V m c main_arg7) i := by
  obtain ⟨e0, e1⟩ := index7 t
  refine funext fun k => congrArg (V m c main_arg7 : Vec Ideal S1024x2176 .bf16) (funext fun a => Fin.ext ?_)
  match a with
  | ⟨0, _⟩ => show win0_7.index t (0 : Fin 2) * 1024 + 1 * i.val = i.val; omega
  | ⟨1, _⟩ => show win0_7.index t (1 : Fin 2) * 2176 + 1 * k.val = k.val; omega

/-- What reaches the normed rows, from the arguments. -/
def reach (c : Dev nD) : Fin 2048 → Fin 1024 → EReal :=
  pulls (r := 2048) (V m c main_arg2) (V m c main_arg3) (V m c main_arg4) (V m c main_arg6) (V m c main_arg7)

/-- The input's gradient, from the arguments. -/
def grad (c : Dev nD) : Vec Ideal S2048x1024 .f32 :=
  inputGrad (r := 2048) (V m c main_arg0) (V m c main_arg1) (reach m c) (V m c main_arg5)

/-- The gain's. -/
def gains (c : Dev nD) : Vec Ideal S1x1024 .f32 := gainGrad (r := 2048) (V m c main_arg0) (reach m c)

/-- The tile computed at point `t`. -/
theorem tile_eq (c : Dev nD) (t : Fin cfg0.N) (i : Fin 256) (j : Fin 1024) :
    tile (iblk m c 0 t) (iblk m c 1 t) (iblk m c 2 t) (iblk m c 3 t) (iblk m c 4 t) (iblk m c 5 t) (iblk m c 6 t)
      (iblk m c 7 t) (ix2 i j) = grad m c (ix2 (spot t i) j) := by
  have h5 := congrFun (row5 m c t i) j
  refine (tile_apply _ _ _ _ _ _ _ _ i j).trans ?_
  rw [row0, row1, row2, row3, row4]
  simp only [row6, row7]
  exact congrArg (fun h => dx _ _ _ h j) h5

/-- What point `t` adds to the gain's gradient. -/
theorem gain_eq (c : Dev nD) (t : Fin cfg0.N) (acc : Vec Ideal S1x1024 .f32) (i : Fin 1) (j : Fin 1024) :
    gain acc (iblk m c 0 t) (iblk m c 2 t) (iblk m c 3 t) (iblk m c 4 t) (iblk m c 6 t) (iblk m c 7 t) (ix2 i j) =
      acc (ix2 i j) + ∑ a : Fin 256,
        dg (row (r := 2048) (c := 1024) (V m c main_arg0) (spot t a)) (reach m c (spot t a)) j := by
  refine (gain_apply _ _ _ _ _ _ _ i j).trans ?_
  simp only [row0, row2, row3, row4, row6, row7]
  rfl

/-- After the last point it holds the sum over all rows. -/
theorem last9 (c : Dev nD) (t : Fin cfg0.N) (ht : t.val + 1 = cfg0.N) : (outsAt0 m c t.val t.isLt).2 = gains m c := by
  funext y
  rw [eq_ix2 y]
  refine (Pipeline.eq_sum_fin_of_reset_step_apply_last (fun n h => (outsAt0 m c n h).2) 8 (fun _ => (0 : EReal))
    (fun s y => ∑ a : Fin 256,
      dg (row (r := 2048) (c := 1024) (V m c main_arg0) (spot s a)) (reach m c (spot s a)) (y 1))
    (fun s h0 y => ?_) (fun s h0 y => ?_) (by decide) t ht _).trans ?_
  · rw [eq_ix2 y]
    refine (congrFun (after9_A m c s h0) _).trans ((gain_eq m c s _ _ _).trans (congrArg (· + _ : EReal → EReal) ?_))
    exact Ideal.ofBits_zero_f32
  · rw [eq_ix2 y]
    exact (congrFun (after9_B m c s h0) _).trans (gain_eq m c s _ _ _)
  · rw [zero_add]
    exact (Fin.sum_univ_tiles 8 256 rfl
      fun a : Fin 2048 => dg (row (r := 2048) (c := 1024) (V m c main_arg0) a) (reach m c a) (y 1)).symm

/-- What point `t` writes back to the first result is its rows of the whole. -/
theorem flushed8_eq (c : Dev nD) (t : Fin cfg0.N) :
    (dats m 0 c).flushed 8 t = ((cfg0.win 8).blk t).view.read (Elt Ideal) (grad m c) := by
  rw [flushed8, after8]
  funext y
  obtain ⟨e0, e1⟩ := index8 t
  refine (congrArg (tile (iblk m c 0 t) (iblk m c 1 t) (iblk m c 2 t) (iblk m c 3 t) (iblk m c 4 t) (iblk m c 5 t)
    (iblk m c 6 t) (iblk m c 7 t)) (eq_ix2 (n0 := 256) (n1 := 1024) y)).trans ((tile_eq m c t (y 0) (y 1)).trans ?_)
  refine congrArg (grad m c) (funext fun a => Fin.ext ?_)
  match a with
  | ⟨0, _⟩ => show t.val * 256 + (y 0).val = win0_8.index t (0 : Fin 2) * 256 + 1 * (y 0).val; omega
  | ⟨1, _⟩ => show (y 1).val = win0_8.index t (1 : Fin 2) * 1024 + 1 * (y 1).val; omega

/-- The first result. -/
theorem final8 (c : Dev nD) : (dats m 0 c).arrAt 8 cfg0.N = grad m c :=
  (dats m 0 c).arrAt_eq_of_cover 8 _ (fun t _ => flushed8_eq m c t)
    ((by decide +kernel : (cfg0.win 8).Covers).cover _ (Memref.isWhole_whole _))

/-- What the last point writes back to the second. -/
theorem flushed9_eq (c : Dev nD) (t : Fin cfg0.N) (hf : (cfg0.win 9).flush t = true) :
    (dats m 0 c).flushed 9 t = ((cfg0.win 9).blk t).view.read (Elt Ideal) (gains m c) := by
  have h7 := (flush0_9 t).mp hf
  have ht : t.val < 8 := t.isLt
  rw [flushed9, last9 m c t (by show t.val + 1 = 8; omega)]
  funext y
  obtain ⟨e0, e1⟩ := index9 t
  refine congrArg (gains m c) (funext fun a => Fin.ext ?_)
  match a with
  | ⟨0, _⟩ => show (y 0).val = win0_9.index t (0 : Fin 2) * 1 + 1 * (y 0).val; omega
  | ⟨1, _⟩ => show (y 1).val = win0_9.index t (1 : Fin 2) * 1024 + 1 * (y 1).val; omega

/-- The second result. -/
theorem final9 (c : Dev nD) : (dats m 0 c).arrAt 9 cfg0.N = gains m c :=
  (dats m 0 c).arrAt_eq_of_cover 9 _ (fun t hf => flushed9_eq m c t hf)
    ((by decide +kernel : (cfg0.win 9).Covers).cover _ (Memref.isWhole_whole _))

/-- The kernel's run: its two results. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = inputGrad (r := 2048) (m ((c.tc : Thread nD τ).loc main_arg0))
        (m ((c.tc : Thread nD τ).loc main_arg1)) (pulls (r := 2048) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7)))
        (m ((c.tc : Thread nD τ).loc main_arg5))
      ∧ r.2.mem ((c.tc : Thread nD τ).loc main_v0_1) = gainGrad (r := 2048) (m ((c.tc : Thread nD τ).loc main_arg0))
        (pulls (r := 2048) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final8 m c), (h c).2.1.trans (final9 m c), (h c).2.2⟩)
    (run_blocks m ρ)

end Cert.InXIdeal.Back

end
-- ==== Proof.BackXRef.lean ====
/-
The reference's gradients of the input and of the norm's gain.
-/
module

public import proofs.«01_k».proof.Proof.Project
public import proofs.«01_k».proof.Proof.Gen.InXRefIdeal.Run

@[expose] public section

noncomputable section

namespace Cert.InXRefIdeal.Back

open Idealize.ShloMosaic Idealize.SL.Sem Cert.Project
open Cert.InXRefIdeal.Gen

/-- The product of the three gradients, side by side, and the two weights, side by side. -/
theorem dot_apply (q : Vec Ideal S2048x1024 .f32) (s : Vec Ideal S2048x512 .f32) (p : Vec Ideal S2048x2176 .f32)
    (w : Vec Ideal S1024x1536 .bf16) (v : Vec Ideal S1024x2176 .bf16) (i : Fin 2048) (l : Fin 1024) :
    Host.dotGeneral (F := Ideal) (φ₁ := .f32) (φ₂ := .f32) dot_S2048x3712_S1024x3712_S2048x1024_1_1_0_0_n_n none
      (concatenate S2048x3712 1 [⟨S2048x1024, q⟩, ⟨S2048x512, s⟩, ⟨S2048x2176, p⟩]
        concatenates_S2048x1024_S2048x512_S2048x2176_S2048x3712_d1 : FVec Ideal S2048x3712 .f32)
      (extf .f32 (concatenate S1024x3712 1 [⟨S1024x1536, w⟩, ⟨S1024x2176, v⟩]
        concatenates_S1024x1536_S1024x2176_S1024x3712_d1) bitsLt_bf16_f32 : FVec Ideal S1024x3712 .f32) (ix2 i l) =
      pulls (r := 2048) q s p w v i l := by
  simp only [pointwise]
  rw [Fin.sum_univ_two_halves 1536 2176 rfl, Fin.sum_univ_two_halves 1024 512 rfl]
  refine (zero_add _).trans (congrArg₂ (· + ·) (congrArg₂ (· + ·) (Finset.sum_congr rfl fun k _ => ?_)
    (Finset.sum_congr rfl fun k _ => ?_)) (Finset.sum_congr rfl fun k _ => ?_))
  · have hk := k.isLt
    exact congrArg₂ (· * · : EReal → EReal → EReal) (dif_pos (show k.val < 1024 by omega))
      (dif_pos (show k.val < 1536 by omega))
  · have hk := k.isLt
    exact congrArg₂ (· * · : EReal → EReal → EReal)
      ((dif_neg (show ¬ 1024 + k.val < 1024 by omega)).trans
        ((dif_pos (show 1024 + k.val - 1024 < 512 by omega)).trans
          (congrArg (fun z => s (ix2 i z)) (Fin.ext (show 1024 + k.val - 1024 = k.val by omega)))))
      (dif_pos (show 1024 + k.val < 1536 by omega))
  · have hk := k.isLt
    exact congrArg₂ (· * · : EReal → EReal → EReal)
      ((dif_neg (show ¬ 1536 + k.val < 1024 by omega)).trans
        ((dif_neg (show ¬ 1536 + k.val - 1024 < 512 by omega)).trans
          (congrArg (fun z => p (ix2 i z)) (Fin.ext (show 1536 + k.val - 1024 - 512 = k.val by omega)))))
      ((dif_neg (show ¬ 1536 + k.val < 1536 by omega)).trans
        (congrArg (fun z => v (ix2 l z)) (Fin.ext (show 1536 + k.val - 1536 = k.val by omega))))

variable (m : (ℓ : Loc nD τ sig) → Buf (Elt Ideal) ℓ)

/-- What reaches the normed rows, from the arguments. -/
def reach (c : Dev nD) : Fin 2048 → Fin 1024 → EReal :=
  pulls (r := 2048) (m ((c.tc : Thread nD τ).loc main_arg2)) (m ((c.tc : Thread nD τ).loc main_arg3))
    (m ((c.tc : Thread nD τ).loc main_arg4)) (m ((c.tc : Thread nD τ).loc main_arg6))
    (m ((c.tc : Thread nD τ).loc main_arg7))

/-- The first result. -/
theorem grad_eq (c : Dev nD) : Value.res_main_v39 m c =
    inputGrad (r := 2048) (m ((c.tc : Thread nD τ).loc main_arg0)) (m ((c.tc : Thread nD τ).loc main_arg1)) (reach m c)
      (m ((c.tc : Thread nD τ).loc main_arg5)) := by
  funext y
  obtain ⟨i, j, rfl⟩ : ∃ (i : Fin 2048) (j : Fin 1024), y = ix2 i j := ⟨y 0, y 1, eq_ix2 y⟩
  unfold Value.res_main_v39
  have e := dot_apply (m ((c.tc : Thread nD τ).loc main_arg2)) (m ((c.tc : Thread nD τ).loc main_arg3))
    (m ((c.tc : Thread nD τ).loc main_arg4)) (m ((c.tc : Thread nD τ).loc main_arg6))
    (m ((c.tc : Thread nD τ).loc main_arg7))
  generalize Host.dotGeneral (F := Ideal) (φ₁ := .f32) (φ₂ := .f32)
    dot_S2048x3712_S1024x3712_S2048x1024_1_1_0_0_n_n none _ _ = u at e ⊢
  simp only [pointwise, Nat.reduceEqDiff, ↓reduceDIte, Fin.sum_univ_one, zero_add, e]
  have last : ∀ h a b d : EReal, h + a + b + d = a + b + d + h := fun h a b d => by ac_rfl
  exact last _ _ _ _

/-- The reference's run: the same two functions of its arguments. -/
theorem run (ρ : Dev nD → PrngReg) :
    θ_run defs (onTc (τ := τ) (main (F := Ideal))) ⟨m, fun _ => 0, ρ⟩ fun r => ∀ c : Dev nD,
      r.2.mem ((c.tc : Thread nD τ).loc main_v39) = inputGrad (r := 2048) (m ((c.tc : Thread nD τ).loc main_arg0))
        (m ((c.tc : Thread nD τ).loc main_arg1)) (pulls (r := 2048) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7)))
        (m ((c.tc : Thread nD τ).loc main_arg5))
      ∧ r.2.mem ((c.tc : Thread nD τ).loc main_v22) = gainGrad (r := 2048) (m ((c.tc : Thread nD τ).loc main_arg0))
        (pulls (r := 2048) (m ((c.tc : Thread nD τ).loc main_arg2))
          (m ((c.tc : Thread nD τ).loc main_arg3)) (m ((c.tc : Thread nD τ).loc main_arg4))
          (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (grad_eq m c), (h c).2.1.trans (by
      funext y
      obtain ⟨i, j, rfl⟩ : ∃ (i : Fin 1) (j : Fin 1024), y = ix2 i j := ⟨y 0, y 1, eq_ix2 y⟩
      have e := dot_apply (m ((c.tc : Thread nD τ).loc main_arg2)) (m ((c.tc : Thread nD τ).loc main_arg3))
        (m ((c.tc : Thread nD τ).loc main_arg4)) (m ((c.tc : Thread nD τ).loc main_arg6))
        (m ((c.tc : Thread nD τ).loc main_arg7))
      generalize Host.dotGeneral (F := Ideal) (φ₁ := .f32) (φ₂ := .f32)
        dot_S2048x3712_S1024x3712_S2048x1024_1_1_0_0_n_n none _ _ = u at e ⊢
      simp only [pointwise, Nat.reduceEqDiff, ↓reduceDIte, zero_add, e]
      rfl), (h c).2.2⟩)
    (Value.run (F := Ideal) m ρ)

end Cert.InXRefIdeal.Back

end
-- ==== Proof.Mixer.lean ====
/-
The token shift and the inputs of the recurrence, one element at a time over the extended reals.
-/
module

public import Idealize.ShloMosaic.Lib.Pipeline.Value
public import Idealize.ShloMosaic.Lib.Pointwise

@[expose] public section

noncomputable section

namespace Cert.Mixer

open Idealize.ShloMosaic

/-- A matrix. -/
abbrev Mat (r c : ℕ) : Type := (⟨2, ![r, c]⟩ : Shape).Idx → EReal

/-- A half and the least norm, as the program holds them. -/
def half : EReal := Ideal.ofBits .f32 0x3F000000#32
def least : EReal := Ideal.ofBits .f32 0x2B8CBCCC#32

/-- The row before a token's, and zero before the first. -/
def before (p : Mat 2048 2176) (i : Fin 2048) (j : Fin 2176) : EReal :=
  if i.val = 0 then 0 else p (ix2 ⟨i.val - 1, by omega⟩ j)

/-- A token's row, mixed with the row before it. -/
def mixed (p : Mat 2048 2176) (mu : Mat 1 2176) (i : Fin 2048) (j : Fin 2176) : EReal :=
  p (ix2 i j) + mu (ix2 0 j) * (before p i j - p (ix2 i j))

/-- The smooth maximum with zero. -/
def soft (y : EReal) : EReal := max y 0 + Ideal.log (1 + Ideal.exp (-(max y (-y))))

/-- What the recurrence's state keeps, from the decay's own input. -/
def keep (z : EReal) : EReal := Ideal.exp (-Ideal.exp (-soft (-z) - half))

/-- The decay. -/
def decay (p : Mat 2048 2176) (mu : Mat 1 2176) (w0 : Mat 1 512) (up : Mat 64 512) : Mat 2048 512 := fun y =>
  keep (w0 (ix2 0 (y 1)) + ∑ k : Fin 64, Ideal.tanh (mixed p mu (y 0) ⟨2048 + k.val, by omega⟩) * up (ix2 k (y 1)))

/-- The rate at which the state learns. -/
def rate (p : Mat 2048 2176) (mu : Mat 1 2176) (a0 : Mat 1 512) (up : Mat 64 512) : Mat 2048 512 := fun y =>
  Ideal.logistic (a0 (ix2 0 (y 1)) + ∑ k : Fin 64, mixed p mu (y 0) ⟨2112 + k.val, by omega⟩ * up (ix2 k (y 1)))

/-- The key before its norm. -/
def raw (p : Mat 2048 2176) (mu : Mat 1 2176) (kk : Mat 1 512) (i : Fin 2048) (j : Fin 512) : EReal :=
  mixed p mu i ⟨512 + j.val, by omega⟩ * kk (ix2 0 j)

/-- Lane `k` of the head that lane `j` lies in. -/
def mate (j : Fin 512) (k : Fin 64) : Fin 512 := ⟨j.val / 64 * 64 + k.val, by omega⟩

/-- The key that the state forgets along, normed within each head. -/
def forget (p : Mat 2048 2176) (mu : Mat 1 2176) (kk : Mat 1 512) : Mat 2048 512 := fun y =>
  Ideal.div (raw p mu kk (y 0) (y 1))
    (max (Ideal.sqrt (∑ k : Fin 64, raw p mu kk (y 0) (mate (y 1) k) * raw p mu kk (y 0) (mate (y 1) k))) least)

/-- The key that the state learns along. -/
def learn (p : Mat 2048 2176) (mu : Mat 1 2176) (a : Mat 2048 512) (ka : Mat 1 512) : Mat 2048 512 := fun y =>
  mixed p mu (y 0) ⟨512 + (y 1).val, by have h : (y 1).val < 512 := (y 1).isLt; omega⟩ * (1 + (a y - 1) * ka (ix2 0 (y 1)))

/-- 512 columns of the mixed rows. -/
def columns (p : Mat 2048 2176) (mu : Mat 1 2176) (o : ℕ) (ho : o + 512 ≤ 2176) : Mat 2048 512 := fun y =>
  mixed p mu (y 0) ⟨o + (y 1).val, by have h : (y 1).val < 512 := (y 1).isLt; omega⟩

/-- A sum against the mask of a lane's head runs over the head's lanes. -/
theorem sum_mask (f : Fin 512 → EReal) (j : Fin 512) :
    ∑ k : Fin 512, f k * (if k.val / 64 = j.val / 64 then 1 else 0) = ∑ k : Fin 64, f (mate j k) := by
  rw [Fin.sum_univ_tiles 8 64 rfl]
  have hj : j.val / 64 < 8 := by omega
  rw [Finset.sum_eq_single (⟨j.val / 64, hj⟩ : Fin 8)]
  · refine Finset.sum_congr rfl fun k _ => ?_
    rw [if_pos (show (j.val / 64 * 64 + k.val) / 64 = j.val / 64 by omega), mul_one]
    rfl
  · intro b _ hb
    refine Finset.sum_eq_zero fun k _ => ?_
    rw [if_neg (show ¬ (b.val * 64 + k.val) / 64 = j.val / 64 from fun h => hb (Fin.ext (by
      show b.val = j.val / 64
      omega))), mul_zero]
  · exact fun h => absurd (Finset.mem_univ _) h

/-- A sum against a matrix padded with zero rows below, and above. -/
theorem sum_top (f : Fin 128 → EReal) (g : Fin 64 → EReal) :
    ∑ k : Fin 128, f k * (if h : k.val < 64 then g ⟨k.val, h⟩ else 0) = ∑ k : Fin 64, f ⟨k.val, by omega⟩ * g k := by
  rw [Fin.sum_univ_two_halves 64 64 rfl]
  refine (congrArg₂ (· + ·) (Finset.sum_congr rfl fun k _ => congrArg (f _ * ·) (dif_pos k.isLt))
    (Finset.sum_eq_zero fun k _ => ?_)).trans (add_zero _)
  rw [dif_neg (show ¬ 64 + k.val < 64 by omega), mul_zero]

theorem sum_bottom (f : Fin 128 → EReal) (g : Fin 64 → EReal) :
    ∑ k : Fin 128, f k * (if h : k.val < 64 then 0 else g ⟨k.val - 64, by omega⟩)
      = ∑ k : Fin 64, f ⟨64 + k.val, by omega⟩ * g k := by
  rw [Fin.sum_univ_two_halves 64 64 rfl]
  refine (congrArg₂ (· + ·) (Finset.sum_eq_zero fun k _ => ?_) (Finset.sum_congr rfl fun k _ => ?_)).trans (zero_add _)
  · rw [dif_pos (show k.val < 64 from k.isLt), mul_zero]
  · rw [dif_neg (show ¬ 64 + k.val < 64 by omega)]
    exact congrArg (fun z => f _ * g z) (Fin.ext (show 64 + k.val - 64 = k.val by omega))

end Cert.Mixer

end
-- ==== Proof.HeadMask.lean ====
/-
The mask of the heads that the call receives, a printed table of 512 × 512 words: one where a row's lane and a column's
lie in one head of 64, zero elsewhere. The table is a tree of matches: sixteen tables of 32 rows, each of 128 leaves of
128 words, four leaves to a row. Every leaf is one of three.
-/
module

public import proofs.«01_k».proof.PrepIdeal
public import Idealize.ShloMosaic.Lib.IdealHost
public import Idealize.ShloMosaic.Lib.Pointwise.Index
public import Mathlib.Tactic.IntervalCases

@[expose] public section

noncomputable section

namespace Cert.PrepIdeal.HeadMask

open Idealize.ShloMosaic

/-- Leaf `b` of a table whose rows lie in head `h`: the head's half of the leaf is ones if the leaf holds the head. -/
def leaf (i h b : ℕ) : BitVec 32 := if h / 2 = b % 4 then (if h % 2 = 0 then lit0t0_0 i else lit0t0_256 i) else lit0t0_1 i

/-- The three leaves. -/
theorem left_eq (i k : ℕ) (hk : k < 128) (h : i % 128 = k) : lit0t0_0 i = if k < 64 then 0x3F800000#32 else 0#32 := by
  unfold lit0t0_0
  rw [h]
  interval_cases k <;> rfl

theorem right_eq (i k : ℕ) (hk : k < 128) (h : i % 128 = k) : lit0t0_256 i = if k < 64 then 0#32 else 0x3F800000#32 := by
  unfold lit0t0_256
  rw [h]
  interval_cases k <;> rfl

theorem zero_eq (i k : ℕ) (hk : k < 128) (h : i % 128 = k) : lit0t0_1 i = 0#32 := by
  unfold lit0t0_1
  rw [h]
  interval_cases k <;> rfl

/-- The tables. -/
theorem table0 (i b : ℕ) (hb : b < 128) (h : i / 128 % 128 = b) : lit0t1_0 i = leaf i 0 b := by
  unfold lit0t1_0
  rw [h]
  interval_cases b <;> rfl

theorem table1 (i b : ℕ) (hb : b < 128) (h : i / 128 % 128 = b) : lit0t1_1 i = leaf i 0 b := by
  unfold lit0t1_1
  rw [h]
  interval_cases b <;> rfl

theorem table2 (i b : ℕ) (hb : b < 128) (h : i / 128 % 128 = b) : lit0t1_2 i = leaf i 1 b := by
  unfold lit0t1_2
  rw [h]
  interval_cases b <;> rfl

theorem table3 (i b : ℕ) (hb : b < 128) (h : i / 128 % 128 = b) : lit0t1_3 i = leaf i 1 b := by
  unfold lit0t1_3
  rw [h]
  interval_cases b <;> rfl

theorem table4 (i b : ℕ) (hb : b < 128) (h : i / 128 % 128 = b) : lit0t1_4 i = leaf i 2 b := by
  unfold lit0t1_4
  rw [h]
  interval_cases b <;> rfl

theorem table5 (i b : ℕ) (hb : b < 128) (h : i / 128 % 128 = b) : lit0t1_5 i = leaf i 2 b := by
  unfold lit0t1_5
  rw [h]
  interval_cases b <;> rfl

theorem table6 (i b : ℕ) (hb : b < 128) (h : i / 128 % 128 = b) : lit0t1_6 i = leaf i 3 b := by
  unfold lit0t1_6
  rw [h]
  interval_cases b <;> rfl

theorem table7 (i b : ℕ) (hb : b < 128) (h : i / 128 % 128 = b) : lit0t1_7 i = leaf i 3 b := by
  unfold lit0t1_7
  rw [h]
  interval_cases b <;> rfl

theorem table8 (i b : ℕ) (hb : b < 128) (h : i / 128 % 128 = b) : lit0t1_8 i = leaf i 4 b := by
  unfold lit0t1_8
  rw [h]
  interval_cases b <;> rfl

theorem table9 (i b : ℕ) (hb : b < 128) (h : i / 128 % 128 = b) : lit0t1_9 i = leaf i 4 b := by
  unfold lit0t1_9
  rw [h]
  interval_cases b <;> rfl

theorem table10 (i b : ℕ) (hb : b < 128) (h : i / 128 % 128 = b) : lit0t1_10 i = leaf i 5 b := by
  unfold lit0t1_10
  rw [h]
  interval_cases b <;> rfl

theorem table11 (i b : ℕ) (hb : b < 128) (h : i / 128 % 128 = b) : lit0t1_11 i = leaf i 5 b := by
  unfold lit0t1_11
  rw [h]
  interval_cases b <;> rfl

theorem table12 (i b : ℕ) (hb : b < 128) (h : i / 128 % 128 = b) : lit0t1_12 i = leaf i 6 b := by
  unfold lit0t1_12
  rw [h]
  interval_cases b <;> rfl

theorem table13 (i b : ℕ) (hb : b < 128) (h : i / 128 % 128 = b) : lit0t1_13 i = leaf i 6 b := by
  unfold lit0t1_13
  rw [h]
  interval_cases b <;> rfl

theorem table14 (i b : ℕ) (hb : b < 128) (h : i / 128 % 128 = b) : lit0t1_14 i = leaf i 7 b := by
  unfold lit0t1_14
  rw [h]
  interval_cases b <;> rfl

theorem table15 (i b : ℕ) (hb : b < 128) (h : i / 128 % 128 = b) : lit0t1_15 i = leaf i 7 b := by
  unfold lit0t1_15
  rw [h]
  interval_cases b <;> rfl

/-- The whole, by the table and the leaf. -/
theorem tree_eq (i a b : ℕ) (ha : a < 16) (hb : b < 128) (h : i / 16384 = a) (h' : i / 128 % 128 = b) :
    lit0t i = leaf i (a / 2) b := by
  unfold lit0t
  rw [h]
  interval_cases a
  · exact table0 i b hb h'
  · exact table1 i b hb h'
  · exact table2 i b hb h'
  · exact table3 i b hb h'
  · exact table4 i b hb h'
  · exact table5 i b hb h'
  · exact table6 i b hb h'
  · exact table7 i b hb h'
  · exact table8 i b hb h'
  · exact table9 i b hb h'
  · exact table10 i b hb h'
  · exact table11 i b hb h'
  · exact table12 i b hb h'
  · exact table13 i b hb h'
  · exact table14 i b hb h'
  · exact table15 i b hb h'

/-- The word at row `r` and column `s`. -/
theorem word_eq (r s : ℕ) (hr : r < 512) (hs : s < 512) :
    lit0t (r * 512 + s) = if r / 64 = s / 64 then 0x3F800000#32 else 0#32 := by
  have hk : s % 128 < 128 := Nat.mod_lt _ (by norm_num)
  have e : (r * 512 + s) % 128 = s % 128 := by omega
  rw [tree_eq (r * 512 + s) (r / 32) (r % 32 * 4 + s / 128) (by omega) (by omega) (by omega) (by omega)]
  unfold leaf
  rw [left_eq _ _ hk e, right_eq _ _ hk e, zero_eq _ _ hk e, show r / 32 / 2 / 2 = r / 128 by omega,
    show r / 32 / 2 % 2 = r / 64 % 2 by omega, show (r % 32 * 4 + s / 128) % 4 = s / 128 by omega]
  have er : r / 64 = r / 128 * 2 + r / 64 % 2 := by omega
  have es : s / 64 = s / 128 * 2 + s % 128 / 64 := by omega
  by_cases hq : r / 128 = s / 128
  · rw [if_pos hq]
    by_cases hp : r / 64 % 2 = 0
    · rw [if_pos hp]
      exact if_congr (by omega) rfl rfl
    · rw [if_neg hp]
      by_cases hl : s % 128 < 64
      · rw [if_pos hl, if_neg (show ¬ r / 64 = s / 64 by omega)]
      · rw [if_neg hl, if_pos (show r / 64 = s / 64 by omega)]
  · rw [if_neg hq, if_neg (show ¬ r / 64 = s / 64 by omega)]

/-- The mask, over the extended reals. -/
theorem mask_eq (r s : Fin 512) : (FloatOps.ofBits (F := Ideal) .f32 (lit0 (S512x512.rowMajor (ix2 r s))) : EReal)
    = if r.val / 64 = s.val / 64 then 1 else 0 := by
  have e : lit0 (S512x512.rowMajor (ix2 r s)) = lit0t (r.val * 512 + s.val) :=
    congrArg lit0t (Shape.rowMajor_val_two (ix2 r s))
  rw [e, word_eq r.val s.val r.isLt s.isLt]
  by_cases h : r.val / 64 = s.val / 64
  · rw [if_pos h, if_pos h]
    exact Ideal.ofBits_one_f32
  · rw [if_neg h, if_neg h]
    exact Ideal.ofBits_zero_f32

end Cert.PrepIdeal.HeadMask

end
-- ==== Proof.Mix.lean ====
/-
The token shift and the inputs of the recurrence: each result of the call, from its arguments.
-/
module

public import proofs.«01_k».proof.Proof.Mixer
public import proofs.«01_k».proof.Proof.HeadMask
public import proofs.«01_k».proof.Proof.Gen.PrepIdeal.Value
public import Idealize.ShloMosaic.Lib.Pipeline.ValueKit.Geometry
public import Idealize.ShloMosaic.Lib.Pipeline.ValueKit.Tiles
public import Idealize.ShloMosaic.Lib.KernelVsHost

@[expose] public section

noncomputable section

namespace Cert.PrepIdeal.Mix

open Idealize.ShloMosaic Idealize.SL.Sem Cert.Mixer
open Cert.PrepIdeal.Gen Cert.PrepIdeal.Value

/-- A tile of the mixed rows: a row against the one before it in the tile, the first against the last row before the
tile, or zero in the first tile. -/
theorem tile_apply (i : grid0.Coords) (x : Vec Ideal S256x2176 .f32) (l mu : Vec Ideal S1x2176 .f32) (a : Fin 256) (j : Fin 2176) :
    k0_pay3 i x l mu (ix2 a j) = (x (ix2 a j) + mu (ix2 0 j) * ((if a.val = 0 then
      if (i 0).val = 0 then 0 else l (ix2 0 j) else x (ix2 ⟨a.val - 1, by omega⟩ j)) - x (ix2 a j)) : EReal) := by
  have hi : (i 0).val < 8 := (i 0).isLt
  have ha : a.val < 256 := a.isLt
  have hb (n : ℕ) (hn : n < 256) : Scalar.cmpi .eq (BitVec.ofNat 32 n) 0#32 = if n = 0 then 1#1 else 0#1 := by
    interval_cases n <;> rfl
  unfold k0_pay3
  simp only [pointwise, Nat.reduceEqDiff, ↓reduceDIte, zero_add, List.foldl_cons, List.foldl_nil, Nat.zero_mul, Nat.zero_add]
  refine congrArg (fun z : EReal => x (ix2 a j) + mu (ix2 0 j) * (z - x (ix2 a j))) ?_
  show Scalar.select (Scalar.cmpi .eq (BitVec.ofNat 32 a.val) 0#32)
    (Scalar.select (Scalar.cmpi .eq (BitVec.ofNat 32 (i 0).val) 0#32) (0 : EReal) (l (ix2 0 j)))
    (x (ix2 ⟨(a.val + 256 - 1) % 256, Nat.mod_lt _ (by omega)⟩ j)) = _
  rw [hb _ ha, hb _ (by omega)]
  by_cases h : a.val = 0
  · rw [if_pos h, if_pos h]
    by_cases h' : (i 0).val = 0
    · rw [if_pos h', if_pos h']; rfl
    · rw [if_neg h', if_neg h']; rfl
  · rw [if_neg h, if_neg h]
    exact congrArg (fun z => x (ix2 z j)) (Fin.ext (show (a.val + 256 - 1) % 256 = a.val - 1 by omega))

/-- What the tiles of the results are, from the tile of the mixed rows. -/
theorem keep_apply (z : FVec Ideal S256x512 .f32) (a : Fin 256) (j : Fin 512) :
    k0_pay9 z k0_pay8 (ix2 a j) = keep (z (ix2 a j)) := by
  unfold k0_pay9 k0_pay8
  simp only [pointwise, Nat.reduceEqDiff, ↓reduceDIte, zero_add, zero_sub]
  rfl

theorem decay_apply (i : grid0.Coords) (x : Vec Ideal S256x2176 .f32) (l mu : Vec Ideal S1x2176 .f32)
    (w0 : Vec Ideal S1x512 .f32) (up : Vec Ideal S128x512 .f32) (a : Fin 256) (j : Fin 512) :
    k0_pay7 i x l mu w0 up (ix2 a j) = (w0 (ix2 0 j) + ∑ k : Fin 128,
      Ideal.tanh (k0_pay3 i x l mu (ix2 a ⟨2048 + k.val, by omega⟩)) * up (ix2 k j) : EReal) := by
  unfold k0_pay7 k0_pay5
  simp only [pointwise, Nat.reduceEqDiff, ↓reduceDIte, zero_add, shapeCast_self]
  exact congrArg (w0 (ix2 0 j) + · : EReal → EReal) (Finset.sum_congr rfl fun k _ => congrArg
    (fun z => Ideal.tanh (k0_pay3 i x l mu z) * up (ix2 k j) : S256x2176.Idx → EReal)
    (congrArg₂ ix2 (Fin.ext (Nat.zero_add _)) rfl))

theorem rate_apply (i : grid0.Coords) (x : Vec Ideal S256x2176 .f32) (l mu : Vec Ideal S1x2176 .f32)
    (a0 : Vec Ideal S1x512 .f32) (up : Vec Ideal S128x512 .f32) (a : Fin 256) (j : Fin 512) :
    k0_pay10 (k0_pay5 i x l mu) a0 (k0_pay6 up) (ix2 a j) = Ideal.logistic (a0 (ix2 0 j) + ∑ k : Fin 128,
      k0_pay3 i x l mu (ix2 a ⟨2048 + k.val, by omega⟩) * up (ix2 k j) : EReal) := by
  unfold k0_pay10 k0_pay5 k0_pay6
  simp only [pointwise, Nat.reduceEqDiff, ↓reduceDIte, zero_add, shapeCast_self]
  exact congrArg (fun z => Ideal.logistic (a0 (ix2 0 j) + z)) (Finset.sum_congr rfl fun k _ => congrArg
    (fun z => k0_pay3 i x l mu z * up (ix2 k j) : S256x2176.Idx → EReal)
    (congrArg₂ ix2 (Fin.ext (Nat.zero_add _)) rfl))

theorem slice_apply (i : grid0.Coords) (x : Vec Ideal S256x2176 .f32) (l mu : Vec Ideal S1x2176 .f32) (a : Fin 256) (j : Fin 512) :
    k0_pay4 i x l mu (ix2 a j) = k0_pay3 i x l mu (ix2 a ⟨512 + j.val, by omega⟩) := by
  unfold k0_pay4
  simp only [pointwise]
  exact congrArg (k0_pay3 i x l mu) (congrArg₂ ix2 (Fin.ext (Nat.zero_add _)) rfl)

theorem forget_apply (s : FVec Ideal S256x512 .f32) (kk : Vec Ideal S1x512 .f32) (on : Vec Ideal S512x512 .f32)
    (a : Fin 256) (j : Fin 512) :
    k0_pay11 s kk on (ix2 a j) = Ideal.div (s (ix2 a j) * kk (ix2 0 j) : EReal) (max (Ideal.sqrt
      (∑ k : Fin 512, s (ix2 a k) * kk (ix2 0 k) * (s (ix2 a k) * kk (ix2 0 k)) * on (ix2 k j) : EReal)) least) := by
  unfold k0_pay11
  simp only [pointwise, Nat.reduceEqDiff, ↓reduceDIte, zero_add, shapeCast_self]
  rfl

theorem learn_apply (s : FVec Ideal S256x512 .f32) (q : FVec Ideal S256x128 .f32) (a0 ka : Vec Ideal S1x512 .f32)
    (up : FVec Ideal S128x512 .f32) (a : Fin 256) (j : Fin 512) :
    k0_pay12 s q a0 ka up (ix2 a j) =
      (s (ix2 a j) * (1 + (k0_pay10 q a0 up (ix2 a j) - 1) * ka (ix2 0 j)) : EReal) := by
  unfold k0_pay12
  simp only [pointwise, Nat.reduceEqDiff, ↓reduceDIte, zero_add]

theorem first_apply (s : FVec Ideal S256x2176 .f32) (a : Fin 256) (j : Fin 512) :
    k0_pay13 s (ix2 a j) = s (ix2 a ⟨0 + j.val, by omega⟩) := by
  unfold k0_pay13
  simp only [pointwise]
  exact congrArg s (congrArg₂ ix2 (Fin.ext (Nat.zero_add _)) rfl)

theorem third_apply (s : FVec Ideal S256x2176 .f32) (a : Fin 256) (j : Fin 512) :
    k0_pay1 s (ix2 a j) = s (ix2 a ⟨1024 + j.val, by omega⟩) := by
  unfold k0_pay1
  simp only [pointwise]
  exact congrArg s (congrArg₂ ix2 (Fin.ext (Nat.zero_add _)) rfl)

theorem fourth_apply (s : FVec Ideal S256x2176 .f32) (a : Fin 256) (j : Fin 512) :
    k0_pay2 s (ix2 a j) = s (ix2 a ⟨1536 + j.val, by omega⟩) := by
  unfold k0_pay2
  simp only [pointwise]
  exact congrArg s (congrArg₂ ix2 (Fin.ext (Nat.zero_add _)) rfl)

variable (m : (ℓ : Loc nD τ sig) → Buf (Elt Ideal) ℓ)

/-- The mask of the heads, as the call receives it. -/
theorem mask_apply (c : Dev nD) (i j : Fin 512) :
    (show S512x512.Idx → EReal from V m c main_cst) (ix2 i j) = if i.val / 64 = j.val / 64 then 1 else 0 := by
  have h : V m c main_cst = (fun y => FloatOps.ofBits (F := Ideal) .f32 (lit0 (S512x512.rowMajor y)) : FVec Ideal S512x512 .f32) := by
    unfold V
    simp only [hostOps0]
    after_results_simp
    rfl
  exact (congrFun h (ix2 i j)).trans (HeadMask.mask_eq i j)

theorem top_apply (c : Dev nD) (i : Fin 128) (j : Fin 512) :
    (show S128x512.Idx → EReal from V m c main_v1) (ix2 i j) = if h : i.val < 64 then
      (show S64x512.Idx → EReal from m ((c.tc : Thread nD τ).loc main_arg6)) (ix2 ⟨i.val, h⟩ j) else 0 := by
  have h : V m c main_v1 = (concatenate S128x512 0 [⟨S64x512, m ((c.tc : Thread nD τ).loc main_arg6)⟩, ⟨S64x512,
      broadcastInDim S64x512 ![] bcast_S_S64x512 (constant S_ .f32 0x00000000#32)⟩]
      concatenates_S64x512_S64x512_S128x512_d0 : FVec Ideal S128x512 .f32) := by
    unfold V
    simp only [hostOps0]
    after_results_simp
    rfl
  rw [h]
  simp only [pointwise, Nat.reduceEqDiff, ↓reduceDIte, zero_add]

theorem bottom_apply (c : Dev nD) (i : Fin 128) (j : Fin 512) :
    (show S128x512.Idx → EReal from V m c main_v3) (ix2 i j) = if h : i.val < 64 then 0 else
      (show S64x512.Idx → EReal from m ((c.tc : Thread nD τ).loc main_arg7)) (ix2 ⟨i.val - 64, by omega⟩ j) := by
  have h : V m c main_v3 = (concatenate S128x512 0 [⟨S64x512,
      broadcastInDim S64x512 ![] bcast_S_S64x512 (constant S_ .f32 0x00000000#32)⟩,
      ⟨S64x512, m ((c.tc : Thread nD τ).loc main_arg7)⟩]
      concatenates_S64x512_S64x512_S128x512_d0 : FVec Ideal S128x512 .f32) := by
    unfold V
    simp only [hostOps0]
    after_results_simp
    rfl
  rw [h]
  simp only [pointwise, Nat.reduceEqDiff, ↓reduceDIte, zero_add]
  by_cases hi : i.val < 64
  · rw [dif_pos hi, dif_pos hi]
  · rw [dif_neg hi, dif_neg hi]
    rfl

/-- Row `a` of the tile at point `t`, as a row of the array. -/
def spot (t : Fin cfg0.N) (a : Fin 256) : Fin 2048 := ⟨t.val * 256 + a.val, by
  have ht : t.val < 8 := t.isLt
  omega⟩

theorem coords0 : ∀ t : Fin cfg0.N, (grid0.coords t 0).val = t.val := (by decide +kernel : ∀ t : Fin grid0.N, _)

/-- Point `t` of the grid works on the rows from `256 t` and reads the eight rows before them; the rest is whole. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val * 32 - 1 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = 0 ∧ win0_7.index t (1 : Fin 2) = 0 :=
  (by decide +kernel : ∀ t : Fin grid0.N, _)
theorem index8 : ∀ t : Fin cfg0.N, win0_8.index t (0 : Fin 2) = 0 ∧ win0_8.index t (1 : Fin 2) = 0 :=
  (by decide +kernel : ∀ t : Fin grid0.N, _)
theorem index9 : ∀ t : Fin cfg0.N, win0_9.index t (0 : Fin 2) = 0 ∧ win0_9.index t (1 : Fin 2) = 0 :=
  (by decide +kernel : ∀ t : Fin grid0.N, _)
theorem index10 : ∀ t : Fin cfg0.N, win0_10.index t (0 : Fin 2) = t.val ∧ win0_10.index t (1 : Fin 2) = 0 :=
  (by decide +kernel : ∀ t : Fin grid0.N, _)
theorem index11 : ∀ t : Fin cfg0.N, win0_11.index t (0 : Fin 2) = t.val ∧ win0_11.index t (1 : Fin 2) = 0 :=
  (by decide +kernel : ∀ t : Fin grid0.N, _)
theorem index12 : ∀ t : Fin cfg0.N, win0_12.index t (0 : Fin 2) = t.val ∧ win0_12.index t (1 : Fin 2) = 0 :=
  (by decide +kernel : ∀ t : Fin grid0.N, _)
theorem index13 : ∀ t : Fin cfg0.N, win0_13.index t (0 : Fin 2) = t.val ∧ win0_13.index t (1 : Fin 2) = 0 :=
  (by decide +kernel : ∀ t : Fin grid0.N, _)
theorem index14 : ∀ t : Fin cfg0.N, win0_14.index t (0 : Fin 2) = t.val ∧ win0_14.index t (1 : Fin 2) = 0 :=
  (by decide +kernel : ∀ t : Fin grid0.N, _)
theorem index15 : ∀ t : Fin cfg0.N, win0_15.index t (0 : Fin 2) = t.val ∧ win0_15.index t (1 : Fin 2) = 0 :=
  (by decide +kernel : ∀ t : Fin grid0.N, _)
theorem index16 : ∀ t : Fin cfg0.N, win0_16.index t (0 : Fin 2) = t.val ∧ win0_16.index t (1 : Fin 2) = 0 :=
  (by decide +kernel : ∀ t : Fin grid0.N, _)

/-- The blocks of the whole arrays are the arrays. -/
theorem whole2 (c : Dev nD) (t : Fin cfg0.N) : (iblk m c 2 t : Vec Ideal S1x2176 .f32) = V m c main_arg1 := by
  obtain ⟨e0, e1⟩ := index2 t
  refine funext fun y => congrArg (V m c main_arg1 : Vec Ideal S1x2176 .f32) (funext fun a => Fin.ext ?_)
  match a with
  | ⟨0, _⟩ => show win0_2.index t (0 : Fin 2) * 1 + 1 * (y 0).val = (y 0).val; omega
  | ⟨1, _⟩ => show win0_2.index t (1 : Fin 2) * 2176 + 1 * (y 1).val = (y 1).val; omega

theorem whole3 (c : Dev nD) (t : Fin cfg0.N) : (iblk m c 3 t : Vec Ideal S1x512 .f32) = V m c main_arg2 := by
  obtain ⟨e0, e1⟩ := index3 t
  refine funext fun y => congrArg (V m c main_arg2 : Vec Ideal S1x512 .f32) (funext fun a => Fin.ext ?_)
  match a with
  | ⟨0, _⟩ => show win0_3.index t (0 : Fin 2) * 1 + 1 * (y 0).val = (y 0).val; omega
  | ⟨1, _⟩ => show win0_3.index t (1 : Fin 2) * 512 + 1 * (y 1).val = (y 1).val; omega

theorem whole4 (c : Dev nD) (t : Fin cfg0.N) : (iblk m c 4 t : Vec Ideal S1x512 .f32) = V m c main_arg3 := by
  obtain ⟨e0, e1⟩ := index4 t
  refine funext fun y => congrArg (V m c main_arg3 : Vec Ideal S1x512 .f32) (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega

theorem whole5 (c : Dev nD) (t : Fin cfg0.N) : (iblk m c 5 t : Vec Ideal S1x512 .f32) = V m c main_arg4 := by
  obtain ⟨e0, e1⟩ := index5 t
  refine funext fun y => congrArg (V m c main_arg4 : Vec Ideal S1x512 .f32) (funext fun a => Fin.ext ?_)
  match a with
  | ⟨0, _⟩ => show win0_5.index t (0 : Fin 2) * 1 + 1 * (y 0).val = (y 0).val; omega
  | ⟨1, _⟩ => show win0_5.index t (1 : Fin 2) * 512 + 1 * (y 1).val = (y 1).val; omega

theorem whole6 (c : Dev nD) (t : Fin cfg0.N) : (iblk m c 6 t : Vec Ideal S1x512 .f32) = V m c main_arg5 := by
  obtain ⟨e0, e1⟩ := index6 t
  refine funext fun y => congrArg (V m c main_arg5 : Vec Ideal S1x512 .f32) (funext fun a => Fin.ext ?_)
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem whole7 (c : Dev nD) (t : Fin cfg0.N) : (iblk m c 7 t : Vec Ideal S128x512 .f32) = V m c main_v1 := by
  obtain ⟨e0, e1⟩ := index7 t
  refine funext fun y => congrArg (V m c main_v1 : Vec Ideal S128x512 .f32) (funext fun a => Fin.ext ?_)
  match a with
  | ⟨0, _⟩ => show win0_7.index t (0 : Fin 2) * 128 + 1 * (y 0).val = (y 0).val; omega
  | ⟨1, _⟩ => show win0_7.index t (1 : Fin 2) * 512 + 1 * (y 1).val = (y 1).val; omega

theorem whole8 (c : Dev nD) (t : Fin cfg0.N) : (iblk m c 8 t : Vec Ideal S128x512 .f32) = V m c main_v3 := by
  obtain ⟨e0, e1⟩ := index8 t
  refine funext fun y => congrArg (V m c main_v3 : Vec Ideal S128x512 .f32) (funext fun a => Fin.ext ?_)
  match a with
  | ⟨0, _⟩ => show win0_8.index t (0 : Fin 2) * 128 + 1 * (y 0).val = (y 0).val; omega
  | ⟨1, _⟩ => show win0_8.index t (1 : Fin 2) * 512 + 1 * (y 1).val = (y 1).val; omega

theorem whole9 (c : Dev nD) (t : Fin cfg0.N) : (iblk m c 9 t : Vec Ideal S512x512 .f32) = V m c main_cst := by
  obtain ⟨e0, e1⟩ := index9 t
  refine funext fun y => congrArg (V m c main_cst : Vec Ideal S512x512 .f32) (funext fun a => Fin.ext ?_)
  match a with
  | ⟨0, _⟩ => show win0_9.index t (0 : Fin 2) * 512 + 1 * (y 0).val = (y 0).val; omega
  | ⟨1, _⟩ => show win0_9.index t (1 : Fin 2) * 512 + 1 * (y 1).val = (y 1).val; omega

/-- The rows of a tile, and the row before them, are rows of the argument. -/
theorem rows0 (c : Dev nD) (t : Fin cfg0.N) (a : Fin 256) (j : Fin 2176) :
    (iblk m c 0 t : Vec Ideal S256x2176 .f32) (ix2 a j) = (V m c main_arg0 : Vec Ideal S2048x2176 .f32) (ix2 (spot t a) j) := by
  obtain ⟨e0, e1⟩ := index0 t
  refine congrArg (V m c main_arg0 : Vec Ideal S2048x2176 .f32) (funext fun b => Fin.ext ?_)
  match b with
  | ⟨0, _⟩ => show win0_0.index t (0 : Fin 2) * 256 + 1 * a.val = t.val * 256 + a.val; omega
  | ⟨1, _⟩ => show win0_0.index t (1 : Fin 2) * 2176 + 1 * j.val = j.val; omega

theorem rows1 (c : Dev nD) (t : Fin cfg0.N) (ht : t.val ≠ 0) (j : Fin 2176) :
    (View.ld (Val := Elt Ideal) (iblk m c 1 t : Vec Ideal S8x2176 .f32) r0_1 : Vec Ideal S1x2176 .f32) (ix2 0 j)
      = (V m c main_arg0 : Vec Ideal S2048x2176 .f32) (ix2 ⟨t.val * 256 - 1, by
        have h : t.val < 8 := t.isLt
        omega⟩ j) := by
  obtain ⟨e0, e1⟩ := index1 t
  refine (View.ld_unit_apply_of (iblk m c 1 t : Vec Ideal S8x2176 .f32) ![7, 0] S1x2176.size inb_S8x2176_S1x2176_7_0
    (ix2 0 j) (ix2 7 j) (fun a => match a with
      | ⟨0, _⟩ => rfl
      | ⟨1, _⟩ => (Nat.zero_add j.val).symm)).trans ?_
  refine congrArg (V m c main_arg0 : Vec Ideal S2048x2176 .f32) (funext fun b => Fin.ext ?_)
  match b with
  | ⟨0, _⟩ => show win0_1.index t (0 : Fin 2) * 8 + 1 * 7 = t.val * 256 - 1; omega
  | ⟨1, _⟩ => show win0_1.index t (1 : Fin 2) * 2176 + 1 * j.val = j.val; omega

/-- The tile of the mixed rows at point `t` is its rows of the mixed rows. -/
theorem point (c : Dev nD) (t : Fin cfg0.N) (a : Fin 256) (j : Fin 2176) :
    k0_pay3 (grid0.coords t) (iblk m c 0 t) (View.ld (iblk m c 1 t) r0_1) (iblk m c 2 t) (ix2 a j)
      = mixed (V m c main_arg0) (V m c main_arg1) (spot t a) j := by
  refine (tile_apply _ _ _ _ a j).trans ?_
  rw [whole2, rows0, coords0]
  refine congrArg (fun z : EReal => (show S2048x2176.Idx → EReal from V m c main_arg0) (ix2 (spot t a) j)
    + (show S1x2176.Idx → EReal from V m c main_arg1) (ix2 0 j)
      * (z - (show S2048x2176.Idx → EReal from V m c main_arg0) (ix2 (spot t a) j))) ?_
  unfold before
  have hs : (spot t a).val = t.val * 256 + a.val := rfl
  by_cases h : a.val = 0
  · rw [if_pos h]
    by_cases h' : t.val = 0
    · rw [if_pos h', if_pos (show (spot t a).val = 0 by omega)]
    · rw [if_neg h', if_neg (show ¬ (spot t a).val = 0 by omega)]
      exact (rows1 m c t h' j).trans (congrArg (fun z => (V m c main_arg0 : Vec Ideal S2048x2176 .f32) (ix2 z j))
        (Fin.ext (show t.val * 256 - 1 = t.val * 256 + a.val - 1 by omega)))
  · rw [if_neg h, if_neg (show ¬ (spot t a).val = 0 by omega)]
    exact (rows0 m c t _ j).trans (congrArg (fun z => (V m c main_arg0 : Vec Ideal S2048x2176 .f32) (ix2 z j))
      (Fin.ext (show t.val * 256 + (a.val - 1) = t.val * 256 + a.val - 1 by omega)))

/-- The buffers after a point. -/
theorem out10_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_10 i x0 x1 x2 x3 x4 x5 x6 x7 x8 x9 = k0_pay13 (k0_pay3 i x0 (View.ld x1 r0_1) x2) := by
  have hz : (![0, 0] : Fin 2 → ℕ) = fun _ => 0 := funext fun a => match a with | 0 => rfl | 1 => rfl
  unfold out0_10
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out11_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_11 i x0 x1 x2 x3 x4 x5 x6 x7 x8 x9 = k0_pay9 (k0_pay7 i x0 (View.ld x1 r0_1) x2 x3 x7) k0_pay8 := by
  have hz : (![0, 0] : Fin 2 → ℕ) = fun _ => 0 := funext fun a => match a with | 0 => rfl | 1 => rfl
  unfold out0_11
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out12_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_12 i x0 x1 x2 x3 x4 x5 x6 x7 x8 x9 = k0_pay12 (k0_pay4 i x0 (View.ld x1 r0_1) x2) (k0_pay5 i x0 (View.ld x1 r0_1) x2) x4 x6 (k0_pay6 x8) := by
  have hz : (![0, 0] : Fin 2 → ℕ) = fun _ => 0 := funext fun a => match a with | 0 => rfl | 1 => rfl
  unfold out0_12
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out13_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_13 i x0 x1 x2 x3 x4 x5 x6 x7 x8 x9 = k0_pay1 (k0_pay3 i x0 (View.ld x1 r0_1) x2) := by
  have hz : (![0, 0] : Fin 2 → ℕ) = fun _ => 0 := funext fun a => match a with | 0 => rfl | 1 => rfl
  unfold out0_13
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out14_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_14 i x0 x1 x2 x3 x4 x5 x6 x7 x8 x9 = k0_pay11 (k0_pay4 i x0 (View.ld x1 r0_1) x2) x5 x9 := by
  have hz : (![0, 0] : Fin 2 → ℕ) = fun _ => 0 := funext fun a => match a with | 0 => rfl | 1 => rfl
  unfold out0_14
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out15_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_15 i x0 x1 x2 x3 x4 x5 x6 x7 x8 x9 = k0_pay10 (k0_pay5 i x0 (View.ld x1 r0_1) x2) x4 (k0_pay6 x8) := by
  have hz : (![0, 0] : Fin 2 → ℕ) = fun _ => 0 := funext fun a => match a with | 0 => rfl | 1 => rfl
  unfold out0_15
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

theorem out16_eq (i : grid0.Coords) (x0 : Vec Ideal S256x2176 .f32) (x1 : Vec Ideal S8x2176 .f32) (x2 : Vec Ideal S1x2176 .f32) (x3 : Vec Ideal S1x512 .f32) (x4 : Vec Ideal S1x512 .f32) (x5 : Vec Ideal S1x512 .f32) (x6 : Vec Ideal S1x512 .f32) (x7 : Vec Ideal S128x512 .f32) (x8 : Vec Ideal S128x512 .f32) (x9 : Vec Ideal S512x512 .f32) :
    out0_16 i x0 x1 x2 x3 x4 x5 x6 x7 x8 x9 = k0_pay2 (k0_pay3 i x0 (View.ld x1 r0_1) x2) := by
  have hz : (![0, 0] : Fin 2 → ℕ) = fun _ => 0 := funext fun a => match a with | 0 => rfl | 1 => rfl
  unfold out0_16
  rw [View.canon_unit_zero hz]
  simp only [k0_pay14, k0_pay15, k0_pay16, k0_pay17, View.ld_unit_zero (S := S256x2176) hz, View.ld_unit_zero (S := S1x2176) hz,
    View.ld_unit_zero (S := S1x512) hz, View.ld_unit_zero (S := S128x512) hz, View.ld_unit_zero (S := S512x512) hz]

/-- The rate's tile at point `t` is its rows of the rate. -/
theorem rate_point (c : Dev nD) (t : Fin cfg0.N) (a : Fin 256) (j : Fin 512) :
    k0_pay10 (k0_pay5 (grid0.coords t) (iblk m c 0 t) (View.ld (iblk m c 1 t) r0_1) (iblk m c 2 t)) (iblk m c 4 t)
      (k0_pay6 (iblk m c 8 t)) (ix2 a j)
      = rate (V m c main_arg0) (V m c main_arg1) (V m c main_arg3) (V m c main_arg7) (ix2 (spot t a) j) := by
  refine (rate_apply _ _ _ _ _ _ a j).trans (congrArg Ideal.logistic ?_)
  rw [whole4, whole8]
  refine congrArg (fun z : EReal => (show S1x512.Idx → EReal from V m c main_arg3) (ix2 0 j) + z) ?_
  refine (Finset.sum_congr rfl fun k _ => congrArg₂ (· * · : EReal → EReal → EReal) (point m c t a _)
    (bottom_apply m c k j)).trans ?_
  refine (sum_bottom (fun k => mixed (V m c main_arg0) (V m c main_arg1) (spot t a) ⟨2048 + k.val, by omega⟩)
    (fun k => (show S64x512.Idx → EReal from m ((c.tc : Thread nD τ).loc main_arg7)) (ix2 k j))).trans ?_
  exact Finset.sum_congr rfl fun k _ => congrArg₂ (· * · : EReal → EReal → EReal)
    (congrArg (mixed (V m c main_arg0) (V m c main_arg1) (spot t a)) (Fin.ext (show 2048 + (64 + k.val) = 2112 + k.val by omega)))
    (congrFun (V_main_arg7 m c).symm (ix2 k j))

/-- The tile that point `t` leaves for each result is its rows of that result. -/
theorem tile10 (c : Dev nD) (t : Fin cfg0.N) (a : Fin 256) (j : Fin 512) :
    out0_10 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = columns (V m c main_arg0) (V m c main_arg1) 0 (by norm_num) (ix2 (spot t a) j) := by
  rw [out10_eq]
  exact (first_apply _ a j).trans (point m c t a _)

theorem tile11 (c : Dev nD) (t : Fin cfg0.N) (a : Fin 256) (j : Fin 512) :
    out0_11 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = decay (V m c main_arg0) (V m c main_arg1) (V m c main_arg2) (V m c main_arg6) (ix2 (spot t a) j) := by
  rw [out11_eq]
  refine (keep_apply _ a j).trans (congrArg keep ((decay_apply _ _ _ _ _ _ a j).trans ?_))
  rw [whole3, whole7]
  refine congrArg (fun z : EReal => (show S1x512.Idx → EReal from V m c main_arg2) (ix2 0 j) + z) ?_
  refine (Finset.sum_congr rfl fun k _ => congrArg₂ (fun y z : EReal => Ideal.tanh y * z) (point m c t a _)
    (top_apply m c k j)).trans ?_
  refine (sum_top (fun k => Ideal.tanh (mixed (V m c main_arg0) (V m c main_arg1) (spot t a) ⟨2048 + k.val, by omega⟩))
    (fun k => (show S64x512.Idx → EReal from m ((c.tc : Thread nD τ).loc main_arg6)) (ix2 k j))).trans ?_
  exact Finset.sum_congr rfl fun k _ => congrArg (Ideal.tanh _ * · : EReal → EReal) (congrFun (V_main_arg6 m c).symm (ix2 k j))

theorem tile12 (c : Dev nD) (t : Fin cfg0.N) (a : Fin 256) (j : Fin 512) :
    out0_12 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = learn (V m c main_arg0) (V m c main_arg1) (rate (V m c main_arg0) (V m c main_arg1) (V m c main_arg3) (V m c main_arg7)) (V m c main_arg5) (ix2 (spot t a) j) := by
  rw [out12_eq]
  refine (learn_apply _ _ _ _ _ a j).trans ?_
  exact congrArg₂ (· * · : EReal → EReal → EReal) ((slice_apply _ _ _ _ a j).trans (point m c t a _))
    (congrArg (1 + · : EReal → EReal) (congrArg₂ (· * · : EReal → EReal → EReal)
      (congrArg (· - 1 : EReal → EReal) (rate_point m c t a j)) (congrFun (whole6 m c t) (ix2 0 j))))

theorem tile13 (c : Dev nD) (t : Fin cfg0.N) (a : Fin 256) (j : Fin 512) :
    out0_13 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = columns (V m c main_arg0) (V m c main_arg1) 1024 (by norm_num) (ix2 (spot t a) j) := by
  rw [out13_eq]
  exact (third_apply _ a j).trans (point m c t a _)

theorem tile14 (c : Dev nD) (t : Fin cfg0.N) (a : Fin 256) (j : Fin 512) :
    out0_14 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = forget (V m c main_arg0) (V m c main_arg1) (V m c main_arg4) (ix2 (spot t a) j) := by
  rw [out14_eq]
  refine (forget_apply _ _ _ a j).trans ?_
  have h (k : Fin 512) : (k0_pay4 (grid0.coords t) (iblk m c 0 t) (View.ld (iblk m c 1 t) r0_1) (iblk m c 2 t) (ix2 a k)
      * (iblk m c 5 t : Vec Ideal S1x512 .f32) (ix2 0 k) : EReal)
        = raw (V m c main_arg0) (V m c main_arg1) (V m c main_arg4) (spot t a) k := by
    rw [slice_apply, point, whole5]
    rfl
  refine congrArg₂ (fun y z : EReal => Ideal.div y (max (Ideal.sqrt z) least)) (h j) ?_
  refine (Finset.sum_congr rfl fun k _ => congrArg₂ (· * · : EReal → EReal → EReal)
    (congrArg₂ (· * · : EReal → EReal → EReal) (h k) (h k)) ?_).trans (sum_mask _ j)
  rw [whole9]
  exact mask_apply m c k j

theorem tile15 (c : Dev nD) (t : Fin cfg0.N) (a : Fin 256) (j : Fin 512) :
    out0_15 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = rate (V m c main_arg0) (V m c main_arg1) (V m c main_arg3) (V m c main_arg7) (ix2 (spot t a) j) := by
  rw [out15_eq]
  exact rate_point m c t a j

theorem tile16 (c : Dev nD) (t : Fin cfg0.N) (a : Fin 256) (j : Fin 512) :
    out0_16 (grid0.coords t) (iblk m c 0 t) (iblk m c 1 t) (iblk m c 2 t) (iblk m c 3 t) (iblk m c 4 t) (iblk m c 5 t) (iblk m c 6 t) (iblk m c 7 t)
      (iblk m c 8 t) (iblk m c 9 t) (ix2 a j)
      = columns (V m c main_arg0) (V m c main_arg1) 1536 (by norm_num) (ix2 (spot t a) j) := by
  rw [out16_eq]
  exact (fourth_apply _ a j).trans (point m c t a _)

/-- What point `t` writes back to each. -/
theorem written10 (c : Dev nD) (t : Fin cfg0.N) : (dats m 0 c).flushed 10 t
    = ((cfg0.win 10).blk t).view.read (Elt Ideal) (columns (V m c main_arg0) (V m c main_arg1) 0 (by norm_num) : Vec Ideal S2048x512 .f32) := by
  rw [flushed10]
  funext y
  obtain ⟨e0, e1⟩ := index10 t
  refine (congrArg _ (eq_ix2 y)).trans ((tile10 m c t (y 0) (y 1)).trans (congrArg (columns (V m c main_arg0) (V m c main_arg1) 0 (by norm_num)) (funext fun a => Fin.ext ?_)))
  match a with
  | ⟨0, _⟩ => show t.val * 256 + (y 0).val = win0_10.index t (0 : Fin 2) * 256 + 1 * (y 0).val; omega
  | ⟨1, _⟩ => show (y 1).val = win0_10.index t (1 : Fin 2) * 512 + 1 * (y 1).val; omega

theorem written11 (c : Dev nD) (t : Fin cfg0.N) : (dats m 0 c).flushed 11 t
    = ((cfg0.win 11).blk t).view.read (Elt Ideal) (decay (V m c main_arg0) (V m c main_arg1) (V m c main_arg2) (V m c main_arg6) : Vec Ideal S2048x512 .f32) := by
  rw [flushed11]
  funext y
  obtain ⟨e0, e1⟩ := index11 t
  refine (congrArg _ (eq_ix2 y)).trans ((tile11 m c t (y 0) (y 1)).trans (congrArg (decay (V m c main_arg0) (V m c main_arg1) (V m c main_arg2) (V m c main_arg6)) (funext fun a => Fin.ext ?_)))
  match a with
  | ⟨0, _⟩ => show t.val * 256 + (y 0).val = win0_11.index t (0 : Fin 2) * 256 + 1 * (y 0).val; omega
  | ⟨1, _⟩ => show (y 1).val = win0_11.index t (1 : Fin 2) * 512 + 1 * (y 1).val; omega

theorem written12 (c : Dev nD) (t : Fin cfg0.N) : (dats m 0 c).flushed 12 t
    = ((cfg0.win 12).blk t).view.read (Elt Ideal) (learn (V m c main_arg0) (V m c main_arg1) (rate (V m c main_arg0) (V m c main_arg1) (V m c main_arg3) (V m c main_arg7)) (V m c main_arg5) : Vec Ideal S2048x512 .f32) := by
  rw [flushed12]
  funext y
  obtain ⟨e0, e1⟩ := index12 t
  refine (congrArg _ (eq_ix2 y)).trans ((tile12 m c t (y 0) (y 1)).trans (congrArg (learn (V m c main_arg0) (V m c main_arg1) (rate (V m c main_arg0) (V m c main_arg1) (V m c main_arg3) (V m c main_arg7)) (V m c main_arg5)) (funext fun a => Fin.ext ?_)))
  match a with
  | ⟨0, _⟩ => show t.val * 256 + (y 0).val = win0_12.index t (0 : Fin 2) * 256 + 1 * (y 0).val; omega
  | ⟨1, _⟩ => show (y 1).val = win0_12.index t (1 : Fin 2) * 512 + 1 * (y 1).val; omega

theorem written13 (c : Dev nD) (t : Fin cfg0.N) : (dats m 0 c).flushed 13 t
    = ((cfg0.win 13).blk t).view.read (Elt Ideal) (columns (V m c main_arg0) (V m c main_arg1) 1024 (by norm_num) : Vec Ideal S2048x512 .f32) := by
  rw [flushed13]
  funext y
  obtain ⟨e0, e1⟩ := index13 t
  refine (congrArg _ (eq_ix2 y)).trans ((tile13 m c t (y 0) (y 1)).trans (congrArg (columns (V m c main_arg0) (V m c main_arg1) 1024 (by norm_num)) (funext fun a => Fin.ext ?_)))
  match a with
  | ⟨0, _⟩ => show t.val * 256 + (y 0).val = win0_13.index t (0 : Fin 2) * 256 + 1 * (y 0).val; omega
  | ⟨1, _⟩ => show (y 1).val = win0_13.index t (1 : Fin 2) * 512 + 1 * (y 1).val; omega

theorem written14 (c : Dev nD) (t : Fin cfg0.N) : (dats m 0 c).flushed 14 t
    = ((cfg0.win 14).blk t).view.read (Elt Ideal) (forget (V m c main_arg0) (V m c main_arg1) (V m c main_arg4) : Vec Ideal S2048x512 .f32) := by
  rw [flushed14]
  funext y
  obtain ⟨e0, e1⟩ := index14 t
  refine (congrArg _ (eq_ix2 y)).trans ((tile14 m c t (y 0) (y 1)).trans (congrArg (forget (V m c main_arg0) (V m c main_arg1) (V m c main_arg4)) (funext fun a => Fin.ext ?_)))
  match a with
  | ⟨0, _⟩ => show t.val * 256 + (y 0).val = win0_14.index t (0 : Fin 2) * 256 + 1 * (y 0).val; omega
  | ⟨1, _⟩ => show (y 1).val = win0_14.index t (1 : Fin 2) * 512 + 1 * (y 1).val; omega

theorem written15 (c : Dev nD) (t : Fin cfg0.N) : (dats m 0 c).flushed 15 t
    = ((cfg0.win 15).blk t).view.read (Elt Ideal) (rate (V m c main_arg0) (V m c main_arg1) (V m c main_arg3) (V m c main_arg7) : Vec Ideal S2048x512 .f32) := by
  rw [flushed15]
  funext y
  obtain ⟨e0, e1⟩ := index15 t
  refine (congrArg _ (eq_ix2 y)).trans ((tile15 m c t (y 0) (y 1)).trans (congrArg (rate (V m c main_arg0) (V m c main_arg1) (V m c main_arg3) (V m c main_arg7)) (funext fun a => Fin.ext ?_)))
  match a with
  | ⟨0, _⟩ => show t.val * 256 + (y 0).val = win0_15.index t (0 : Fin 2) * 256 + 1 * (y 0).val; omega
  | ⟨1, _⟩ => show (y 1).val = win0_15.index t (1 : Fin 2) * 512 + 1 * (y 1).val; omega

theorem written16 (c : Dev nD) (t : Fin cfg0.N) : (dats m 0 c).flushed 16 t
    = ((cfg0.win 16).blk t).view.read (Elt Ideal) (columns (V m c main_arg0) (V m c main_arg1) 1536 (by norm_num) : Vec Ideal S2048x512 .f32) := by
  rw [flushed16]
  funext y
  obtain ⟨e0, e1⟩ := index16 t
  refine (congrArg _ (eq_ix2 y)).trans ((tile16 m c t (y 0) (y 1)).trans (congrArg (columns (V m c main_arg0) (V m c main_arg1) 1536 (by norm_num)) (funext fun a => Fin.ext ?_)))
  match a with
  | ⟨0, _⟩ => show t.val * 256 + (y 0).val = win0_16.index t (0 : Fin 2) * 256 + 1 * (y 0).val; omega
  | ⟨1, _⟩ => show (y 1).val = win0_16.index t (1 : Fin 2) * 512 + 1 * (y 1).val; omega

/-- The arrays after the run. -/
theorem final10 (c : Dev nD) : (dats m 0 c).arrAt 10 cfg0.N
    = columns (m ((c.tc : Thread nD τ).loc main_arg0)) (m ((c.tc : Thread nD τ).loc main_arg1)) 0 (by norm_num) := by
  rw [← V_main_arg0 m c, ← V_main_arg1 m c]
  exact (dats m 0 c).arrAt_eq_of_cover 10 _ (fun t _ => written10 m c t)
    ((by decide +kernel : (cfg0.win 10).Covers).cover _ (Memref.isWhole_whole _))
theorem final11 (c : Dev nD) : (dats m 0 c).arrAt 11 cfg0.N
    = decay (m ((c.tc : Thread nD τ).loc main_arg0)) (m ((c.tc : Thread nD τ).loc main_arg1)) (m ((c.tc : Thread nD τ).loc main_arg2)) (m ((c.tc : Thread nD τ).loc main_arg6)) := by
  rw [← V_main_arg0 m c, ← V_main_arg1 m c, ← V_main_arg2 m c, ← V_main_arg6 m c]
  exact (dats m 0 c).arrAt_eq_of_cover 11 _ (fun t _ => written11 m c t)
    ((by decide +kernel : (cfg0.win 11).Covers).cover _ (Memref.isWhole_whole _))
theorem final12 (c : Dev nD) : (dats m 0 c).arrAt 12 cfg0.N
    = learn (m ((c.tc : Thread nD τ).loc main_arg0)) (m ((c.tc : Thread nD τ).loc main_arg1)) (rate (m ((c.tc : Thread nD τ).loc main_arg0)) (m ((c.tc : Thread nD τ).loc main_arg1)) (m ((c.tc : Thread nD τ).loc main_arg3)) (m ((c.tc : Thread nD τ).loc main_arg7))) (m ((c.tc : Thread nD τ).loc main_arg5)) := by
  rw [← V_main_arg0 m c, ← V_main_arg1 m c, ← V_main_arg3 m c, ← V_main_arg5 m c, ← V_main_arg7 m c]
  exact (dats m 0 c).arrAt_eq_of_cover 12 _ (fun t _ => written12 m c t)
    ((by decide +kernel : (cfg0.win 12).Covers).cover _ (Memref.isWhole_whole _))
theorem final13 (c : Dev nD) : (dats m 0 c).arrAt 13 cfg0.N
    = columns (m ((c.tc : Thread nD τ).loc main_arg0)) (m ((c.tc : Thread nD τ).loc main_arg1)) 1024 (by norm_num) := by
  rw [← V_main_arg0 m c, ← V_main_arg1 m c]
  exact (dats m 0 c).arrAt_eq_of_cover 13 _ (fun t _ => written13 m c t)
    ((by decide +kernel : (cfg0.win 13).Covers).cover _ (Memref.isWhole_whole _))
theorem final14 (c : Dev nD) : (dats m 0 c).arrAt 14 cfg0.N
    = forget (m ((c.tc : Thread nD τ).loc main_arg0)) (m ((c.tc : Thread nD τ).loc main_arg1)) (m ((c.tc : Thread nD τ).loc main_arg4)) := by
  rw [← V_main_arg0 m c, ← V_main_arg1 m c, ← V_main_arg4 m c]
  exact (dats m 0 c).arrAt_eq_of_cover 14 _ (fun t _ => written14 m c t)
    ((by decide +kernel : (cfg0.win 14).Covers).cover _ (Memref.isWhole_whole _))
theorem final15 (c : Dev nD) : (dats m 0 c).arrAt 15 cfg0.N
    = rate (m ((c.tc : Thread nD τ).loc main_arg0)) (m ((c.tc : Thread nD τ).loc main_arg1)) (m ((c.tc : Thread nD τ).loc main_arg3)) (m ((c.tc : Thread nD τ).loc main_arg7)) := by
  rw [← V_main_arg0 m c, ← V_main_arg1 m c, ← V_main_arg3 m c, ← V_main_arg7 m c]
  exact (dats m 0 c).arrAt_eq_of_cover 15 _ (fun t _ => written15 m c t)
    ((by decide +kernel : (cfg0.win 15).Covers).cover _ (Memref.isWhole_whole _))
theorem final16 (c : Dev nD) : (dats m 0 c).arrAt 16 cfg0.N
    = columns (m ((c.tc : Thread nD τ).loc main_arg0)) (m ((c.tc : Thread nD τ).loc main_arg1)) 1536 (by norm_num) := by
  rw [← V_main_arg0 m c, ← V_main_arg1 m c]
  exact (dats m 0 c).arrAt_eq_of_cover 16 _ (fun t _ => written16 m c t)
    ((by decide +kernel : (cfg0.win 16).Covers).cover _ (Memref.isWhole_whole _))

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v4_0)
        = columns (m ((c.tc : Thread nD τ).loc main_arg0)) (m ((c.tc : Thread nD τ).loc main_arg1)) 0 (by norm_num)
      ∧ r.2.mem ((c.tc : Thread nD τ).loc main_v4_1)
        = decay (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v4_2)
        = learn (m ((c.tc : Thread nD τ).loc main_arg0)) (m ((c.tc : Thread nD τ).loc main_arg1)) (rate (m ((c.tc : Thread nD τ).loc main_arg0)) (m ((c.tc : Thread nD τ).loc main_arg1)) (m ((c.tc : Thread nD τ).loc main_arg3)) (m ((c.tc : Thread nD τ).loc main_arg7))) (m ((c.tc : Thread nD τ).loc main_arg5))
      ∧ r.2.mem ((c.tc : Thread nD τ).loc main_v4_3)
        = columns (m ((c.tc : Thread nD τ).loc main_arg0)) (m ((c.tc : Thread nD τ).loc main_arg1)) 1024 (by norm_num)
      ∧ r.2.mem ((c.tc : Thread nD τ).loc main_v4_4)
        = forget (m ((c.tc : Thread nD τ).loc main_arg0)) (m ((c.tc : Thread nD τ).loc main_arg1)) (m ((c.tc : Thread nD τ).loc main_arg4))
      ∧ r.2.mem ((c.tc : Thread nD τ).loc main_v4_5)
        = rate (m ((c.tc : Thread nD τ).loc main_arg0)) (m ((c.tc : Thread nD τ).loc main_arg1)) (m ((c.tc : Thread nD τ).loc main_arg3)) (m ((c.tc : Thread nD τ).loc main_arg7))
      ∧ r.2.mem ((c.tc : Thread nD τ).loc main_v4_6)
        = columns (m ((c.tc : Thread nD τ).loc main_arg0)) (m ((c.tc : Thread nD τ).loc main_arg1)) 1536 (by norm_num)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (final10 m c),
    (h c).2.1.trans (final11 m c),
    (h c).2.2.1.trans (final12 m c),
    (h c).2.2.2.1.trans (final13 m c),
    (h c).2.2.2.2.1.trans (final14 m c),
    (h c).2.2.2.2.2.1.trans (final15 m c),
    (h c).2.2.2.2.2.2.1.trans (final16 m c),
    (h c).2.2.2.2.2.2.2⟩) (run_blocks m ρ)

end Cert.PrepIdeal.Mix

end
-- ==== Proof.MixRef.lean ====
/-
The reference's token shift and inputs of the recurrence.
-/
module

public import proofs.«01_k».proof.Proof.Mixer
public import proofs.«01_k».proof.Proof.Gen.PrepRefIdeal.Run
public import Idealize.ShloMosaic.Lib.KernelVsHost

@[expose] public section

noncomputable section

namespace Cert.PrepRefIdeal.Mix

open Idealize.ShloMosaic Idealize.SL.Sem Cert.Mixer
open Cert.PrepRefIdeal.Gen

/-- The mixed rows. -/
def rows (p : Vec Ideal S2048x2176 .f32) (mu : Vec Ideal S1x2176 .f32) : FVec Ideal S2048x2176 .f32 :=
  addf p (mulf (broadcastInDim S2048x2176 ![0, 1] bcast_S1x2176_S2048x2176_0_1 mu)
    (subf (extractStridedSlice S2048x2176 ![0, 0] (pad S2049x2176 ![1, 0] ![0, 0] ![0, 0] p
      (sitofp .f32 (constantI S_ 32 0#32)) pads_S2048x2176_S2049x2176_100_000 h_S_) slices_S2049x2176_S2048x2176_0_0) p))

theorem rows_apply (p : Vec Ideal S2048x2176 .f32) (mu : Vec Ideal S1x2176 .f32) (i : Fin 2048) (j : Fin 2176) :
    rows p mu (ix2 i j) = mixed p mu i j := by
  unfold rows mixed
  simp only [pointwise, Nat.reduceEqDiff, ↓reduceDIte, zero_add]
  refine congrArg (fun z : EReal => p (ix2 i j) + mu (ix2 0 j) * (z - p (ix2 i j))) ?_
  unfold before
  by_cases h : i.val = 0
  · rw [if_pos h, dif_neg (fun hin => absurd (hin 0).1 (show ¬ 1 ≤ 0 + i.val by omega))]
    show (((0#32 : BitVec 32).toInt : ℝ) : EReal) = 0
    simp
  · rw [if_neg h, dif_pos (fun a => match a with
      | ⟨0, _⟩ => ⟨show 1 ≤ 0 + i.val by omega, Nat.mod_one _, show (0 + i.val - 1) / 1 < 2048 by omega⟩
      | ⟨1, _⟩ => ⟨Nat.zero_le _, Nat.mod_one _, show (0 + j.val - 0) / 1 < 2176 by omega⟩)]
    exact congrArg p (congrArg₂ ix2 (Fin.ext (show (0 + i.val - 1) / 1 = i.val - 1 by omega))
      (Fin.ext (show (0 + j.val - 0) / 1 = j.val by omega)))

/-- The decay's own input. -/
def inner (p : Vec Ideal S2048x2176 .f32) (mu : Vec Ideal S1x2176 .f32) (w0 : Vec Ideal S1x512 .f32) (up : Vec Ideal S64x512 .f32) :
    FVec Ideal S2048x512 .f32 :=
  addf (broadcastInDim S2048x512 ![0, 1] bcast_S1x512_S2048x512_0_1 w0)
    (Host.dotGeneral (F := Ideal) (φ₁ := .f32) (φ₂ := .f32) dot_S2048x64_S64x512_S2048x512_1_0_0_1_n_n none (Host.tanh (extractStridedSlice S2048x64 ![0, 2048]
      (rows p mu) slices_S2048x2176_S2048x64_0_2048)) up)

theorem inner_apply (p : Vec Ideal S2048x2176 .f32) (mu : Vec Ideal S1x2176 .f32) (w0 : Vec Ideal S1x512 .f32)
    (up : Vec Ideal S64x512 .f32) (i : Fin 2048) (j : Fin 512) :
    inner p mu w0 up (ix2 i j) = (w0 (ix2 0 j) + ∑ k : Fin 64,
      Ideal.tanh (mixed p mu i ⟨2048 + k.val, by omega⟩) * up (ix2 k j) : EReal) := by
  unfold inner
  simp only [pointwise, Nat.reduceEqDiff, ↓reduceDIte, zero_add]
  exact congrArg (w0 (ix2 0 j) + · : EReal → EReal) (Finset.sum_congr rfl fun k _ => congrArg
    (fun z : EReal => Ideal.tanh z * up (ix2 k j)) ((congrArg (rows p mu) (congrArg₂ ix2 (Fin.ext (Nat.zero_add _)) rfl)).trans
      (rows_apply p mu i ⟨2048 + k.val, by omega⟩)))

/-- What the state keeps. -/
def kept (z : FVec Ideal S2048x512 .f32) : FVec Ideal S2048x512 .f32 :=
  Host.exp (Host.negf (Host.exp (subf (Host.negf (select (cmpf .une
      (subf (Host.negf z) (broadcastInDim S2048x512 ![] bcast_S_S2048x512 (constant S_ .f32 0x00000000#32)))
      (subf (Host.negf z) (broadcastInDim S2048x512 ![] bcast_S_S2048x512 (constant S_ .f32 0x00000000#32))))
    (addf (Host.negf z) (broadcastInDim S2048x512 ![] bcast_S_S2048x512 (constant S_ .f32 0x00000000#32)))
    (addf (maximumf (Host.negf z) (broadcastInDim S2048x512 ![] bcast_S_S2048x512 (constant S_ .f32 0x00000000#32)))
      (Host.log1p (Host.exp (Host.negf (Host.absf (subf (Host.negf z)
        (broadcastInDim S2048x512 ![] bcast_S_S2048x512 (constant S_ .f32 0x00000000#32))))))))))
    (broadcastInDim S2048x512 ![] bcast_S_S2048x512 (constant S_ .f32 0x3F000000#32)))))

theorem kept_apply (z : FVec Ideal S2048x512 .f32) (i : Fin 2048) (j : Fin 512) : kept z (ix2 i j) = keep (z (ix2 i j)) := by
  unfold kept
  simp only [pointwise, Nat.reduceEqDiff, ↓reduceDIte, zero_add]
  rw [if_neg (fun h => h rfl), sub_zero]
  rfl

/-- The rate. -/
def rates (p : Vec Ideal S2048x2176 .f32) (mu : Vec Ideal S1x2176 .f32) (a0 : Vec Ideal S1x512 .f32) (up : Vec Ideal S64x512 .f32) :
    FVec Ideal S2048x512 .f32 :=
  Host.divf (broadcastInDim S2048x512 ![] bcast_S_S2048x512 (constant S_ .f32 0x3F800000#32))
    (addf (broadcastInDim S2048x512 ![] bcast_S_S2048x512 (constant S_ .f32 0x3F800000#32)) (Host.exp (Host.negf
      (addf (broadcastInDim S2048x512 ![0, 1] bcast_S1x512_S2048x512_0_1 a0)
        (Host.dotGeneral (F := Ideal) (φ₁ := .f32) (φ₂ := .f32) dot_S2048x64_S64x512_S2048x512_1_0_0_1_n_n none (extractStridedSlice S2048x64 ![0, 2112]
          (rows p mu) slices_S2048x2176_S2048x64_0_2112) up)))))

theorem rates_apply (p : Vec Ideal S2048x2176 .f32) (mu : Vec Ideal S1x2176 .f32) (a0 : Vec Ideal S1x512 .f32)
    (up : Vec Ideal S64x512 .f32) (i : Fin 2048) (j : Fin 512) :
    rates p mu a0 up (ix2 i j) = rate p mu a0 up (ix2 i j) := by
  unfold rates rate
  simp only [pointwise, Nat.reduceEqDiff, ↓reduceDIte, zero_add]
  exact congrArg (fun z : EReal => Ideal.logistic (a0 (ix2 0 j) + z)) (Finset.sum_congr rfl fun k _ => congrArg
    (fun z : EReal => z * up (ix2 k j)) ((congrArg (rows p mu) (congrArg₂ ix2 (Fin.ext (Nat.zero_add _)) rfl)).trans
      (rows_apply p mu i ⟨2112 + k.val, by omega⟩)))

/-- The keys before their norm, by head. -/
def keys (p : Vec Ideal S2048x2176 .f32) (mu : Vec Ideal S1x2176 .f32) (kk : Vec Ideal S1x512 .f32) : FVec Ideal S2048x8x64 .f32 :=
  shapeCast S2048x8x64 (mulf (extractStridedSlice S2048x512 ![0, 512] (rows p mu) slices_S2048x2176_S2048x512_0_512)
    (broadcastInDim S2048x512 ![0, 1] bcast_S1x512_S2048x512_0_1 kk) : FVec Ideal S2048x512 .f32) shapeCasts_S2048x512_S2048x8x64

theorem keys_apply (p : Vec Ideal S2048x2176 .f32) (mu : Vec Ideal S1x2176 .f32) (kk : Vec Ideal S1x512 .f32)
    (i : Fin 2048) (h : Fin 8) (k : Fin 64) :
    keys p mu kk (ix3 i h k) = raw p mu kk i ⟨h.val * 64 + k.val, by omega⟩ := by
  unfold keys raw
  simp only [pointwise, Nat.reduceEqDiff, ↓reduceDIte, zero_add]
  exact congrArg (· * kk (ix2 0 ⟨h.val * 64 + k.val, by omega⟩) : EReal → EReal) ((congrArg (rows p mu)
    (congrArg₂ ix2 (Fin.ext (Nat.zero_add _)) rfl)).trans (rows_apply p mu i ⟨512 + (h.val * 64 + k.val), by omega⟩))

/-- The keys normed. -/
def normed (q : FVec Ideal S2048x8x64 .f32) : FVec Ideal S2048x512 .f32 :=
  shapeCast S2048x512 (Host.divf q (broadcastInDim S2048x8x64 ![0, 1, 2] bcast_S2048x8x1_S2048x8x64_0_1_2 (maximumf (Host.sqrt
    (broadcastInDim S2048x8x1 ![0, 1] bcast_S2048x8_S2048x8x1_0_1 (Host.reduceAdd (mulf q q) (constant S_ .f32 0x00000000#32)
      reducesTo_S2048x8x64_S2048x8_d2 h_S_))) (broadcastInDim S2048x8x1 ![] bcast_S_S2048x8x1
        (constant S_ .f32 0x2B8CBCCC#32)))) : FVec Ideal S2048x8x64 .f32) shapeCasts_S2048x8x64_S2048x512

theorem normed_apply (q : FVec Ideal S2048x8x64 .f32) (i : Fin 2048) (h : Fin 8) (k : Fin 64) :
    normed q (ix2 i ⟨h.val * 64 + k.val, by omega⟩) = Ideal.div (q (ix3 i h k)) (max (Ideal.sqrt
      (∑ l : Fin 64, q (ix3 i h l) * q (ix3 i h l) : EReal)) least) := by
  unfold normed
  simp only [pointwise, Nat.reduceEqDiff, ↓reduceDIte, zero_add]
  rfl

/-- 512 columns of the mixed rows. -/
theorem columns_apply (p : Vec Ideal S2048x2176 .f32) (mu : Vec Ideal S1x2176 .f32) (o : ℕ) (ho : o + 512 ≤ 2176)
    (h : S2048x2176.Slices ![0, o] S2048x512) :
    extractStridedSlice S2048x512 ![0, o] (rows p mu) h = columns p mu o ho := by
  funext y
  obtain ⟨i, j, rfl⟩ : ∃ (i : Fin 2048) (j : Fin 512), y = ix2 i j := ⟨y 0, y 1, eq_ix2 y⟩
  refine (extractStridedSlice_apply _ _ _ (ix2 i j) (ix2 i (⟨o + j.val, by omega⟩ : Fin 2176)) fun a => ?_).trans
    (rows_apply p mu i ⟨o + j.val, by omega⟩)
  match a with
  | ⟨0, _⟩ => exact (Nat.zero_add _).symm
  | ⟨1, _⟩ => rfl

/-- The decay, the key that the state learns along, and the key that it forgets along. -/
theorem decay_eq (p : Vec Ideal S2048x2176 .f32) (mu : Vec Ideal S1x2176 .f32) (w0 : Vec Ideal S1x512 .f32)
    (up : Vec Ideal S64x512 .f32) : kept (inner p mu w0 up) = decay p mu w0 up := by
  funext y
  obtain ⟨i, j, rfl⟩ : ∃ (i : Fin 2048) (j : Fin 512), y = ix2 i j := ⟨y 0, y 1, eq_ix2 y⟩
  exact (kept_apply _ i j).trans (congrArg keep (inner_apply p mu w0 up i j))

theorem rates_eq (p : Vec Ideal S2048x2176 .f32) (mu : Vec Ideal S1x2176 .f32) (a0 : Vec Ideal S1x512 .f32)
    (up : Vec Ideal S64x512 .f32) : rates p mu a0 up = rate p mu a0 up := by
  funext y
  obtain ⟨i, j, rfl⟩ : ∃ (i : Fin 2048) (j : Fin 512), y = ix2 i j := ⟨y 0, y 1, eq_ix2 y⟩
  exact rates_apply p mu a0 up i j

/-- The key that the state learns along. -/
def learnt (p : Vec Ideal S2048x2176 .f32) (mu : Vec Ideal S1x2176 .f32) (a : FVec Ideal S2048x512 .f32) (ka : Vec Ideal S1x512 .f32) :
    FVec Ideal S2048x512 .f32 :=
  mulf (extractStridedSlice S2048x512 ![0, 512] (rows p mu) slices_S2048x2176_S2048x512_0_512)
    (addf (broadcastInDim S2048x512 ![] bcast_S_S2048x512 (constant S_ .f32 0x3F800000#32))
      (mulf (subf a (broadcastInDim S2048x512 ![] bcast_S_S2048x512 (constant S_ .f32 0x3F800000#32)))
        (broadcastInDim S2048x512 ![0, 1] bcast_S1x512_S2048x512_0_1 ka)))

theorem learn_eq (p : Vec Ideal S2048x2176 .f32) (mu : Vec Ideal S1x2176 .f32) (a : FVec Ideal S2048x512 .f32)
    (ka : Vec Ideal S1x512 .f32) : learnt p mu a ka = learn p mu a ka := by
  funext y
  obtain ⟨i, j, rfl⟩ : ∃ (i : Fin 2048) (j : Fin 512), y = ix2 i j := ⟨y 0, y 1, eq_ix2 y⟩
  unfold learnt
  rw [columns_apply p mu 512 (by norm_num)]
  simp only [pointwise, Nat.reduceEqDiff, ↓reduceDIte, zero_add]
  rfl

theorem forget_eq (p : Vec Ideal S2048x2176 .f32) (mu : Vec Ideal S1x2176 .f32) (kk : Vec Ideal S1x512 .f32) :
    normed (keys p mu kk) = forget p mu kk := by
  funext y
  obtain ⟨i, j, rfl⟩ : ∃ (i : Fin 2048) (j : Fin 512), y = ix2 i j := ⟨y 0, y 1, eq_ix2 y⟩
  have hj : (⟨j.val / 64 * 64 + j.val % 64, by omega⟩ : Fin 512) = j := Fin.ext (Nat.div_add_mod' j.val 64)
  have e := normed_apply (keys p mu kk) i ⟨j.val / 64, by omega⟩ ⟨j.val % 64, by omega⟩
  simp only [keys_apply] at e
  rw [hj] at e
  exact e

/-- The reference's run: the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6)
        = columns (m ((c.tc : Thread nD τ).loc main_arg0)) (m ((c.tc : Thread nD τ).loc main_arg1)) 0 (by norm_num)
      ∧ r.2.mem ((c.tc : Thread nD τ).loc main_v23)
        = decay (m ((c.tc : Thread nD τ).loc main_arg0)) (m ((c.tc : Thread nD τ).loc main_arg1)) (m ((c.tc : Thread nD τ).loc main_arg2)) (m ((c.tc : Thread nD τ).loc main_arg6))
      ∧ r.2.mem ((c.tc : Thread nD τ).loc main_v50)
        = learn (m ((c.tc : Thread nD τ).loc main_arg0)) (m ((c.tc : Thread nD τ).loc main_arg1)) (rate (m ((c.tc : Thread nD τ).loc main_arg0)) (m ((c.tc : Thread nD τ).loc main_arg1)) (m ((c.tc : Thread nD τ).loc main_arg3)) (m ((c.tc : Thread nD τ).loc main_arg7))) (m ((c.tc : Thread nD τ).loc main_arg5))
      ∧ r.2.mem ((c.tc : Thread nD τ).loc main_v8)
        = columns (m ((c.tc : Thread nD τ).loc main_arg0)) (m ((c.tc : Thread nD τ).loc main_arg1)) 1024 (by norm_num)
      ∧ r.2.mem ((c.tc : Thread nD τ).loc main_v51)
        = forget (m ((c.tc : Thread nD τ).loc main_arg0)) (m ((c.tc : Thread nD τ).loc main_arg1)) (m ((c.tc : Thread nD τ).loc main_arg4))
      ∧ r.2.mem ((c.tc : Thread nD τ).loc main_v32)
        = rate (m ((c.tc : Thread nD τ).loc main_arg0)) (m ((c.tc : Thread nD τ).loc main_arg1)) (m ((c.tc : Thread nD τ).loc main_arg3)) (m ((c.tc : Thread nD τ).loc main_arg7))
      ∧ r.2.mem ((c.tc : Thread nD τ).loc main_v9)
        = columns (m ((c.tc : Thread nD τ).loc main_arg0)) (m ((c.tc : Thread nD τ).loc main_arg1)) 1536 (by norm_num)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (columns_apply (m ((c.tc : Thread nD τ).loc main_arg0)) (m ((c.tc : Thread nD τ).loc main_arg1)) 0 _ _),
    (h c).2.1.trans (decay_eq (m ((c.tc : Thread nD τ).loc main_arg0)) (m ((c.tc : Thread nD τ).loc main_arg1)) (m ((c.tc : Thread nD τ).loc main_arg2)) (m ((c.tc : Thread nD τ).loc main_arg6))),
    (h c).2.2.1.trans ((congrArg (fun a => learnt (m ((c.tc : Thread nD τ).loc main_arg0)) (m ((c.tc : Thread nD τ).loc main_arg1)) a (m ((c.tc : Thread nD τ).loc main_arg5))) (rates_eq (m ((c.tc : Thread nD τ).loc main_arg0)) (m ((c.tc : Thread nD τ).loc main_arg1)) (m ((c.tc : Thread nD τ).loc main_arg3)) (m ((c.tc : Thread nD τ).loc main_arg7)))).trans (learn_eq (m ((c.tc : Thread nD τ).loc main_arg0)) (m ((c.tc : Thread nD τ).loc main_arg1)) _ (m ((c.tc : Thread nD τ).loc main_arg5)))),
    (h c).2.2.2.1.trans (columns_apply (m ((c.tc : Thread nD τ).loc main_arg0)) (m ((c.tc : Thread nD τ).loc main_arg1)) 1024 _ _),
    (h c).2.2.2.2.1.trans (forget_eq (m ((c.tc : Thread nD τ).loc main_arg0)) (m ((c.tc : Thread nD τ).loc main_arg1)) (m ((c.tc : Thread nD τ).loc main_arg4))),
    (h c).2.2.2.2.2.1.trans (rates_eq (m ((c.tc : Thread nD τ).loc main_arg0)) (m ((c.tc : Thread nD τ).loc main_arg1)) (m ((c.tc : Thread nD τ).loc main_arg3)) (m ((c.tc : Thread nD τ).loc main_arg7))),
    (h c).2.2.2.2.2.2.1.trans (columns_apply (m ((c.tc : Thread nD τ).loc main_arg0)) (m ((c.tc : Thread nD τ).loc main_arg1)) 1536 _ _),
    (h c).2.2.2.2.2.2.2⟩)
    (Value.run (F := Ideal) m ρ)

end Cert.PrepRefIdeal.Mix

end
-- ==== Proof.Fore.lean ====
/-
The norm and the input projections: each result of the call, from its arguments.
-/
module

public import proofs.«01_k».proof.Proof.Project
public import proofs.«01_k».proof.Proof.Gen.InIdeal.Value
public import Idealize.ShloMosaic.Lib.Pipeline.ValueKit.Geometry

@[expose] public section

noncomputable section

namespace Cert.InIdeal.Fore

open Idealize.ShloMosaic Idealize.SL.Sem Cert.Project
open Cert.InIdeal.Gen Cert.InIdeal.Value

/-- A tile of the normed rows. -/
theorem tile_apply (x0 : Vec Ideal S256x1024 .f32) (x1 : Vec Ideal S1x1024 .f32) (i : Fin 256) (j : Fin 1024) :
    k0_pay1 x0 x1 (ix2 i j) = unit (row (r := 256) (c := 1024) x0 i) (row (r := 1) (c := 1024) x1 0) j := by
  unfold k0_pay1
  simp only [pointwise, Nat.reduceEqDiff, ↓reduceDIte, zero_add]
  rfl

/-- A tile of the two projections. -/
theorem first_apply (x0 : Vec Ideal S256x1024 .f32) (x1 : Vec Ideal S1x1024 .f32) (w : Vec Ideal S1024x1536 .bf16)
    (i : Fin 256) (j : Fin 1536) :
    k0_pay2 x0 x1 w (ix2 i j) =
      ∑ k : Fin 1024, (unit (row (r := 256) (c := 1024) x0 i) (row (r := 1) (c := 1024) x1 0) k * w (ix2 k j) : EReal) := by
  unfold k0_pay2
  simp only [pointwise, zero_add, tile_apply]

theorem second_apply (x0 : Vec Ideal S256x1024 .f32) (x1 : Vec Ideal S1x1024 .f32) (w : Vec Ideal S1024x2176 .bf16)
    (i : Fin 256) (j : Fin 2176) :
    k0_pay3 x0 x1 w (ix2 i j) =
      ∑ k : Fin 1024, (unit (row (r := 256) (c := 1024) x0 i) (row (r := 1) (c := 1024) x1 0) k * w (ix2 k j) : EReal) := by
  unfold k0_pay3
  simp only [pointwise, zero_add, tile_apply]

/-- The three buffers after a point. -/
theorem out4_eq (x0 : Vec Ideal S256x1024 .f32) (x1 : Vec Ideal S1x1024 .f32) (x2 : Vec Ideal S1024x1536 .bf16)
    (x3 : Vec Ideal S1024x2176 .bf16) : out0_4 x0 x1 x2 x3 = k0_pay2 x0 x1 x2 := by
  have hz : (![0, 0] : Fin 2 → ℕ) = fun _ => 0 := funext fun a => match a with | 0 => rfl | 1 => rfl
  unfold out0_4
  rw [View.canon_unit_zero hz]
  simp only [View.ld_unit_zero (S := S256x1024) hz, View.ld_unit_zero (S := S1x1024) hz,
    View.ld_unit_zero (S := S1024x1536) hz]

theorem out5_eq (x0 : Vec Ideal S256x1024 .f32) (x1 : Vec Ideal S1x1024 .f32) (x2 : Vec Ideal S1024x1536 .bf16)
    (x3 : Vec Ideal S1024x2176 .bf16) : out0_5 x0 x1 x2 x3 = k0_pay3 x0 x1 x3 := by
  have hz : (![0, 0] : Fin 2 → ℕ) = fun _ => 0 := funext fun a => match a with | 0 => rfl | 1 => rfl
  unfold out0_5
  rw [View.canon_unit_zero hz]
  simp only [View.ld_unit_zero (S := S256x1024) hz, View.ld_unit_zero (S := S1x1024) hz,
    View.ld_unit_zero (S := S1024x2176) hz]

theorem out6_eq (x0 : Vec Ideal S256x1024 .f32) (x1 : Vec Ideal S1x1024 .f32) (x2 : Vec Ideal S1024x1536 .bf16)
    (x3 : Vec Ideal S1024x2176 .bf16) : out0_6 x0 x1 x2 x3 = k0_pay1 x0 x1 := by
  have hz : (![0, 0] : Fin 2 → ℕ) = fun _ => 0 := funext fun a => match a with | 0 => rfl | 1 => rfl
  unfold out0_6
  rw [View.canon_unit_zero hz]
  simp only [View.ld_unit_zero (S := S256x1024) hz, View.ld_unit_zero (S := S1x1024) hz]

variable (m : (ℓ : Loc nD τ sig) → Buf (Elt Ideal) ℓ)

/-- Point `t` of the grid works on the rows from `256 t`; the gain and the weights are whole. -/
theorem index0 : ∀ t : Fin cfg0.N, win0_0.index t (0 : Fin 2) = t.val ∧ win0_0.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)

/-- Row `i` of the tile at point `t`, as a row of the array. -/
def spot (t : Fin cfg0.N) (i : Fin 256) : Fin 2048 := ⟨t.val * 256 + i.val, by
  have ht : t.val < 8 := t.isLt
  omega⟩

/-- The rows of the tiles are rows of the arguments. -/
theorem row0 (c : Dev nD) (t : Fin cfg0.N) (i : Fin 256) :
    row (r := 256) (c := 1024) (iblk m c 0 t) i = row (r := 2048) (c := 1024) (V m c main_arg0) (spot t i) := by
  obtain ⟨e0, e1⟩ := index0 t
  refine funext fun k => congrArg (V m c main_arg0 : Vec Ideal S2048x1024 .f32) (funext fun a => Fin.ext ?_)
  match a with
  | ⟨0, _⟩ => show win0_0.index t (0 : Fin 2) * 256 + 1 * i.val = t.val * 256 + i.val; omega
  | ⟨1, _⟩ => show win0_0.index t (1 : Fin 2) * 1024 + 1 * k.val = k.val; omega

theorem row1 (c : Dev nD) (t : Fin cfg0.N) (i : Fin 1) :
    row (r := 1) (c := 1024) (iblk m c 1 t) i = row (r := 1) (c := 1024) (V m c main_arg1) i := by
  obtain ⟨e0, e1⟩ := index1 t
  refine funext fun k => congrArg (V m c main_arg1 : Vec Ideal S1x1024 .f32) (funext fun a => Fin.ext ?_)
  match a with
  | ⟨0, _⟩ => show win0_1.index t (0 : Fin 2) * 1 + 1 * i.val = i.val; omega
  | ⟨1, _⟩ => show win0_1.index t (1 : Fin 2) * 1024 + 1 * k.val = k.val; omega

theorem weight2 (c : Dev nD) (t : Fin cfg0.N) (i : Fin 1024) (k : Fin 1536) :
    (iblk m c 2 t : Vec Ideal S1024x1536 .bf16) (ix2 i k) = (V m c main_arg2 : Vec Ideal S1024x1536 .bf16) (ix2 i k) := by
  obtain ⟨e0, e1⟩ := index2 t
  refine congrArg (V m c main_arg2 : Vec Ideal S1024x1536 .bf16) (funext fun a => Fin.ext ?_)
  match a with
  | ⟨0, _⟩ => show win0_2.index t (0 : Fin 2) * 1024 + 1 * i.val = i.val; omega
  | ⟨1, _⟩ => show win0_2.index t (1 : Fin 2) * 1536 + 1 * k.val = k.val; omega

theorem weight3 (c : Dev nD) (t : Fin cfg0.N) (i : Fin 1024) (k : Fin 2176) :
    (iblk m c 3 t : Vec Ideal S1024x2176 .bf16) (ix2 i k) = (V m c main_arg3 : Vec Ideal S1024x2176 .bf16) (ix2 i k) := by
  obtain ⟨e0, e1⟩ := index3 t
  refine congrArg (V m c main_arg3 : Vec Ideal S1024x2176 .bf16) (funext fun a => Fin.ext ?_)
  match a with
  | ⟨0, _⟩ => show win0_3.index t (0 : Fin 2) * 1024 + 1 * i.val = i.val; omega
  | ⟨1, _⟩ => show win0_3.index t (1 : Fin 2) * 2176 + 1 * k.val = k.val; omega

/-- The three results, from the arguments. -/
def first (c : Dev nD) : Vec Ideal S2048x1536 .f32 := through (n := 1536) (V m c main_arg0) (V m c main_arg1) (V m c main_arg2)
def second (c : Dev nD) : Vec Ideal S2048x2176 .f32 := through (n := 2176) (V m c main_arg0) (V m c main_arg1) (V m c main_arg3)
def third (c : Dev nD) : Vec Ideal S2048x1024 .bf16 := normed (V m c main_arg0) (V m c main_arg1)

/-- The tiles computed at point `t` are their rows of the whole. -/
theorem first_eq (c : Dev nD) (t : Fin cfg0.N) (i : Fin 256) (j : Fin 1536) :
    k0_pay2 (iblk m c 0 t) (iblk m c 1 t) (iblk m c 2 t) (ix2 i j) = first m c (ix2 (spot t i) j) := by
  refine (first_apply _ _ _ i j).trans ?_
  rw [row0, row1]
  exact Finset.sum_congr rfl fun k _ => congrArg (_ * · : EReal → EReal) (weight2 m c t k j)

theorem second_eq (c : Dev nD) (t : Fin cfg0.N) (i : Fin 256) (j : Fin 2176) :
    k0_pay3 (iblk m c 0 t) (iblk m c 1 t) (iblk m c 3 t) (ix2 i j) = second m c (ix2 (spot t i) j) := by
  refine (second_apply _ _ _ i j).trans ?_
  rw [row0, row1]
  exact Finset.sum_congr rfl fun k _ => congrArg (_ * · : EReal → EReal) (weight3 m c t k j)

theorem third_eq (c : Dev nD) (t : Fin cfg0.N) (i : Fin 256) (j : Fin 1024) :
    k0_pay1 (iblk m c 0 t) (iblk m c 1 t) (ix2 i j) = third m c (ix2 (spot t i) j) := by
  refine (tile_apply _ _ i j).trans ?_
  rw [row0, row1]
  rfl

/-- What point `t` writes back to each. -/
theorem written4 (c : Dev nD) (t : Fin cfg0.N) :
    (dats m 0 c).flushed 4 t = ((cfg0.win 4).blk t).view.read (Elt Ideal) (first m c) := by
  rw [flushed4, out4_eq]
  funext y
  obtain ⟨e0, e1⟩ := index4 t
  refine (congrArg _ (eq_ix2 y)).trans ((first_eq m c t (y 0) (y 1)).trans (congrArg (first m c) (funext fun a => Fin.ext ?_)))
  match a with
  | ⟨0, _⟩ => show t.val * 256 + (y 0).val = win0_4.index t (0 : Fin 2) * 256 + 1 * (y 0).val; omega
  | ⟨1, _⟩ => show (y 1).val = win0_4.index t (1 : Fin 2) * 1536 + 1 * (y 1).val; omega

theorem written5 (c : Dev nD) (t : Fin cfg0.N) :
    (dats m 0 c).flushed 5 t = ((cfg0.win 5).blk t).view.read (Elt Ideal) (second m c) := by
  rw [flushed5, out5_eq]
  funext y
  obtain ⟨e0, e1⟩ := index5 t
  refine (congrArg _ (eq_ix2 y)).trans ((second_eq m c t (y 0) (y 1)).trans (congrArg (second m c) (funext fun a => Fin.ext ?_)))
  match a with
  | ⟨0, _⟩ => show t.val * 256 + (y 0).val = win0_5.index t (0 : Fin 2) * 256 + 1 * (y 0).val; omega
  | ⟨1, _⟩ => show (y 1).val = win0_5.index t (1 : Fin 2) * 2176 + 1 * (y 1).val; omega

theorem written6 (c : Dev nD) (t : Fin cfg0.N) :
    (dats m 0 c).flushed 6 t = ((cfg0.win 6).blk t).view.read (Elt Ideal) (third m c) := by
  rw [flushed6, out6_eq]
  funext y
  obtain ⟨e0, e1⟩ := index6 t
  refine (congrArg _ (eq_ix2 y)).trans ((third_eq m c t (y 0) (y 1)).trans (congrArg (third m c) (funext fun a => Fin.ext ?_)))
  match a with
  | ⟨0, _⟩ => show t.val * 256 + (y 0).val = win0_6.index t (0 : Fin 2) * 256 + 1 * (y 0).val; omega
  | ⟨1, _⟩ => show (y 1).val = win0_6.index t (1 : Fin 2) * 1024 + 1 * (y 1).val; omega

/-- The arrays after the run. -/
theorem final4 (c : Dev nD) : (dats m 0 c).arrAt 4 cfg0.N = first m c :=
  (dats m 0 c).arrAt_eq_of_cover 4 _ (fun t _ => written4 m c t)
    ((by decide +kernel : (cfg0.win 4).Covers).cover _ (Memref.isWhole_whole _))
theorem final5 (c : Dev nD) : (dats m 0 c).arrAt 5 cfg0.N = second m c :=
  (dats m 0 c).arrAt_eq_of_cover 5 _ (fun t _ => written5 m c t)
    ((by decide +kernel : (cfg0.win 5).Covers).cover _ (Memref.isWhole_whole _))
theorem final6 (c : Dev nD) : (dats m 0 c).arrAt 6 cfg0.N = third m c :=
  (dats m 0 c).arrAt_eq_of_cover 6 _ (fun t _ => written6 m c t)
    ((by decide +kernel : (cfg0.win 6).Covers).cover _ (Memref.isWhole_whole _))

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v0_0) = through (n := 1536) (m ((c.tc : Thread nD τ).loc main_arg0))
        (m ((c.tc : Thread nD τ).loc main_arg1)) (m ((c.tc : Thread nD τ).loc main_arg2))
      ∧ r.2.mem ((c.tc : Thread nD τ).loc main_v0_1) = through (n := 2176) (m ((c.tc : Thread nD τ).loc main_arg0))
        (m ((c.tc : Thread nD τ).loc main_arg1)) (m ((c.tc : Thread nD τ).loc main_arg3))
      ∧ r.2.mem ((c.tc : Thread nD τ).loc main_v0_2) = normed (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final4 m c), (h c).2.1.trans (final5 m c),
    (h c).2.2.1.trans (final6 m c), (h c).2.2.2⟩) (run_blocks m ρ)

end Cert.InIdeal.Fore

end
-- ==== Proof.ForeRef.lean ====
/-
The reference's norm and input projections.
-/
module

public import proofs.«01_k».proof.Proof.Project
public import proofs.«01_k».proof.Proof.Gen.InRefIdeal.Run

@[expose] public section

noncomputable section

namespace Cert.InRefIdeal.Fore

open Idealize.ShloMosaic Idealize.SL.Sem Cert.Project
open Cert.InRefIdeal.Gen

/-- The product with the two weights side by side. -/
theorem dot_apply (u : Vec Ideal S2048x1024 .f32) (w : Vec Ideal S1024x1536 .bf16) (v : Vec Ideal S1024x2176 .bf16)
    (i : Fin 2048) (j : Fin 3712) :
    Host.dotGeneral (F := Ideal) (φ₁ := .f32) (φ₂ := .f32) dot_S2048x1024_S1024x3712_S2048x3712_1_0_0_1_n_n none u
      (extf .f32 (concatenate S1024x3712 1 [⟨S1024x1536, w⟩, ⟨S1024x2176, v⟩]
        concatenates_S1024x1536_S1024x2176_S1024x3712_d1) bitsLt_bf16_f32 : FVec Ideal S1024x3712 .f32)
      (ix2 i j) = ∑ k : Fin 1024, (u (ix2 i k) * (if h : j.val < 1536 then w (ix2 k ⟨j.val, h⟩)
        else v (ix2 k ⟨j.val - 1536, by omega⟩)) : EReal) := by
  simp only [pointwise]
  exact zero_add _

/-- Its first columns. -/
theorem dot_left (u : Vec Ideal S2048x1024 .f32) (w : Vec Ideal S1024x1536 .bf16) (v : Vec Ideal S1024x2176 .bf16)
    (i : Fin 2048) (j : Fin 1536) :
    Host.dotGeneral (F := Ideal) (φ₁ := .f32) (φ₂ := .f32) dot_S2048x1024_S1024x3712_S2048x3712_1_0_0_1_n_n none u
      (extf .f32 (concatenate S1024x3712 1 [⟨S1024x1536, w⟩, ⟨S1024x2176, v⟩]
        concatenates_S1024x1536_S1024x2176_S1024x3712_d1) bitsLt_bf16_f32 : FVec Ideal S1024x3712 .f32)
      (ix2 i ⟨j.val, by omega⟩) = ∑ k : Fin 1024, (u (ix2 i k) * w (ix2 k j) : EReal) :=
  (dot_apply u w v i ⟨j.val, by omega⟩).trans (Finset.sum_congr rfl fun k _ =>
    congrArg (u (ix2 i k) * · : EReal → EReal) (dif_pos (show j.val < 1536 from j.isLt)))

/-- The others. -/
theorem dot_right (u : Vec Ideal S2048x1024 .f32) (w : Vec Ideal S1024x1536 .bf16) (v : Vec Ideal S1024x2176 .bf16)
    (i : Fin 2048) (j : Fin 2176) :
    Host.dotGeneral (F := Ideal) (φ₁ := .f32) (φ₂ := .f32) dot_S2048x1024_S1024x3712_S2048x3712_1_0_0_1_n_n none u
      (extf .f32 (concatenate S1024x3712 1 [⟨S1024x1536, w⟩, ⟨S1024x2176, v⟩]
        concatenates_S1024x1536_S1024x2176_S1024x3712_d1) bitsLt_bf16_f32 : FVec Ideal S1024x3712 .f32)
      (ix2 i ⟨1536 + j.val, by omega⟩) = ∑ k : Fin 1024, (u (ix2 i k) * v (ix2 k j) : EReal) :=
  (dot_apply u w v i ⟨1536 + j.val, by omega⟩).trans (Finset.sum_congr rfl fun k _ =>
    congrArg (u (ix2 i k) * · : EReal → EReal) ((dif_neg (show ¬ 1536 + j.val < 1536 by omega)).trans
      (congrArg (fun z => v (ix2 k z)) (Fin.ext (show 1536 + j.val - 1536 = j.val by omega)))))

/-- The normed rows. -/
def rows (x : Vec Ideal S2048x1024 .f32) (g : Vec Ideal S1x1024 .f32) : Vec Ideal S2048x1024 .f32 :=
  (mulf (mulf x (broadcastInDim S2048x1024 ![0, 1] bcast_S2048x1_S2048x1024_0_1 (Host.rsqrt (addf (Host.divf
    (broadcastInDim S2048x1 ![0] bcast_S2048_S2048x1_0 (Host.reduceAdd (mulf x x) (constant S_ .f32 0x00000000#32)
      reducesTo_S2048x1024_S2048_d1 h_S_)) (broadcastInDim S2048x1 ![] bcast_S_S2048x1 (constant S_ .f32 0x44800000#32)))
    (broadcastInDim S2048x1 ![] bcast_S_S2048x1 (constant S_ .f32 0x358637BD#32))))))
    (broadcastInDim S2048x1024 ![0, 1] bcast_S1x1024_S2048x1024_0_1 g) : FVec Ideal S2048x1024 .f32)

theorem rows_eq (x : Vec Ideal S2048x1024 .f32) (g : Vec Ideal S1x1024 .f32) (i : Fin 2048) (j : Fin 1024) :
    rows x g (ix2 i j) = unit (row (r := 2048) (c := 1024) x i) (row (r := 1) (c := 1024) g 0) j := by
  unfold rows
  simp only [pointwise, Nat.reduceEqDiff, ↓reduceDIte, zero_add]
  rfl

/-- The reference's run: the same functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = through (n := 1536) (m ((c.tc : Thread nD τ).loc main_arg0))
        (m ((c.tc : Thread nD τ).loc main_arg1)) (m ((c.tc : Thread nD τ).loc main_arg2))
      ∧ r.2.mem ((c.tc : Thread nD τ).loc main_v16) = through (n := 2176) (m ((c.tc : Thread nD τ).loc main_arg0))
        (m ((c.tc : Thread nD τ).loc main_arg1)) (m ((c.tc : Thread nD τ).loc main_arg3))
      ∧ r.2.mem ((c.tc : Thread nD τ).loc main_v17) = normed (m ((c.tc : Thread nD τ).loc main_arg0))
        (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by
      funext y
      obtain ⟨i, j, rfl⟩ : ∃ (i : Fin 2048) (j : Fin 1536), y = ix2 i j := ⟨y 0, y 1, eq_ix2 y⟩
      refine (extractStridedSlice_apply _ _ _ (ix2 i j) (ix2 i (⟨j.val, by omega⟩ : Fin 3712)) fun a => ?_).trans
        ((dot_left _ (m ((c.tc : Thread nD τ).loc main_arg2)) (m ((c.tc : Thread nD τ).loc main_arg3)) i j).trans
          (Finset.sum_congr rfl fun k _ => congrArg (· * _ : EReal → EReal)
            (rows_eq (m ((c.tc : Thread nD τ).loc main_arg0)) (m ((c.tc : Thread nD τ).loc main_arg1)) i k)))
      match a with
      | ⟨0, _⟩ => exact (Nat.zero_add _).symm
      | ⟨1, _⟩ => exact (Nat.zero_add _).symm), (h c).2.1.trans (by
      funext y
      obtain ⟨i, j, rfl⟩ : ∃ (i : Fin 2048) (j : Fin 2176), y = ix2 i j := ⟨y 0, y 1, eq_ix2 y⟩
      refine (extractStridedSlice_apply _ _ _ (ix2 i j) (ix2 i (⟨1536 + j.val, by omega⟩ : Fin 3712)) fun a => ?_).trans
        ((dot_right _ (m ((c.tc : Thread nD τ).loc main_arg2)) (m ((c.tc : Thread nD τ).loc main_arg3)) i j).trans
          (Finset.sum_congr rfl fun k _ => congrArg (· * _ : EReal → EReal)
            (rows_eq (m ((c.tc : Thread nD τ).loc main_arg0)) (m ((c.tc : Thread nD τ).loc main_arg1)) i k)))
      match a with
      | ⟨0, _⟩ => exact (Nat.zero_add _).symm
      | ⟨1, _⟩ => exact rfl), (h c).2.2.1.trans (by
      funext y
      obtain ⟨i, j, rfl⟩ : ∃ (i : Fin 2048) (j : Fin 1024), y = ix2 i j := ⟨y 0, y 1, eq_ix2 y⟩
      exact rows_eq (m ((c.tc : Thread nD τ).loc main_arg0)) (m ((c.tc : Thread nD τ).loc main_arg1)) i j), (h c).2.2.2⟩)
    (Value.run (F := Ideal) m ρ)

end Cert.InRefIdeal.Fore

end
-- ==== Proof.GradW.lean ====
/-
The gradients of the input projection's weight: each call's result, and the reference's, as a product over all rows.
-/
module

public import proofs.«01_k».proof.Proof.Project
public import proofs.«01_k».proof.Proof.Gen.GQkvIdeal.Value
public import proofs.«01_k».proof.Proof.Gen.GQkvRefIdeal.Run
public import proofs.«01_k».proof.Proof.Gen.GRetIdeal.Value
public import proofs.«01_k».proof.Proof.Gen.GRetRefIdeal.Run
public import proofs.«01_k».proof.Proof.Gen.GRwkvIdeal.Value
public import proofs.«01_k».proof.Proof.Gen.GRwkvRefIdeal.Run
public import Idealize.ShloMosaic.Lib.Pipeline.ValueKit.Geometry
public import Idealize.ShloMosaic.Lib.Pipeline.ValueKit.Acc

@[expose] public section

noncomputable section

namespace Cert.GQkvIdeal.Back

open Idealize.ShloMosaic Idealize.SL.Sem Cert.Project
open Cert.GQkvIdeal.Gen Cert.GQkvIdeal.Value

/-- An element of the sum after a tile. -/
theorem step_apply (acc : Vec Ideal S1024x1024 .f32) (u : Vec Ideal S512x1024 .bf16) (p : Vec Ideal S512x1024 .f32)
    (i : Fin 1024) (j : Fin 1024) :
    k0_pay2 acc u p (ix2 i j) = acc (ix2 i j) + ∑ a : Fin 512, (u (ix2 a i) * p (ix2 a j) : EReal) := by
  unfold k0_pay2
  simp only [pointwise, zero_add]

variable (m : (ℓ : Loc nD τ sig) → Buf (Elt Ideal) ℓ)

/-- Point `t` of the grid works on the rows from `512 t`; the result is whole. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)

/-- The arguments: the normed rows, and the projection's gradient. -/
def rows (c : Dev nD) : (⟨2, ![2048, 1024]⟩ : Shape).Idx → EReal := V m c main_arg0
def grads (c : Dev nD) : (⟨2, ![2048, 1024]⟩ : Shape).Idx → EReal := V m c main_arg1

/-- Row `a` of the tile at point `t`, as a row of the array. -/
def spot (t : Fin cfg0.N) (a : Fin 512) : Fin 2048 := ⟨t.val * 512 + a.val, by
  have ht : t.val < 4 := t.isLt
  omega⟩

/-- The tile of the normed rows. -/
theorem tile0 (c : Dev nD) (t : Fin cfg0.N) (a : Fin 512) (k : Fin 1024) :
    (iblk m c 0 t : Vec Ideal S512x1024 .bf16) (ix2 a k) =
      rows m c (ix2 (spot t a) k) := by
  obtain ⟨e0, e1⟩ := index0 t
  refine congrArg (rows m c) (funext fun b => Fin.ext ?_)
  match b with
  | ⟨0, _⟩ => show win0_0.index t (0 : Fin 2) * 512 + 1 * a.val = t.val * 512 + a.val; omega
  | ⟨1, _⟩ => show win0_0.index t (1 : Fin 2) * 1024 + 1 * k.val = k.val; omega

/-- The tile of the projection's gradient. -/
theorem tile1 (c : Dev nD) (t : Fin cfg0.N) (a : Fin 512) (k : Fin 1024) :
    (iblk m c 1 t : Vec Ideal S512x1024 .f32) (ix2 a k) =
      grads m c (ix2 (spot t a) k) := by
  obtain ⟨e0, e1⟩ := index1 t
  refine congrArg (grads m c) (funext fun b => Fin.ext ?_)
  match b with
  | ⟨0, _⟩ => show win0_1.index t (0 : Fin 2) * 512 + 1 * a.val = t.val * 512 + a.val; omega
  | ⟨1, _⟩ => show win0_1.index t (1 : Fin 2) * 1024 + 1 * k.val = k.val; omega

/-- What point `t` adds. -/
theorem step_eq (c : Dev nD) (t : Fin cfg0.N) (acc : Vec Ideal S1024x1024 .f32) (i : Fin 1024) (j : Fin 1024) :
    k0_pay2 acc (iblk m c 0 t) (iblk m c 1 t) (ix2 i j) = acc (ix2 i j) + ∑ a : Fin 512,
      (rows m c (ix2 (spot t a) i)
        * grads m c (ix2 (spot t a) j) : EReal) := by
  refine (step_apply acc _ _ i j).trans ?_
  simp only [tile0, tile1]

/-- The result, from the arguments. -/
def whole (c : Dev nD) : Vec Ideal S1024x1024 .f32 := outer (rows m c) (grads m c)

/-- After the last point the buffer holds the product over all rows. -/
theorem last_eq (c : Dev nD) (t : Fin cfg0.N) (ht : t.val + 1 = cfg0.N) : outsAt0 m c t.val t.isLt = whole m c := by
  funext y
  rw [eq_ix2 y]
  refine (Pipeline.eq_sum_fin_of_reset_step_apply_last (fun n h => outsAt0 m c n h) 4 (fun _ => (0 : EReal))
    (fun s y => ∑ a : Fin 512, (rows m c (ix2 (spot s a) (y 0))
      * grads m c (ix2 (spot s a) (y 1)) : EReal))
    (fun s h0 y => ?_) (fun s h0 y => ?_) (by decide) t ht _).trans ?_
  · rw [eq_ix2 y, outsAt0_A m c s h0, out_A_2_eq]
    refine (step_eq m c s _ _ _).trans (congrArg (· + _ : EReal → EReal) ?_)
    exact Ideal.ofBits_zero_f32
  · rw [eq_ix2 y, outsAt0_B m c s h0, out_B_2_eq]
    exact step_eq m c s _ _ _
  · rw [zero_add]
    exact (Fin.sum_univ_tiles 4 512 rfl fun a : Fin 2048 => (rows m c (ix2 a (y 0))
      * grads m c (ix2 a (y 1)) : EReal)).symm

/-- What the last point writes back. -/
theorem written (c : Dev nD) (t : Fin cfg0.N) (hf : (cfg0.win 2).flush t = true) :
    (dats m 0 c).flushed 2 t = ((cfg0.win 2).blk t).view.read (Elt Ideal) (whole m c) := by
  have h3 := (flush0_2 t).mp hf
  have ht : t.val < 4 := t.isLt
  rw [flushed2, last_eq m c t (by show t.val + 1 = 4; omega)]
  funext y
  obtain ⟨e0, e1⟩ := index2 t
  refine congrArg (whole m c) (funext fun a => Fin.ext ?_)
  match a with
  | ⟨0, _⟩ => show (y 0).val = win0_2.index t (0 : Fin 2) * 1024 + 1 * (y 0).val; omega
  | ⟨1, _⟩ => show (y 1).val = win0_2.index t (1 : Fin 2) * 1024 + 1 * (y 1).val; omega

/-- The array after the run. -/
theorem final (c : Dev nD) : (dats m 0 c).arrAt 2 cfg0.N = whole m c :=
  (dats m 0 c).arrAt_eq_of_cover 2 _ (fun t hf => written m c t hf)
    ((by decide +kernel : (cfg0.win 2).Covers).cover _ (Memref.isWhole_whole _))

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v0) =
        outer (n := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.GQkvIdeal.Back

namespace Cert.GQkvRefIdeal.Back

open Idealize.ShloMosaic Idealize.SL.Sem Cert.Project
open Cert.GQkvRefIdeal.Gen

/-- The reference's run: the same function of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
        outer (n := 1024) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext y
      obtain ⟨i, j, rfl⟩ : ∃ (i : Fin 1024) (j : Fin 1024), y = ix2 i j := ⟨y 0, y 1, eq_ix2 y⟩
      simp only [pointwise, zero_add]
      exact Finset.sum_congr rfl fun a _ => mul_comm _ _), (h c).2⟩)
    (Value.run (F := Ideal) m ρ)

end Cert.GQkvRefIdeal.Back

namespace Cert.GRetIdeal.Back

open Idealize.ShloMosaic Idealize.SL.Sem Cert.Project
open Cert.GRetIdeal.Gen Cert.GRetIdeal.Value

/-- An element of the sum after a tile. -/
theorem step_apply (acc : Vec Ideal S1024x512 .f32) (u : Vec Ideal S512x1024 .bf16) (p : Vec Ideal S512x512 .f32)
    (i : Fin 1024) (j : Fin 512) :
    k0_pay2 acc u p (ix2 i j) = acc (ix2 i j) + ∑ a : Fin 512, (u (ix2 a i) * p (ix2 a j) : EReal) := by
  unfold k0_pay2
  simp only [pointwise, zero_add]

variable (m : (ℓ : Loc nD τ sig) → Buf (Elt Ideal) ℓ)

/-- Point `t` of the grid works on the rows from `512 t`; the result is whole. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)

/-- The arguments: the normed rows, and the projection's gradient. -/
def rows (c : Dev nD) : (⟨2, ![2048, 1024]⟩ : Shape).Idx → EReal := V m c main_arg0
def grads (c : Dev nD) : (⟨2, ![2048, 512]⟩ : Shape).Idx → EReal := V m c main_arg1

/-- Row `a` of the tile at point `t`, as a row of the array. -/
def spot (t : Fin cfg0.N) (a : Fin 512) : Fin 2048 := ⟨t.val * 512 + a.val, by
  have ht : t.val < 4 := t.isLt
  omega⟩

/-- The tile of the normed rows. -/
theorem tile0 (c : Dev nD) (t : Fin cfg0.N) (a : Fin 512) (k : Fin 1024) :
    (iblk m c 0 t : Vec Ideal S512x1024 .bf16) (ix2 a k) =
      rows m c (ix2 (spot t a) k) := by
  obtain ⟨e0, e1⟩ := index0 t
  refine congrArg (rows m c) (funext fun b => Fin.ext ?_)
  match b with
  | ⟨0, _⟩ => show win0_0.index t (0 : Fin 2) * 512 + 1 * a.val = t.val * 512 + a.val; omega
  | ⟨1, _⟩ => show win0_0.index t (1 : Fin 2) * 1024 + 1 * k.val = k.val; omega

/-- The tile of the projection's gradient. -/
theorem tile1 (c : Dev nD) (t : Fin cfg0.N) (a : Fin 512) (k : Fin 512) :
    (iblk m c 1 t : Vec Ideal S512x512 .f32) (ix2 a k) =
      grads m c (ix2 (spot t a) k) := by
  obtain ⟨e0, e1⟩ := index1 t
  refine congrArg (grads m c) (funext fun b => Fin.ext ?_)
  match b with
  | ⟨0, _⟩ => show win0_1.index t (0 : Fin 2) * 512 + 1 * a.val = t.val * 512 + a.val; omega
  | ⟨1, _⟩ => show win0_1.index t (1 : Fin 2) * 512 + 1 * k.val = k.val; omega

/-- What point `t` adds. -/
theorem step_eq (c : Dev nD) (t : Fin cfg0.N) (acc : Vec Ideal S1024x512 .f32) (i : Fin 1024) (j : Fin 512) :
    k0_pay2 acc (iblk m c 0 t) (iblk m c 1 t) (ix2 i j) = acc (ix2 i j) + ∑ a : Fin 512,
      (rows m c (ix2 (spot t a) i)
        * grads m c (ix2 (spot t a) j) : EReal) := by
  refine (step_apply acc _ _ i j).trans ?_
  simp only [tile0, tile1]

/-- The result, from the arguments. -/
def whole (c : Dev nD) : Vec Ideal S1024x512 .f32 := outer (rows m c) (grads m c)

/-- After the last point the buffer holds the product over all rows. -/
theorem last_eq (c : Dev nD) (t : Fin cfg0.N) (ht : t.val + 1 = cfg0.N) : outsAt0 m c t.val t.isLt = whole m c := by
  funext y
  rw [eq_ix2 y]
  refine (Pipeline.eq_sum_fin_of_reset_step_apply_last (fun n h => outsAt0 m c n h) 4 (fun _ => (0 : EReal))
    (fun s y => ∑ a : Fin 512, (rows m c (ix2 (spot s a) (y 0))
      * grads m c (ix2 (spot s a) (y 1)) : EReal))
    (fun s h0 y => ?_) (fun s h0 y => ?_) (by decide) t ht _).trans ?_
  · rw [eq_ix2 y, outsAt0_A m c s h0, out_A_2_eq]
    refine (step_eq m c s _ _ _).trans (congrArg (· + _ : EReal → EReal) ?_)
    exact Ideal.ofBits_zero_f32
  · rw [eq_ix2 y, outsAt0_B m c s h0, out_B_2_eq]
    exact step_eq m c s _ _ _
  · rw [zero_add]
    exact (Fin.sum_univ_tiles 4 512 rfl fun a : Fin 2048 => (rows m c (ix2 a (y 0))
      * grads m c (ix2 a (y 1)) : EReal)).symm

/-- What the last point writes back. -/
theorem written (c : Dev nD) (t : Fin cfg0.N) (hf : (cfg0.win 2).flush t = true) :
    (dats m 0 c).flushed 2 t = ((cfg0.win 2).blk t).view.read (Elt Ideal) (whole m c) := by
  have h3 := (flush0_2 t).mp hf
  have ht : t.val < 4 := t.isLt
  rw [flushed2, last_eq m c t (by show t.val + 1 = 4; omega)]
  funext y
  obtain ⟨e0, e1⟩ := index2 t
  refine congrArg (whole m c) (funext fun a => Fin.ext ?_)
  match a with
  | ⟨0, _⟩ => show (y 0).val = win0_2.index t (0 : Fin 2) * 1024 + 1 * (y 0).val; omega
  | ⟨1, _⟩ => show (y 1).val = win0_2.index t (1 : Fin 2) * 512 + 1 * (y 1).val; omega

/-- The array after the run. -/
theorem final (c : Dev nD) : (dats m 0 c).arrAt 2 cfg0.N = whole m c :=
  (dats m 0 c).arrAt_eq_of_cover 2 _ (fun t hf => written m c t hf)
    ((by decide +kernel : (cfg0.win 2).Covers).cover _ (Memref.isWhole_whole _))

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v0) =
        outer (n := 512) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.GRetIdeal.Back

namespace Cert.GRetRefIdeal.Back

open Idealize.ShloMosaic Idealize.SL.Sem Cert.Project
open Cert.GRetRefIdeal.Gen

/-- The reference's run: the same function of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
        outer (n := 512) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext y
      obtain ⟨i, j, rfl⟩ : ∃ (i : Fin 1024) (j : Fin 512), y = ix2 i j := ⟨y 0, y 1, eq_ix2 y⟩
      simp only [pointwise, zero_add]
      exact Finset.sum_congr rfl fun a _ => mul_comm _ _), (h c).2⟩)
    (Value.run (F := Ideal) m ρ)

end Cert.GRetRefIdeal.Back

namespace Cert.GRwkvIdeal.Back

open Idealize.ShloMosaic Idealize.SL.Sem Cert.Project
open Cert.GRwkvIdeal.Gen Cert.GRwkvIdeal.Value

/-- An element of the sum after a tile. -/
theorem step_apply (acc : Vec Ideal S1024x2176 .f32) (u : Vec Ideal S512x1024 .bf16) (p : Vec Ideal S512x2176 .f32)
    (i : Fin 1024) (j : Fin 2176) :
    k0_pay2 acc u p (ix2 i j) = acc (ix2 i j) + ∑ a : Fin 512, (u (ix2 a i) * p (ix2 a j) : EReal) := by
  unfold k0_pay2
  simp only [pointwise, zero_add]

variable (m : (ℓ : Loc nD τ sig) → Buf (Elt Ideal) ℓ)

/-- Point `t` of the grid works on the rows from `512 t`; the result is whole. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)

/-- The arguments: the normed rows, and the projection's gradient. -/
def rows (c : Dev nD) : (⟨2, ![2048, 1024]⟩ : Shape).Idx → EReal := V m c main_arg0
def grads (c : Dev nD) : (⟨2, ![2048, 2176]⟩ : Shape).Idx → EReal := V m c main_arg1

/-- Row `a` of the tile at point `t`, as a row of the array. -/
def spot (t : Fin cfg0.N) (a : Fin 512) : Fin 2048 := ⟨t.val * 512 + a.val, by
  have ht : t.val < 4 := t.isLt
  omega⟩

/-- The tile of the normed rows. -/
theorem tile0 (c : Dev nD) (t : Fin cfg0.N) (a : Fin 512) (k : Fin 1024) :
    (iblk m c 0 t : Vec Ideal S512x1024 .bf16) (ix2 a k) =
      rows m c (ix2 (spot t a) k) := by
  obtain ⟨e0, e1⟩ := index0 t
  refine congrArg (rows m c) (funext fun b => Fin.ext ?_)
  match b with
  | ⟨0, _⟩ => show win0_0.index t (0 : Fin 2) * 512 + 1 * a.val = t.val * 512 + a.val; omega
  | ⟨1, _⟩ => show win0_0.index t (1 : Fin 2) * 1024 + 1 * k.val = k.val; omega

/-- The tile of the projection's gradient. -/
theorem tile1 (c : Dev nD) (t : Fin cfg0.N) (a : Fin 512) (k : Fin 2176) :
    (iblk m c 1 t : Vec Ideal S512x2176 .f32) (ix2 a k) =
      grads m c (ix2 (spot t a) k) := by
  obtain ⟨e0, e1⟩ := index1 t
  refine congrArg (grads m c) (funext fun b => Fin.ext ?_)
  match b with
  | ⟨0, _⟩ => show win0_1.index t (0 : Fin 2) * 512 + 1 * a.val = t.val * 512 + a.val; omega
  | ⟨1, _⟩ => show win0_1.index t (1 : Fin 2) * 2176 + 1 * k.val = k.val; omega

/-- What point `t` adds. -/
theorem step_eq (c : Dev nD) (t : Fin cfg0.N) (acc : Vec Ideal S1024x2176 .f32) (i : Fin 1024) (j : Fin 2176) :
    k0_pay2 acc (iblk m c 0 t) (iblk m c 1 t) (ix2 i j) = acc (ix2 i j) + ∑ a : Fin 512,
      (rows m c (ix2 (spot t a) i)
        * grads m c (ix2 (spot t a) j) : EReal) := by
  refine (step_apply acc _ _ i j).trans ?_
  simp only [tile0, tile1]

/-- The result, from the arguments. -/
def whole (c : Dev nD) : Vec Ideal S1024x2176 .f32 := outer (rows m c) (grads m c)

/-- After the last point the buffer holds the product over all rows. -/
theorem last_eq (c : Dev nD) (t : Fin cfg0.N) (ht : t.val + 1 = cfg0.N) : outsAt0 m c t.val t.isLt = whole m c := by
  funext y
  rw [eq_ix2 y]
  refine (Pipeline.eq_sum_fin_of_reset_step_apply_last (fun n h => outsAt0 m c n h) 4 (fun _ => (0 : EReal))
    (fun s y => ∑ a : Fin 512, (rows m c (ix2 (spot s a) (y 0))
      * grads m c (ix2 (spot s a) (y 1)) : EReal))
    (fun s h0 y => ?_) (fun s h0 y => ?_) (by decide) t ht _).trans ?_
  · rw [eq_ix2 y, outsAt0_A m c s h0, out_A_2_eq]
    refine (step_eq m c s _ _ _).trans (congrArg (· + _ : EReal → EReal) ?_)
    exact Ideal.ofBits_zero_f32
  · rw [eq_ix2 y, outsAt0_B m c s h0, out_B_2_eq]
    exact step_eq m c s _ _ _
  · rw [zero_add]
    exact (Fin.sum_univ_tiles 4 512 rfl fun a : Fin 2048 => (rows m c (ix2 a (y 0))
      * grads m c (ix2 a (y 1)) : EReal)).symm

/-- What the last point writes back. -/
theorem written (c : Dev nD) (t : Fin cfg0.N) (hf : (cfg0.win 2).flush t = true) :
    (dats m 0 c).flushed 2 t = ((cfg0.win 2).blk t).view.read (Elt Ideal) (whole m c) := by
  have h3 := (flush0_2 t).mp hf
  have ht : t.val < 4 := t.isLt
  rw [flushed2, last_eq m c t (by show t.val + 1 = 4; omega)]
  funext y
  obtain ⟨e0, e1⟩ := index2 t
  refine congrArg (whole m c) (funext fun a => Fin.ext ?_)
  match a with
  | ⟨0, _⟩ => show (y 0).val = win0_2.index t (0 : Fin 2) * 1024 + 1 * (y 0).val; omega
  | ⟨1, _⟩ => show (y 1).val = win0_2.index t (1 : Fin 2) * 2176 + 1 * (y 1).val; omega

/-- The array after the run. -/
theorem final (c : Dev nD) : (dats m 0 c).arrAt 2 cfg0.N = whole m c :=
  (dats m 0 c).arrAt_eq_of_cover 2 _ (fun t hf => written m c t hf)
    ((by decide +kernel : (cfg0.win 2).Covers).cover _ (Memref.isWhole_whole _))

/-- The kernel's run. -/
theorem run (ρ : Dev nD → PrngReg) :
    θ_run defs (onTc (τ := τ) (main (F := Ideal))) ⟨m, fun _ => 0, ρ⟩ fun r => ∀ c : Dev nD,
      r.2.mem ((c.tc : Thread nD τ).loc main_v0) =
        outer (n := 2176) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (final m c), (h c).2⟩) (run_blocks m ρ)

end Cert.GRwkvIdeal.Back

namespace Cert.GRwkvRefIdeal.Back

open Idealize.ShloMosaic Idealize.SL.Sem Cert.Project
open Cert.GRwkvRefIdeal.Gen

/-- The reference's run: the same function of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) =
        outer (n := 2176) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      funext y
      obtain ⟨i, j, rfl⟩ : ∃ (i : Fin 1024) (j : Fin 2176), y = ix2 i j := ⟨y 0, y 1, eq_ix2 y⟩
      simp only [pointwise, zero_add]
      exact Finset.sum_congr rfl fun a _ => mul_comm _ _), (h c).2⟩)
    (Value.run (F := Ideal) m ρ)

end Cert.GRwkvRefIdeal.Back

end
-- ==== Proof.Update.lean ====
/-
One AdamW step from the eight parts of a gradient, an element at a time.

The kernel adds the parts from the first to the last; the reference sums over them.  Everything after the sum is the
same arithmetic on both sides.
-/
module

public import Idealize.ShloMosaic.Lib.Pipeline.Value
public import Idealize.ShloMosaic.Lib.Pointwise

@[expose] public section

noncomputable section

namespace Cert.Update

open Idealize.ShloMosaic

/-- A matrix of `r` rows and `c` columns. -/
abbrev mat (r c : ℕ) : Shape := ⟨2, ![r, c]⟩
/-- The eight parts of a gradient of that shape. -/
abbrev parts (r c : ℕ) : Shape := ⟨3, ![8, r, c]⟩
/-- One of them, as it is loaded. -/
abbrev slab (r c : ℕ) : Shape := ⟨3, ![1, r, c]⟩

variable {F : FTy → Type} [FloatOps F] {r c : ℕ}

/-- Element `i` of part `s`. -/
def inPart (s : Fin 8) (i : (mat r c).Idx) : (parts r c).Idx
  | 0 => s
  | 1 => i 0
  | 2 => i 1

/-- An index of a loaded part, as an index of the matrix. -/
def flat (z : (slab r c).Idx) : (mat r c).Idx
  | 0 => z 1
  | 1 => z 2

/-- The sum of the parts, taken in order. -/
def grad (p : Vec F (parts r c) .f32) : Vec F (mat r c) .f32 := fun i =>
  FloatOps.addf (FloatOps.addf (FloatOps.addf (FloatOps.addf (FloatOps.addf (FloatOps.addf (FloatOps.addf
    (p (inPart 0 i)) (p (inPart 1 i))) (p (inPart 2 i))) (p (inPart 3 i))) (p (inPart 4 i))) (p (inPart 5 i)))
    (p (inPart 6 i))) (p (inPart 7 i))

/-- The new first moment: 0.9 of the old one and 0.1 of the gradient. -/
def moment (g m : Vec F (mat r c) .f32) : Vec F (mat r c) .f32 := fun i =>
  FloatOps.addf (FloatOps.mulf (Scalar.ofBits .f32 0x3F666666#32) (m i))
    (FloatOps.mulf (Scalar.ofBits .f32 0x3DCCCCCD#32) (g i))

/-- The new second moment: 0.999 of the old one and 0.001 of the gradient's square. -/
def square (g v : Vec F (mat r c) .f32) : Vec F (mat r c) .f32 := fun i =>
  FloatOps.addf (FloatOps.mulf (Scalar.ofBits .f32 0x3F7FBE77#32) (v i))
    (FloatOps.mulf (Scalar.ofBits .f32 0x3A83126F#32) (FloatOps.mulf (g i) (g i)))

/-- The step: both moments divided by their bias, the weight's decay added, all of it times minus the rate. -/
def delta (g w m v : Vec F (mat r c) .f32) : Vec F (mat r c) .f32 := fun i =>
  FloatOps.mulf (Scalar.ofBits .f32 0xBA83126F#32)
    (FloatOps.addf
      (FloatOps.divf (FloatOps.divf (moment g m i) (Scalar.ofBits .f32 0x3F26BD02#32))
        (FloatOps.addf (FloatOps.sqrt (FloatOps.divf (square g v i) (Scalar.ofBits .f32 0x3C231ACC#32)))
          (Scalar.ofBits .f32 0x322BCC77#32)))
      (FloatOps.mulf (Scalar.ofBits .f32 0x3C23D70A#32) (w i)))

/-- What a load of part `s` returns. -/
theorem ld_part (p : Vec F (parts r c) .f32) (s : ℕ) (hs : s < 8)
    (h : ∀ a, ![s, 0, 0] a + (slab r c).size a ≤ (parts r c).size a) :
    View.ld p (Rect.unit (s := parts r c) ![s, 0, 0] (slab r c).size h) = fun z => p (inPart ⟨s, hs⟩ (flat z)) := by
  funext z
  refine congrArg p (funext fun a => Fin.ext ?_)
  match a with
  | 0 =>
    have h0 : (z 0).val < 1 := (z 0).isLt
    show s + 1 * (z 0).val = s
    omega
  | 1 => show 0 + 1 * (z 1).val = (z 1).val; omega
  | 2 => show 0 + 1 * (z 2).val = (z 2).val; omega

/-- Over the extended reals the reference's sum from zero over the parts is the sum in order. -/
theorem reduce_eq {u : Shape} (p : Vec Ideal (parts r c) .f32) (h : (parts r c).ReducesTo [0] (mat r c))
    (hu : 0 < u.numel) : Host.reduceAdd (F := Ideal) (φ := .f32) p (constant u .f32 0x00000000#32) h hu = grad p := by
  funext i
  rw [Host.reduceAdd_apply, Ideal.hostReduceAdd_def, Ideal.hostReduceAdd_r3_a0]
  have hz : constant (F := Ideal) u .f32 0x00000000#32 (Shape.Idx.first hu) = (0 : EReal) := Ideal.ofBits_zero_f32
  rw [hz, zero_add]
  have e : ∀ (s : Fin 8) (j : (parts r c).Idx), (∀ a, (j a).val = (inPart s i a).val) → p j = p (inPart s i) :=
    fun s j hj => congrArg p (funext fun a => Fin.ext (hj a))
  refine (Finset.sum_congr rfl fun s _ => e s _ fun a => ?_).trans ?_
  · match a with
    | 0 => rfl
    | 1 => rfl
    | 2 => rfl
  · simp only [Fin.sum_univ_eight]
    rfl

end Cert.Update

end
-- ==== Proof.UpdateWIn.lean ====
/-
The step of the input projection: the kernel's four results, and the reference's, as functions of the arguments.
-/
module

public import proofs.«01_k».proof.Proof.Update
public import proofs.«01_k».proof.Proof.Gen.WInIdeal.Value
public import proofs.«01_k».proof.Proof.Gen.WInRefIdeal.Run
public import Idealize.ShloMosaic.Lib.Pipeline.ValueKit.Geometry

@[expose] public section

noncomputable section

namespace Cert.WInIdeal.Update

open Idealize.ShloMosaic Idealize.SL.Sem Cert.Update
open Cert.WInIdeal.Gen Cert.WInIdeal.Value

variable {F : FTy → Type} [FloatOps F]

/-- The sum the body computes from the eight parts is the sum in order. -/
theorem sum_eq (x0 : Vec F S8x256x464 .f32) (x1 x2 x3 : Vec F S256x464 .f32) :
    k0_pay5 x0 x1 x2 x3 = grad (r := 256) (c := 464) x0 := by
  have hz : (fun _ => 0 : Fin S256x464.rank → ℕ) = ![0, 0] := funext fun a => match a with | 0 => rfl | 1 => rfl
  have hx : ∀ x : S256x464.Idx, r0_8.idx x = x := fun x => funext fun a => Fin.ext (by
    match a with
    | 0 => show 0 + 1 * (x 0).val = (x 0).val; omega
    | 1 => show 0 + 1 * (x 1).val = (x 1).val; omega)
  funext y
  refine (piece4_0 (View.ld x0 r0_0) (View.ld x0 r0_1) (View.ld x0 r0_2) (View.ld x0 r0_3) (View.ld x0 r0_4) (View.ld x0 r0_5) (View.ld x0 r0_6) (View.ld x0 r0_7) y).trans ?_
  rw [hx y, ld_part (r := 256) (c := 464) x0 0 (by omega), ld_part (r := 256) (c := 464) x0 1 (by omega), ld_part (r := 256) (c := 464) x0 2 (by omega), ld_part (r := 256) (c := 464) x0 3 (by omega), ld_part (r := 256) (c := 464) x0 4 (by omega), ld_part (r := 256) (c := 464) x0 5 (by omega), ld_part (r := 256) (c := 464) x0 6 (by omega), ld_part (r := 256) (c := 464) x0 7 (by omega)]
  have f : ∀ z : S1x256x464.Idx, (z 1).val = (y 0).val → (z 2).val = (y 1).val → flat (r := 256) (c := 464) z = y :=
    fun z h0 h1 => funext fun a => Fin.ext (by
      match a with
      | 0 => exact h0
      | 1 => exact h1)
  unfold E4
  simp only [f (ix4_0 y) rfl rfl, f (ix4_1 y) rfl rfl, f (ix4_2 y) rfl rfl, f (ix4_3 y) rfl rfl, f (ix4_4 y) rfl rfl, f (ix4_5 y) rfl rfl, f (ix4_6 y) rfl rfl, f (ix4_7 y) rfl rfl]
  rfl

/-- The step the body computes from it. -/
theorem delta_eq (g w m v : Vec F S256x464 .f32) : k0_pay3 g w m v = delta (r := 256) (c := 464) g w m v := rfl

/-- The first moment. -/
theorem moment_eq (g m : Vec F S256x464 .f32) : k0_pay1 g m = moment (r := 256) (c := 464) g m := rfl

/-- The second. -/
theorem square_eq (g v : Vec F S256x464 .f32) : k0_pay2 g v = square (r := 256) (c := 464) g v := rfl

variable (m : (ℓ : Loc nD τ sig) → Buf (Elt F) ℓ)

/-- Point `t` of the grid works on the rows from `256 t`. -/
theorem index0 : ∀ t : Fin cfg0.N,
    win0_0.index t (0 : Fin 3) = 0 ∧ win0_0.index t (1 : Fin 3) = t.val ∧ win0_0.index t (2 : Fin 3) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = t.val ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)
theorem index6 : ∀ t : Fin cfg0.N, win0_6.index t (0 : Fin 2) = t.val ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- Element `y` of a tile at point `t`, as an element of the array. -/
def spot (t : Fin cfg0.N) (y : S256x464.Idx) : S1024x464.Idx
  | 0 => ⟨t.val * 256 + (y 0).val, by
      have h0 : (y 0).val < 256 := (y 0).isLt
      have ht : t.val < 4 := t.isLt
      show _ < 1024
      omega⟩
  | 1 => y 1

theorem emb0 (t : Fin cfg0.N) (s : Fin 8) (y : S256x464.Idx) :
    ((cfg0.win 0).blk t).view.emb (inPart (r := 256) (c := 464) s y) = inPart (r := 1024) (c := 464) s (spot t y) := by
  obtain ⟨e0, e1, e2⟩ := index0 t
  funext a; apply Fin.ext
  match a with
  | ⟨0, _⟩ => show win0_0.index t (0 : Fin 3) * 8 + 1 * s.val = s.val; omega
  | ⟨1, _⟩ => show win0_0.index t (1 : Fin 3) * 256 + 1 * (y 0).val = t.val * 256 + (y 0).val; omega
  | ⟨2, _⟩ => show win0_0.index t (2 : Fin 3) * 464 + 1 * (y 1).val = (y 1).val; omega

theorem emb1 (t : Fin cfg0.N) (y : S256x464.Idx) : ((cfg0.win 1).blk t).view.emb y = spot t y := by
  obtain ⟨e0, e1⟩ := index1 t
  funext a; apply Fin.ext
  match a with
  | ⟨0, _⟩ => show win0_1.index t (0 : Fin 2) * 256 + 1 * (y 0).val = t.val * 256 + (y 0).val; omega
  | ⟨1, _⟩ => show win0_1.index t (1 : Fin 2) * 464 + 1 * (y 1).val = (y 1).val; omega

theorem emb2 (t : Fin cfg0.N) (y : S256x464.Idx) : ((cfg0.win 2).blk t).view.emb y = spot t y := by
  obtain ⟨e0, e1⟩ := index2 t
  funext a; apply Fin.ext
  match a with
  | ⟨0, _⟩ => show win0_2.index t (0 : Fin 2) * 256 + 1 * (y 0).val = t.val * 256 + (y 0).val; omega
  | ⟨1, _⟩ => show win0_2.index t (1 : Fin 2) * 464 + 1 * (y 1).val = (y 1).val; omega

theorem emb3 (t : Fin cfg0.N) (y : S256x464.Idx) : ((cfg0.win 3).blk t).view.emb y = spot t y := by
  obtain ⟨e0, e1⟩ := index3 t
  funext a; apply Fin.ext
  match a with
  | ⟨0, _⟩ => show win0_3.index t (0 : Fin 2) * 256 + 1 * (y 0).val = t.val * 256 + (y 0).val; omega
  | ⟨1, _⟩ => show win0_3.index t (1 : Fin 2) * 464 + 1 * (y 1).val = (y 1).val; omega

theorem emb4 (t : Fin cfg0.N) (y : S256x464.Idx) : ((cfg0.win 4).blk t).view.emb y = spot t y := by
  obtain ⟨e0, e1⟩ := index4 t
  funext a; apply Fin.ext
  match a with
  | ⟨0, _⟩ => show win0_4.index t (0 : Fin 2) * 256 + 1 * (y 0).val = t.val * 256 + (y 0).val; omega
  | ⟨1, _⟩ => show win0_4.index t (1 : Fin 2) * 464 + 1 * (y 1).val = (y 1).val; omega

theorem emb5 (t : Fin cfg0.N) (y : S256x464.Idx) : ((cfg0.win 5).blk t).view.emb y = spot t y := by
  obtain ⟨e0, e1⟩ := index5 t
  funext a; apply Fin.ext
  match a with
  | ⟨0, _⟩ => show win0_5.index t (0 : Fin 2) * 256 + 1 * (y 0).val = t.val * 256 + (y 0).val; omega
  | ⟨1, _⟩ => show win0_5.index t (1 : Fin 2) * 464 + 1 * (y 1).val = (y 1).val; omega

theorem emb6 (t : Fin cfg0.N) (y : S256x464.Idx) : ((cfg0.win 6).blk t).view.emb y = spot t y := by
  obtain ⟨e0, e1⟩ := index6 t
  funext a; apply Fin.ext
  match a with
  | ⟨0, _⟩ => show win0_6.index t (0 : Fin 2) * 256 + 1 * (y 0).val = t.val * 256 + (y 0).val; omega
  | ⟨1, _⟩ => show win0_6.index t (1 : Fin 2) * 464 + 1 * (y 1).val = (y 1).val; omega

theorem emb7 (t : Fin cfg0.N) (y : S256x464.Idx) : ((cfg0.win 7).blk t).view.emb y = spot t y := by
  obtain ⟨e0, e1⟩ := index7 t
  funext a; apply Fin.ext
  match a with
  | ⟨0, _⟩ => show win0_7.index t (0 : Fin 2) * 256 + 1 * (y 0).val = t.val * 256 + (y 0).val; omega
  | ⟨1, _⟩ => show win0_7.index t (1 : Fin 2) * 464 + 1 * (y 1).val = (y 1).val; omega

/-- The parts staged at point `t` add to the whole sum's tile. -/
theorem grad_tile (c : Dev nD) (t : Fin cfg0.N) (y : S256x464.Idx) :
    grad (r := 256) (c := 464) (iblk m c 0 t) y = grad (r := 1024) (c := 464) (V m c main_arg0) (spot t y) := by
  have e : ∀ s : Fin 8, (iblk m c 0 t : Vec F S8x256x464 .f32) (inPart (r := 256) (c := 464) s y) =
      (V m c main_arg0 : Vec F S8x1024x464 .f32) (inPart (r := 1024) (c := 464) s (spot t y)) :=
    fun s => congrArg (V m c main_arg0 : Vec F S8x1024x464 .f32) (emb0 t s y)
  simp only [grad, e]

/-- The tile of the weight. -/
theorem tile1 (c : Dev nD) (t : Fin cfg0.N) (y : S256x464.Idx) :
    (iblk m c 1 t : Vec F S256x464 .f32) y = (V m c main_arg1 : Vec F S1024x464 .f32) (spot t y) :=
  congrArg (V m c main_arg1 : Vec F S1024x464 .f32) (emb1 t y)

/-- The tile of the first moment. -/
theorem tile2 (c : Dev nD) (t : Fin cfg0.N) (y : S256x464.Idx) :
    (iblk m c 2 t : Vec F S256x464 .f32) y = (V m c main_arg2 : Vec F S1024x464 .f32) (spot t y) :=
  congrArg (V m c main_arg2 : Vec F S1024x464 .f32) (emb2 t y)

/-- The tile of the second moment. -/
theorem tile3 (c : Dev nD) (t : Fin cfg0.N) (y : S256x464.Idx) :
    (iblk m c 3 t : Vec F S256x464 .f32) y = (V m c main_arg3 : Vec F S1024x464 .f32) (spot t y) :=
  congrArg (V m c main_arg3 : Vec F S1024x464 .f32) (emb3 t y)

/-- What the body leaves in window 4's buffer. -/
theorem out4_eq (x0 : Vec F S8x256x464 .f32) (x1 x2 x3 : Vec F S256x464 .f32) :
    out0_4 x0 x1 x2 x3 = grad (r := 256) (c := 464) x0 := by
  have hz : (![0, 0] : Fin S256x464.rank → ℕ) = fun _ => 0 := funext fun a => match a with | 0 => rfl | 1 => rfl
  unfold out0_4
  rw [View.canon_unit_zero hz]
  exact sum_eq x0 x1 x2 x3

/-- What point `t` writes back through it is its tile of the whole result. -/
theorem flushed4_eq (c : Dev nD) (t : Fin cfg0.N) :
    (dats m 0 c).flushed 4 t = ((cfg0.win 4).blk t).view.read (Elt F)
      (grad (r := 1024) (c := 464) (V m c main_arg0) : Vec F S1024x464 .f32) := by
  rw [flushed4, out4_eq]
  funext y
  show (grad (r := 256) (c := 464) (iblk m c 0 t) : Vec F S256x464 .f32) y =
    (grad (r := 1024) (c := 464) (V m c main_arg0) : Vec F S1024x464 .f32) (((cfg0.win 4).blk t).view.emb y)
  rw [emb4]
  exact grad_tile m c t y

/-- The array after the run. -/
theorem final4 (c : Dev nD) : (dats m 0 c).arrAt 4 cfg0.N = grad (r := 1024) (c := 464) (V m c main_arg0) :=
  (dats m 0 c).arrAt_eq_of_cover 4 _ (fun t _ => flushed4_eq m c t)
    ((by decide +kernel : (cfg0.win 4).Covers).cover _ (Memref.isWhole_whole _))

/-- What the body leaves in window 5's buffer. -/
theorem out5_eq (x0 : Vec F S8x256x464 .f32) (x1 x2 x3 : Vec F S256x464 .f32) :
    out0_5 x0 x1 x2 x3 = delta (r := 256) (c := 464) (grad (r := 256) (c := 464) x0) x1 x2 x3 := by
  have hz : (![0, 0] : Fin S256x464.rank → ℕ) = fun _ => 0 := funext fun a => match a with | 0 => rfl | 1 => rfl
  unfold out0_5
  rw [View.canon_unit_zero hz, View.ld_unit_zero hz, View.ld_unit_zero hz, View.ld_unit_zero hz]
  exact (congrArg (fun g => k0_pay3 g _ _ _) (sum_eq _ _ _ _)).trans (delta_eq _ _ _ _)

/-- What point `t` writes back through it is its tile of the whole result. -/
theorem flushed5_eq (c : Dev nD) (t : Fin cfg0.N) :
    (dats m 0 c).flushed 5 t = ((cfg0.win 5).blk t).view.read (Elt F)
      (delta (r := 1024) (c := 464) (grad (r := 1024) (c := 464) (V m c main_arg0)) (V m c main_arg1) (V m c main_arg2) (V m c main_arg3) : Vec F S1024x464 .f32) := by
  rw [flushed5, out5_eq]
  funext y
  show (delta (r := 256) (c := 464) (grad (r := 256) (c := 464) (iblk m c 0 t)) (iblk m c 1 t) (iblk m c 2 t) (iblk m c 3 t) : Vec F S256x464 .f32) y =
    (delta (r := 1024) (c := 464) (grad (r := 1024) (c := 464) (V m c main_arg0)) (V m c main_arg1) (V m c main_arg2) (V m c main_arg3) : Vec F S1024x464 .f32) (((cfg0.win 5).blk t).view.emb y)
  rw [emb5]
  simp only [delta, moment, square, grad_tile, tile1, tile2, tile3]

/-- The array after the run. -/
theorem final5 (c : Dev nD) : (dats m 0 c).arrAt 5 cfg0.N = delta (r := 1024) (c := 464) (grad (r := 1024) (c := 464) (V m c main_arg0)) (V m c main_arg1) (V m c main_arg2) (V m c main_arg3) :=
  (dats m 0 c).arrAt_eq_of_cover 5 _ (fun t _ => flushed5_eq m c t)
    ((by decide +kernel : (cfg0.win 5).Covers).cover _ (Memref.isWhole_whole _))

/-- What the body leaves in window 6's buffer. -/
theorem out6_eq (x0 : Vec F S8x256x464 .f32) (x1 x2 x3 : Vec F S256x464 .f32) :
    out0_6 x0 x1 x2 x3 = moment (r := 256) (c := 464) (grad (r := 256) (c := 464) x0) x2 := by
  have hz : (![0, 0] : Fin S256x464.rank → ℕ) = fun _ => 0 := funext fun a => match a with | 0 => rfl | 1 => rfl
  unfold out0_6
  rw [View.canon_unit_zero hz, View.ld_unit_zero hz]
  exact (congrArg (fun g => k0_pay1 g _) (sum_eq _ _ _ _)).trans (moment_eq _ _)

/-- What point `t` writes back through it is its tile of the whole result. -/
theorem flushed6_eq (c : Dev nD) (t : Fin cfg0.N) :
    (dats m 0 c).flushed 6 t = ((cfg0.win 6).blk t).view.read (Elt F)
      (moment (r := 1024) (c := 464) (grad (r := 1024) (c := 464) (V m c main_arg0)) (V m c main_arg2) : Vec F S1024x464 .f32) := by
  rw [flushed6, out6_eq]
  funext y
  show (moment (r := 256) (c := 464) (grad (r := 256) (c := 464) (iblk m c 0 t)) (iblk m c 2 t) : Vec F S256x464 .f32) y =
    (moment (r := 1024) (c := 464) (grad (r := 1024) (c := 464) (V m c main_arg0)) (V m c main_arg2) : Vec F S1024x464 .f32) (((cfg0.win 6).blk t).view.emb y)
  rw [emb6]
  simp only [moment, grad_tile, tile2]

/-- The array after the run. -/
theorem final6 (c : Dev nD) : (dats m 0 c).arrAt 6 cfg0.N = moment (r := 1024) (c := 464) (grad (r := 1024) (c := 464) (V m c main_arg0)) (V m c main_arg2) :=
  (dats m 0 c).arrAt_eq_of_cover 6 _ (fun t _ => flushed6_eq m c t)
    ((by decide +kernel : (cfg0.win 6).Covers).cover _ (Memref.isWhole_whole _))

/-- What the body leaves in window 7's buffer. -/
theorem out7_eq (x0 : Vec F S8x256x464 .f32) (x1 x2 x3 : Vec F S256x464 .f32) :
    out0_7 x0 x1 x2 x3 = square (r := 256) (c := 464) (grad (r := 256) (c := 464) x0) x3 := by
  have hz : (![0, 0] : Fin S256x464.rank → ℕ) = fun _ => 0 := funext fun a => match a with | 0 => rfl | 1 => rfl
  unfold out0_7
  rw [View.canon_unit_zero hz, View.ld_unit_zero hz]
  exact (congrArg (fun g => k0_pay2 g _) (sum_eq _ _ _ _)).trans (square_eq _ _)

/-- What point `t` writes back through it is its tile of the whole result. -/
theorem flushed7_eq (c : Dev nD) (t : Fin cfg0.N) :
    (dats m 0 c).flushed 7 t = ((cfg0.win 7).blk t).view.read (Elt F)
      (square (r := 1024) (c := 464) (grad (r := 1024) (c := 464) (V m c main_arg0)) (V m c main_arg3) : Vec F S1024x464 .f32) := by
  rw [flushed7, out7_eq]
  funext y
  show (square (r := 256) (c := 464) (grad (r := 256) (c := 464) (iblk m c 0 t)) (iblk m c 3 t) : Vec F S256x464 .f32) y =
    (square (r := 1024) (c := 464) (grad (r := 1024) (c := 464) (V m c main_arg0)) (V m c main_arg3) : Vec F S1024x464 .f32) (((cfg0.win 7).blk t).view.emb y)
  rw [emb7]
  simp only [square, grad_tile, tile3]

/-- The array after the run. -/
theorem final7 (c : Dev nD) : (dats m 0 c).arrAt 7 cfg0.N = square (r := 1024) (c := 464) (grad (r := 1024) (c := 464) (V m c main_arg0)) (V m c main_arg3) :=
  (dats m 0 c).arrAt_eq_of_cover 7 _ (fun t _ => flushed7_eq m c t)
    ((by decide +kernel : (cfg0.win 7).Covers).cover _ (Memref.isWhole_whole _))

/-- The kernel's run: its four results. -/
theorem run (ρ : Dev nD → PrngReg) :
    θ_run defs (onTc (τ := τ) (main (F := F))) ⟨m, fun _ => 0, ρ⟩ fun r => ∀ c : Dev nD,
      r.2.mem ((c.tc : Thread nD τ).loc main_v0_0) =
        grad (r := 1024) (c := 464) (m ((c.tc : Thread nD τ).loc main_arg0))
      ∧ r.2.mem ((c.tc : Thread nD τ).loc main_v0_1) =
        delta (r := 1024) (c := 464) (grad (r := 1024) (c := 464) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v0_2) =
        moment (r := 1024) (c := 464) (grad (r := 1024) (c := 464) (m ((c.tc : Thread nD τ).loc main_arg0))) (m ((c.tc : Thread nD τ).loc main_arg2))
      ∧ r.2.mem ((c.tc : Thread nD τ).loc main_v0_3) =
        square (r := 1024) (c := 464) (grad (r := 1024) (c := 464) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans (final4 m c), (h c).2.1.trans (final5 m c), (h c).2.2.1.trans (final6 m c),
        (h c).2.2.2.1.trans (final7 m c), (h c).2.2.2.2⟩)
    (run_blocks m ρ)

end Cert.WInIdeal.Update

namespace Cert.WInRefIdeal.Update

open Idealize.ShloMosaic Idealize.SL.Sem Cert.Update
open Cert.WInRefIdeal.Gen

/-- The reference's run: the same four functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) =
        grad (F := Ideal) (r := 1024) (c := 464) (m ((c.tc : Thread nD τ).loc main_arg0))
      ∧ r.2.mem ((c.tc : Thread nD τ).loc main_v24) =
        delta (F := Ideal) (r := 1024) (c := 464) (grad (F := Ideal) (r := 1024) (c := 464) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v5) =
        moment (F := Ideal) (r := 1024) (c := 464) (grad (F := Ideal) (r := 1024) (c := 464) (m ((c.tc : Thread nD τ).loc main_arg0))) (m ((c.tc : Thread nD τ).loc main_arg2))
      ∧ r.2.mem ((c.tc : Thread nD τ).loc main_v11) =
        square (F := Ideal) (r := 1024) (c := 464) (grad (F := Ideal) (r := 1024) (c := 464) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := reduce_eq (r := 1024) (c := 464) (m ((c.tc : Thread nD τ).loc main_arg0)) reducesTo_S8x1024x464_S1024x464_d0 h_S_
    refine ⟨h0.trans e, h1.trans ?_, h2.trans ?_, h3.trans ?_, hk⟩
    · rw [e]; rfl
    · rw [e]; rfl
    · rw [e]; rfl)
    (Cert.WInRefIdeal.Value.run (F := Ideal) m ρ)

end Cert.WInRefIdeal.Update

end
-- ==== Proof.UpdateWOut.lean ====
/-
The step of the output projection: the kernel's four results, and the reference's, as functions of the arguments.
-/
module

public import proofs.«01_k».proof.Proof.Update
public import proofs.«01_k».proof.Proof.Gen.WOutIdeal.Value
public import proofs.«01_k».proof.Proof.Gen.WOutRefIdeal.Run

@[expose] public section

noncomputable section

namespace Cert.WOutIdeal.Update

open Idealize.ShloMosaic Idealize.SL.Sem Cert.Update
open Cert.WOutIdeal.Gen Cert.WOutIdeal.Value

variable {F : FTy → Type} [FloatOps F]

/-- The sum the body computes from the eight parts is the sum in order. -/
theorem sum_eq (x0 : Vec F S8x128x1024 .f32) (x1 x2 x3 : Vec F S128x1024 .f32) :
    k0_pay5 x0 x1 x2 x3 = grad (r := 128) (c := 1024) x0 := by
  have hz : (fun _ => 0 : Fin S128x1024.rank → ℕ) = ![0, 0] := funext fun a => match a with | 0 => rfl | 1 => rfl
  have hx : ∀ x : S128x1024.Idx, r0_8.idx x = x := fun x => funext fun a => Fin.ext (by
    match a with
    | 0 => show 0 + 1 * (x 0).val = (x 0).val; omega
    | 1 => show 0 + 1 * (x 1).val = (x 1).val; omega)
  funext y
  refine (piece4_0 (View.ld x0 r0_0) (View.ld x0 r0_1) (View.ld x0 r0_2) (View.ld x0 r0_3) (View.ld x0 r0_4) (View.ld x0 r0_5) (View.ld x0 r0_6) (View.ld x0 r0_7) y).trans ?_
  rw [hx y, ld_part (r := 128) (c := 1024) x0 0 (by omega), ld_part (r := 128) (c := 1024) x0 1 (by omega), ld_part (r := 128) (c := 1024) x0 2 (by omega), ld_part (r := 128) (c := 1024) x0 3 (by omega), ld_part (r := 128) (c := 1024) x0 4 (by omega), ld_part (r := 128) (c := 1024) x0 5 (by omega), ld_part (r := 128) (c := 1024) x0 6 (by omega), ld_part (r := 128) (c := 1024) x0 7 (by omega)]
  have f : ∀ z : S1x128x1024.Idx, (z 1).val = (y 0).val → (z 2).val = (y 1).val → flat (r := 128) (c := 1024) z = y :=
    fun z h0 h1 => funext fun a => Fin.ext (by
      match a with
      | 0 => exact h0
      | 1 => exact h1)
  unfold E4
  simp only [f (ix4_0 y) rfl rfl, f (ix4_1 y) rfl rfl, f (ix4_2 y) rfl rfl, f (ix4_3 y) rfl rfl, f (ix4_4 y) rfl rfl, f (ix4_5 y) rfl rfl, f (ix4_6 y) rfl rfl, f (ix4_7 y) rfl rfl]
  rfl

/-- The step the body computes from it. -/
theorem delta_eq (g w m v : Vec F S128x1024 .f32) : k0_pay3 g w m v = delta (r := 128) (c := 1024) g w m v := rfl

/-- The first moment. -/
theorem moment_eq (g m : Vec F S128x1024 .f32) : k0_pay1 g m = moment (r := 128) (c := 1024) g m := rfl

/-- The second. -/
theorem square_eq (g v : Vec F S128x1024 .f32) : k0_pay2 g v = square (r := 128) (c := 1024) g v := rfl

/-- The kernel's run: its four results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) =
        grad (r := 128) (c := 1024) (m ((c.tc : Thread nD τ).loc main_arg0))
      ∧ r.2.mem ((c.tc : Thread nD τ).loc main_v0_1) =
        delta (r := 128) (c := 1024) (grad (r := 128) (c := 1024) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v0_2) =
        moment (r := 128) (c := 1024) (grad (r := 128) (c := 1024) (m ((c.tc : Thread nD τ).loc main_arg0))) (m ((c.tc : Thread nD τ).loc main_arg2))
      ∧ r.2.mem ((c.tc : Thread nD τ).loc main_v0_3) =
        square (r := 128) (c := 1024) (grad (r := 128) (c := 1024) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := sum_eq (m ((c.tc : Thread nD τ).loc main_arg0)) (m ((c.tc : Thread nD τ).loc main_arg1)) (m ((c.tc : Thread nD τ).loc main_arg2)) (m ((c.tc : Thread nD τ).loc main_arg3))
    refine ⟨h0.trans e, h1.trans ?_, h2.trans ?_, h3.trans ?_, hk⟩
    · exact (congrArg (fun g => k0_pay3 g _ _ _) e).trans (delta_eq _ _ _ _)
    · exact (congrArg (fun g => k0_pay1 g _) e).trans (moment_eq _ _)
    · exact (congrArg (fun g => k0_pay2 g _) e).trans (square_eq _ _))
    (Cert.WOutIdeal.Value.run m ρ)

end Cert.WOutIdeal.Update

namespace Cert.WOutRefIdeal.Update

open Idealize.ShloMosaic Idealize.SL.Sem Cert.Update
open Cert.WOutRefIdeal.Gen

/-- The reference's run: the same four functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) =
        grad (F := Ideal) (r := 128) (c := 1024) (m ((c.tc : Thread nD τ).loc main_arg0))
      ∧ r.2.mem ((c.tc : Thread nD τ).loc main_v24) =
        delta (F := Ideal) (r := 128) (c := 1024) (grad (F := Ideal) (r := 128) (c := 1024) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v5) =
        moment (F := Ideal) (r := 128) (c := 1024) (grad (F := Ideal) (r := 128) (c := 1024) (m ((c.tc : Thread nD τ).loc main_arg0))) (m ((c.tc : Thread nD τ).loc main_arg2))
      ∧ r.2.mem ((c.tc : Thread nD τ).loc main_v11) =
        square (F := Ideal) (r := 128) (c := 1024) (grad (F := Ideal) (r := 128) (c := 1024) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := reduce_eq (r := 128) (c := 1024) (m ((c.tc : Thread nD τ).loc main_arg0)) reducesTo_S8x128x1024_S128x1024_d0 h_S_
    refine ⟨h0.trans e, h1.trans ?_, h2.trans ?_, h3.trans ?_, hk⟩
    · rw [e]; rfl
    · rw [e]; rfl
    · rw [e]; rfl)
    (Cert.WOutRefIdeal.Value.run (F := Ideal) m ρ)

end Cert.WOutRefIdeal.Update

end
-- ==== Proof.UpdateWLora.lean ====
/-
The step of the decay's projection: the kernel's four results, and the reference's, as functions of the arguments.
-/
module

public import proofs.«01_k».proof.Proof.Update
public import proofs.«01_k».proof.Proof.Gen.WLoraIdeal.Value
public import proofs.«01_k».proof.Proof.Gen.WLoraRefIdeal.Run

@[expose] public section

noncomputable section

namespace Cert.WLoraIdeal.Update

open Idealize.ShloMosaic Idealize.SL.Sem Cert.Update
open Cert.WLoraIdeal.Gen Cert.WLoraIdeal.Value

variable {F : FTy → Type} [FloatOps F]

/-- The sum the body computes from the eight parts is the sum in order. -/
theorem sum_eq (x0 : Vec F S8x64x64 .f32) (x1 x2 x3 : Vec F S64x64 .f32) :
    k0_pay5 x0 x1 x2 x3 = grad (r := 64) (c := 64) x0 := by
  have hz : (fun _ => 0 : Fin S64x64.rank → ℕ) = ![0, 0] := funext fun a => match a with | 0 => rfl | 1 => rfl
  have hx : ∀ x : S64x64.Idx, r0_8.idx x = x := fun x => funext fun a => Fin.ext (by
    match a with
    | 0 => show 0 + 1 * (x 0).val = (x 0).val; omega
    | 1 => show 0 + 1 * (x 1).val = (x 1).val; omega)
  funext y
  refine (piece4_0 (View.ld x0 r0_0) (View.ld x0 r0_1) (View.ld x0 r0_2) (View.ld x0 r0_3) (View.ld x0 r0_4) (View.ld x0 r0_5) (View.ld x0 r0_6) (View.ld x0 r0_7) y).trans ?_
  rw [hx y, ld_part (r := 64) (c := 64) x0 0 (by omega), ld_part (r := 64) (c := 64) x0 1 (by omega), ld_part (r := 64) (c := 64) x0 2 (by omega), ld_part (r := 64) (c := 64) x0 3 (by omega), ld_part (r := 64) (c := 64) x0 4 (by omega), ld_part (r := 64) (c := 64) x0 5 (by omega), ld_part (r := 64) (c := 64) x0 6 (by omega), ld_part (r := 64) (c := 64) x0 7 (by omega)]
  have f : ∀ z : S1x64x64.Idx, (z 1).val = (y 0).val → (z 2).val = (y 1).val → flat (r := 64) (c := 64) z = y :=
    fun z h0 h1 => funext fun a => Fin.ext (by
      match a with
      | 0 => exact h0
      | 1 => exact h1)
  unfold E4
  simp only [f (ix4_0 y) rfl rfl, f (ix4_1 y) rfl rfl, f (ix4_2 y) rfl rfl, f (ix4_3 y) rfl rfl, f (ix4_4 y) rfl rfl, f (ix4_5 y) rfl rfl, f (ix4_6 y) rfl rfl, f (ix4_7 y) rfl rfl]
  rfl

/-- The step the body computes from it. -/
theorem delta_eq (g w m v : Vec F S64x64 .f32) : k0_pay3 g w m v = delta (r := 64) (c := 64) g w m v := rfl

/-- The first moment. -/
theorem moment_eq (g m : Vec F S64x64 .f32) : k0_pay1 g m = moment (r := 64) (c := 64) g m := rfl

/-- The second. -/
theorem square_eq (g v : Vec F S64x64 .f32) : k0_pay2 g v = square (r := 64) (c := 64) g v := rfl

/-- The kernel's run: its four results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) =
        grad (r := 64) (c := 64) (m ((c.tc : Thread nD τ).loc main_arg0))
      ∧ r.2.mem ((c.tc : Thread nD τ).loc main_v0_1) =
        delta (r := 64) (c := 64) (grad (r := 64) (c := 64) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v0_2) =
        moment (r := 64) (c := 64) (grad (r := 64) (c := 64) (m ((c.tc : Thread nD τ).loc main_arg0))) (m ((c.tc : Thread nD τ).loc main_arg2))
      ∧ r.2.mem ((c.tc : Thread nD τ).loc main_v0_3) =
        square (r := 64) (c := 64) (grad (r := 64) (c := 64) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := sum_eq (m ((c.tc : Thread nD τ).loc main_arg0)) (m ((c.tc : Thread nD τ).loc main_arg1)) (m ((c.tc : Thread nD τ).loc main_arg2)) (m ((c.tc : Thread nD τ).loc main_arg3))
    refine ⟨h0.trans e, h1.trans ?_, h2.trans ?_, h3.trans ?_, hk⟩
    · exact (congrArg (fun g => k0_pay3 g _ _ _) e).trans (delta_eq _ _ _ _)
    · exact (congrArg (fun g => k0_pay1 g _) e).trans (moment_eq _ _)
    · exact (congrArg (fun g => k0_pay2 g _) e).trans (square_eq _ _))
    (Cert.WLoraIdeal.Value.run m ρ)

end Cert.WLoraIdeal.Update

namespace Cert.WLoraRefIdeal.Update

open Idealize.ShloMosaic Idealize.SL.Sem Cert.Update
open Cert.WLoraRefIdeal.Gen

/-- The reference's run: the same four functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) =
        grad (F := Ideal) (r := 64) (c := 64) (m ((c.tc : Thread nD τ).loc main_arg0))
      ∧ r.2.mem ((c.tc : Thread nD τ).loc main_v24) =
        delta (F := Ideal) (r := 64) (c := 64) (grad (F := Ideal) (r := 64) (c := 64) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v5) =
        moment (F := Ideal) (r := 64) (c := 64) (grad (F := Ideal) (r := 64) (c := 64) (m ((c.tc : Thread nD τ).loc main_arg0))) (m ((c.tc : Thread nD τ).loc main_arg2))
      ∧ r.2.mem ((c.tc : Thread nD τ).loc main_v11) =
        square (F := Ideal) (r := 64) (c := 64) (grad (F := Ideal) (r := 64) (c := 64) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := reduce_eq (r := 64) (c := 64) (m ((c.tc : Thread nD τ).loc main_arg0)) reducesTo_S8x64x64_S64x64_d0 h_S_
    refine ⟨h0.trans e, h1.trans ?_, h2.trans ?_, h3.trans ?_, hk⟩
    · rw [e]; rfl
    · rw [e]; rfl
    · rw [e]; rfl)
    (Cert.WLoraRefIdeal.Value.run (F := Ideal) m ρ)

end Cert.WLoraRefIdeal.Update

end
-- ==== Proof.UpdateALora.lean ====
/-
The step of the gate's projection: the kernel's four results, and the reference's, as functions of the arguments.
-/
module

public import proofs.«01_k».proof.Proof.Update
public import proofs.«01_k».proof.Proof.Gen.ALoraIdeal.Value
public import proofs.«01_k».proof.Proof.Gen.ALoraRefIdeal.Run

@[expose] public section

noncomputable section

namespace Cert.ALoraIdeal.Update

open Idealize.ShloMosaic Idealize.SL.Sem Cert.Update
open Cert.ALoraIdeal.Gen Cert.ALoraIdeal.Value

variable {F : FTy → Type} [FloatOps F]

/-- The sum the body computes from the eight parts is the sum in order. -/
theorem sum_eq (x0 : Vec F S8x64x64 .f32) (x1 x2 x3 : Vec F S64x64 .f32) :
    k0_pay5 x0 x1 x2 x3 = grad (r := 64) (c := 64) x0 := by
  have hz : (fun _ => 0 : Fin S64x64.rank → ℕ) = ![0, 0] := funext fun a => match a with | 0 => rfl | 1 => rfl
  have hx : ∀ x : S64x64.Idx, r0_8.idx x = x := fun x => funext fun a => Fin.ext (by
    match a with
    | 0 => show 0 + 1 * (x 0).val = (x 0).val; omega
    | 1 => show 0 + 1 * (x 1).val = (x 1).val; omega)
  funext y
  refine (piece4_0 (View.ld x0 r0_0) (View.ld x0 r0_1) (View.ld x0 r0_2) (View.ld x0 r0_3) (View.ld x0 r0_4) (View.ld x0 r0_5) (View.ld x0 r0_6) (View.ld x0 r0_7) y).trans ?_
  rw [hx y, ld_part (r := 64) (c := 64) x0 0 (by omega), ld_part (r := 64) (c := 64) x0 1 (by omega), ld_part (r := 64) (c := 64) x0 2 (by omega), ld_part (r := 64) (c := 64) x0 3 (by omega), ld_part (r := 64) (c := 64) x0 4 (by omega), ld_part (r := 64) (c := 64) x0 5 (by omega), ld_part (r := 64) (c := 64) x0 6 (by omega), ld_part (r := 64) (c := 64) x0 7 (by omega)]
  have f : ∀ z : S1x64x64.Idx, (z 1).val = (y 0).val → (z 2).val = (y 1).val → flat (r := 64) (c := 64) z = y :=
    fun z h0 h1 => funext fun a => Fin.ext (by
      match a with
      | 0 => exact h0
      | 1 => exact h1)
  unfold E4
  simp only [f (ix4_0 y) rfl rfl, f (ix4_1 y) rfl rfl, f (ix4_2 y) rfl rfl, f (ix4_3 y) rfl rfl, f (ix4_4 y) rfl rfl, f (ix4_5 y) rfl rfl, f (ix4_6 y) rfl rfl, f (ix4_7 y) rfl rfl]
  rfl

/-- The step the body computes from it. -/
theorem delta_eq (g w m v : Vec F S64x64 .f32) : k0_pay3 g w m v = delta (r := 64) (c := 64) g w m v := rfl

/-- The first moment. -/
theorem moment_eq (g m : Vec F S64x64 .f32) : k0_pay1 g m = moment (r := 64) (c := 64) g m := rfl

/-- The second. -/
theorem square_eq (g v : Vec F S64x64 .f32) : k0_pay2 g v = square (r := 64) (c := 64) g v := rfl

/-- The kernel's run: its four results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) =
        grad (r := 64) (c := 64) (m ((c.tc : Thread nD τ).loc main_arg0))
      ∧ r.2.mem ((c.tc : Thread nD τ).loc main_v0_1) =
        delta (r := 64) (c := 64) (grad (r := 64) (c := 64) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v0_2) =
        moment (r := 64) (c := 64) (grad (r := 64) (c := 64) (m ((c.tc : Thread nD τ).loc main_arg0))) (m ((c.tc : Thread nD τ).loc main_arg2))
      ∧ r.2.mem ((c.tc : Thread nD τ).loc main_v0_3) =
        square (r := 64) (c := 64) (grad (r := 64) (c := 64) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := sum_eq (m ((c.tc : Thread nD τ).loc main_arg0)) (m ((c.tc : Thread nD τ).loc main_arg1)) (m ((c.tc : Thread nD τ).loc main_arg2)) (m ((c.tc : Thread nD τ).loc main_arg3))
    refine ⟨h0.trans e, h1.trans ?_, h2.trans ?_, h3.trans ?_, hk⟩
    · exact (congrArg (fun g => k0_pay3 g _ _ _) e).trans (delta_eq _ _ _ _)
    · exact (congrArg (fun g => k0_pay1 g _) e).trans (moment_eq _ _)
    · exact (congrArg (fun g => k0_pay2 g _) e).trans (square_eq _ _))
    (Cert.ALoraIdeal.Value.run m ρ)

end Cert.ALoraIdeal.Update

namespace Cert.ALoraRefIdeal.Update

open Idealize.ShloMosaic Idealize.SL.Sem Cert.Update
open Cert.ALoraRefIdeal.Gen

/-- The reference's run: the same four functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) =
        grad (F := Ideal) (r := 64) (c := 64) (m ((c.tc : Thread nD τ).loc main_arg0))
      ∧ r.2.mem ((c.tc : Thread nD τ).loc main_v24) =
        delta (F := Ideal) (r := 64) (c := 64) (grad (F := Ideal) (r := 64) (c := 64) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v5) =
        moment (F := Ideal) (r := 64) (c := 64) (grad (F := Ideal) (r := 64) (c := 64) (m ((c.tc : Thread nD τ).loc main_arg0))) (m ((c.tc : Thread nD τ).loc main_arg2))
      ∧ r.2.mem ((c.tc : Thread nD τ).loc main_v11) =
        square (F := Ideal) (r := 64) (c := 64) (grad (F := Ideal) (r := 64) (c := 64) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := reduce_eq (r := 64) (c := 64) (m ((c.tc : Thread nD τ).loc main_arg0)) reducesTo_S8x64x64_S64x64_d0 h_S_
    refine ⟨h0.trans e, h1.trans ?_, h2.trans ?_, h3.trans ?_, hk⟩
    · rw [e]; rfl
    · rw [e]; rfl
    · rw [e]; rfl)
    (Cert.ALoraRefIdeal.Value.run (F := Ideal) m ρ)

end Cert.ALoraRefIdeal.Update

end
-- ==== Proof.UpdateVectors.lean ====
/-
The step of the packed small weights: the kernel's four results, and the reference's, as functions of the arguments.
-/
module

public import proofs.«01_k».proof.Proof.Update
public import proofs.«01_k».proof.Proof.Gen.VectorsIdeal.Value
public import proofs.«01_k».proof.Proof.Gen.VectorsRefIdeal.Run

@[expose] public section

noncomputable section

namespace Cert.VectorsIdeal.Update

open Idealize.ShloMosaic Idealize.SL.Sem Cert.Update
open Cert.VectorsIdeal.Gen Cert.VectorsIdeal.Value

variable {F : FTy → Type} [FloatOps F]

/-- The sum the body computes from the eight parts is the sum in order. -/
theorem sum_eq (x0 : Vec F S8x72x128 .f32) (x1 x2 x3 : Vec F S72x128 .f32) :
    k0_pay5 x0 x1 x2 x3 = grad (r := 72) (c := 128) x0 := by
  have hz : (fun _ => 0 : Fin S72x128.rank → ℕ) = ![0, 0] := funext fun a => match a with | 0 => rfl | 1 => rfl
  have hx : ∀ x : S72x128.Idx, r0_8.idx x = x := fun x => funext fun a => Fin.ext (by
    match a with
    | 0 => show 0 + 1 * (x 0).val = (x 0).val; omega
    | 1 => show 0 + 1 * (x 1).val = (x 1).val; omega)
  funext y
  refine (piece4_0 (View.ld x0 r0_0) (View.ld x0 r0_1) (View.ld x0 r0_2) (View.ld x0 r0_3) (View.ld x0 r0_4) (View.ld x0 r0_5) (View.ld x0 r0_6) (View.ld x0 r0_7) y).trans ?_
  rw [hx y, ld_part (r := 72) (c := 128) x0 0 (by omega), ld_part (r := 72) (c := 128) x0 1 (by omega), ld_part (r := 72) (c := 128) x0 2 (by omega), ld_part (r := 72) (c := 128) x0 3 (by omega), ld_part (r := 72) (c := 128) x0 4 (by omega), ld_part (r := 72) (c := 128) x0 5 (by omega), ld_part (r := 72) (c := 128) x0 6 (by omega), ld_part (r := 72) (c := 128) x0 7 (by omega)]
  have f : ∀ z : S1x72x128.Idx, (z 1).val = (y 0).val → (z 2).val = (y 1).val → flat (r := 72) (c := 128) z = y :=
    fun z h0 h1 => funext fun a => Fin.ext (by
      match a with
      | 0 => exact h0
      | 1 => exact h1)
  unfold E4
  simp only [f (ix4_0 y) rfl rfl, f (ix4_1 y) rfl rfl, f (ix4_2 y) rfl rfl, f (ix4_3 y) rfl rfl, f (ix4_4 y) rfl rfl, f (ix4_5 y) rfl rfl, f (ix4_6 y) rfl rfl, f (ix4_7 y) rfl rfl]
  rfl

/-- The step the body computes from it. -/
theorem delta_eq (g w m v : Vec F S72x128 .f32) : k0_pay3 g w m v = delta (r := 72) (c := 128) g w m v := rfl

/-- The first moment. -/
theorem moment_eq (g m : Vec F S72x128 .f32) : k0_pay1 g m = moment (r := 72) (c := 128) g m := rfl

/-- The second. -/
theorem square_eq (g v : Vec F S72x128 .f32) : k0_pay2 g v = square (r := 72) (c := 128) g v := rfl

/-- The kernel's run: its four results. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0_0) =
        grad (r := 72) (c := 128) (m ((c.tc : Thread nD τ).loc main_arg0))
      ∧ r.2.mem ((c.tc : Thread nD τ).loc main_v0_1) =
        delta (r := 72) (c := 128) (grad (r := 72) (c := 128) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v0_2) =
        moment (r := 72) (c := 128) (grad (r := 72) (c := 128) (m ((c.tc : Thread nD τ).loc main_arg0))) (m ((c.tc : Thread nD τ).loc main_arg2))
      ∧ r.2.mem ((c.tc : Thread nD τ).loc main_v0_3) =
        square (r := 72) (c := 128) (grad (r := 72) (c := 128) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := sum_eq (m ((c.tc : Thread nD τ).loc main_arg0)) (m ((c.tc : Thread nD τ).loc main_arg1)) (m ((c.tc : Thread nD τ).loc main_arg2)) (m ((c.tc : Thread nD τ).loc main_arg3))
    refine ⟨h0.trans e, h1.trans ?_, h2.trans ?_, h3.trans ?_, hk⟩
    · exact (congrArg (fun g => k0_pay3 g _ _ _) e).trans (delta_eq _ _ _ _)
    · exact (congrArg (fun g => k0_pay1 g _) e).trans (moment_eq _ _)
    · exact (congrArg (fun g => k0_pay2 g _) e).trans (square_eq _ _))
    (Cert.VectorsIdeal.Value.run m ρ)

end Cert.VectorsIdeal.Update

namespace Cert.VectorsRefIdeal.Update

open Idealize.ShloMosaic Idealize.SL.Sem Cert.Update
open Cert.VectorsRefIdeal.Gen

/-- The reference's run: the same four functions of its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) =
        grad (F := Ideal) (r := 72) (c := 128) (m ((c.tc : Thread nD τ).loc main_arg0))
      ∧ r.2.mem ((c.tc : Thread nD τ).loc main_v24) =
        delta (F := Ideal) (r := 72) (c := 128) (grad (F := Ideal) (r := 72) (c := 128) (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v5) =
        moment (F := Ideal) (r := 72) (c := 128) (grad (F := Ideal) (r := 72) (c := 128) (m ((c.tc : Thread nD τ).loc main_arg0))) (m ((c.tc : Thread nD τ).loc main_arg2))
      ∧ r.2.mem ((c.tc : Thread nD τ).loc main_v11) =
        square (F := Ideal) (r := 72) (c := 128) (grad (F := Ideal) (r := 72) (c := 128) (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h0, h1, h2, h3, hk⟩ := h c
    have e := reduce_eq (r := 72) (c := 128) (m ((c.tc : Thread nD τ).loc main_arg0)) reducesTo_S8x72x128_S72x128_d0 h_S_
    refine ⟨h0.trans e, h1.trans ?_, h2.trans ?_, h3.trans ?_, hk⟩
    · rw [e]; rfl
    · rw [e]; rfl
    · rw [e]; rfl)
    (Cert.VectorsRefIdeal.Value.run (F := Ideal) m ρ)

end Cert.VectorsRefIdeal.Update

end
-- ==== Proof.Program.lean ====
/-
The kernel body as a short program.

The printed body is one long line of transfers and waits.  Here it is written over four operations, each named by
the array it concerns (`a : Fin 5`) and the step of the exchange (`k : Fin 7`), and the printed body is shown to be
that program.
-/
module

public import proofs.«01_k».proof.Proof.Gen.KernelIdeal.Points

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## Shapes and arrays -/

/-- How many rows one block of array `a` has. -/
abbrev rows : Fin 5 → ℕ
  | 0 => 1024
  | 1 => 128
  | 2 => 64
  | 3 => 64
  | 4 => 72

/-- How many columns one block of array `a` has. -/
abbrev cols : Fin 5 → ℕ
  | 0 => 464
  | 1 => 1024
  | 2 => 64
  | 3 => 64
  | 4 => 128

/-- The eight blocks of array `a` on one device. -/
abbrev big (a : Fin 5) : Shape := ⟨3, ![8, rows a, cols a]⟩
/-- One block of array `a`, still with its leading axis. -/
abbrev blk1 (a : Fin 5) : Shape := ⟨3, ![1, rows a, cols a]⟩
/-- One block of array `a`. -/
abbrev blk (a : Fin 5) : Shape := ⟨2, ![rows a, cols a]⟩

theorem sq : ∀ a : Fin 5, (blk1 a).Squeezes (blk a)
  | 0 => squeezes_S1x1024x464_S1024x464
  | 1 => squeezes_S1x128x1024_S128x1024
  | 2 => squeezes_S1x64x64_S64x64
  | 3 => squeezes_S1x64x64_S64x64
  | 4 => squeezes_S1x72x128_S72x128

/-- The kernel's operands. -/
def inM : (a : Fin 5) → Memref sig .tc .hbm (big a) .f32
  | 0 => Memref.whole main_arg0
  | 1 => Memref.whole main_arg1
  | 2 => Memref.whole main_arg2
  | 3 => Memref.whole main_arg3
  | 4 => Memref.whole main_arg4

/-- The kernel's results. -/
def outM : (a : Fin 5) → Memref sig .tc .hbm (big a) .f32
  | 0 => Memref.whole main_v1_0
  | 1 => Memref.whole main_v1_1
  | 2 => Memref.whole main_v1_2
  | 3 => Memref.whole main_v1_3
  | 4 => Memref.whole main_v1_4

/-- The block of `M` that starts at `off`. -/
def rowAt (a : Fin 5) (M : Memref sig .tc .hbm (big a) .f32) (off : Fin 3 → ℕ)
    (h : ∀ i, off i + (blk1 a).size i ≤ (big a).size i) : Memref sig .tc .hbm (blk a) .f32 :=
  (M.slice (Rect.unit (s := big a) off (blk1 a).size h) (fun _ => rfl)).squeeze (blk a) (sq a)

/-! ## The printed offsets and devices -/

/-- Where the device's own block starts. -/
def ownOff (d : Dev nD) : Fin 5 → Fin 3 → ℕ
  | 0 => k0_off1 d
  | 1 => k0_off2 d
  | 2 => k0_off3 d
  | 3 => k0_off3 d
  | 4 => k0_off4 d

theorem ownOff_inb (d : Dev nD) : ∀ a i, ownOff d a i + (blk1 a).size i ≤ (big a).size i
  | 0 => k0_off1_inb d
  | 1 => k0_off2_inb d
  | 2 => k0_off3_inb d
  | 3 => k0_off3_inb d
  | 4 => k0_off4_inb d

/-- Where the block for the partner of step `k` starts. -/
def peerOff (d : Dev nD) (k : Fin 7) : Fin 5 → Fin 3 → ℕ
  | 0 => k0_off5 d (k0_off5_at k).1 (k0_off5_at k).2.1 (k0_off5_at k).2.2
  | 1 => k0_off6 d (k0_off6_at k).1 (k0_off6_at k).2.1 (k0_off6_at k).2.2
  | 2 => k0_off7 d (k0_off7_at k).1 (k0_off7_at k).2.1 (k0_off7_at k).2.2
  | 3 => k0_off7 d (k0_off7_at k).1 (k0_off7_at k).2.1 (k0_off7_at k).2.2
  | 4 => k0_off8 d (k0_off8_at k).1 (k0_off8_at k).2.1 (k0_off8_at k).2.2

theorem peerOff_inb (d : Dev nD) (k : Fin 7) : ∀ a i, peerOff d k a i + (blk1 a).size i ≤ (big a).size i
  | 0 => k0_off5_inb d k
  | 1 => k0_off6_inb d k
  | 2 => k0_off7_inb d k
  | 3 => k0_off7_inb d k
  | 4 => k0_off8_inb d k

/-- The device each remote copy names, as printed. -/
def devAt (d : Dev nD) : Fin 7 → Fin 5 → Dev nD
  | 0, 0 => ⟨k0_dev1 d, k0_dev1_lt d⟩
  | 0, 1 => ⟨k0_dev2 d, k0_dev2_lt d⟩
  | 0, 2 => ⟨k0_dev3 d, k0_dev3_lt d⟩
  | 0, 3 => ⟨k0_dev4 d, k0_dev4_lt d⟩
  | 0, 4 => ⟨k0_dev5 d, k0_dev5_lt d⟩
  | 1, 0 => ⟨k0_dev6 d, k0_dev6_lt d⟩
  | 1, 1 => ⟨k0_dev7 d, k0_dev7_lt d⟩
  | 1, 2 => ⟨k0_dev8 d, k0_dev8_lt d⟩
  | 1, 3 => ⟨k0_dev9 d, k0_dev9_lt d⟩
  | 1, 4 => ⟨k0_dev10 d, k0_dev10_lt d⟩
  | 2, 0 => ⟨k0_dev11 d, k0_dev11_lt d⟩
  | 2, 1 => ⟨k0_dev12 d, k0_dev12_lt d⟩
  | 2, 2 => ⟨k0_dev13 d, k0_dev13_lt d⟩
  | 2, 3 => ⟨k0_dev14 d, k0_dev14_lt d⟩
  | 2, 4 => ⟨k0_dev15 d, k0_dev15_lt d⟩
  | 3, 0 => ⟨k0_dev16 d, k0_dev16_lt d⟩
  | 3, 1 => ⟨k0_dev17 d, k0_dev17_lt d⟩
  | 3, 2 => ⟨k0_dev18 d, k0_dev18_lt d⟩
  | 3, 3 => ⟨k0_dev19 d, k0_dev19_lt d⟩
  | 3, 4 => ⟨k0_dev20 d, k0_dev20_lt d⟩
  | 4, 0 => ⟨k0_dev21 d, k0_dev21_lt d⟩
  | 4, 1 => ⟨k0_dev22 d, k0_dev22_lt d⟩
  | 4, 2 => ⟨k0_dev23 d, k0_dev23_lt d⟩
  | 4, 3 => ⟨k0_dev24 d, k0_dev24_lt d⟩
  | 4, 4 => ⟨k0_dev25 d, k0_dev25_lt d⟩
  | 5, 0 => ⟨k0_dev26 d, k0_dev26_lt d⟩
  | 5, 1 => ⟨k0_dev27 d, k0_dev27_lt d⟩
  | 5, 2 => ⟨k0_dev28 d, k0_dev28_lt d⟩
  | 5, 3 => ⟨k0_dev29 d, k0_dev29_lt d⟩
  | 5, 4 => ⟨k0_dev30 d, k0_dev30_lt d⟩
  | 6, 0 => ⟨k0_dev31 d, k0_dev31_lt d⟩
  | 6, 1 => ⟨k0_dev32 d, k0_dev32_lt d⟩
  | 6, 2 => ⟨k0_dev33 d, k0_dev33_lt d⟩
  | 6, 3 => ⟨k0_dev34 d, k0_dev34_lt d⟩
  | 6, 4 => ⟨k0_dev35 d, k0_dev35_lt d⟩

/-! ## Semaphores -/

/-- The send semaphore of array `a` at step `k`. -/
def sendS (a : Fin 5) (k : Fin 7) : DmaSem sig := ⟨7 * a.val + k.val, by have := a.isLt; have := k.isLt; show _ < 75; omega⟩
/-- The receive semaphore of array `a` at step `k`. -/
def recvS (a : Fin 5) (k : Fin 7) : DmaSem sig := ⟨35 + (7 * a.val + k.val), by have := a.isLt; have := k.isLt; show _ < 75; omega⟩
/-- The semaphore of the copy of array `a`'s own block. -/
def locS (a : Fin 5) : DmaSem sig := ⟨70 + a.val, by have := a.isLt; show _ < 75; omega⟩

/-! ## The operations, over the printed offsets -/

theorem wordExact_rowAt (a : Fin 5) (M : Memref sig .tc .hbm (big a) .f32) (off) (h) : (rowAt a M off h).view.WordExact :=
  (View.wordExact_bits rfl).reshape _ _

/-- The program of the kernel's operations. -/
abbrev PR (F : FTy → Type) : Type 1 := Prog (TpuEff nD τ sig (Elt F) Λ₀ .tc) PUnit.{1}

/-- Start the copy of the own block of array `a`. -/
def startLoc' (d : Dev nD) (a : Fin 5) : PR F :=
  Prog.lift (.enqueueDma (rowAt a (inM a) (ownOff d a) (ownOff_inb d a)) (.here (rowAt a (outM a) (ownOff d a) (ownOff_inb d a)))
    (.dma (locS a)) (wordExact_rowAt _ _ _ _) (wordExact_rowAt _ _ _ _) ⟨Or.inl rfl, trivial⟩)

/-- Start the copy of array `a`'s block to the partner of step `k`. -/
def startRem' (d : Dev nD) (k : Fin 7) (a : Fin 5) : PR F :=
  Prog.lift (.enqueueDma (rowAt a (inM a) (peerOff d k a) (peerOff_inb d k a))
    (.remote (Dev.tc (devAt d k a)) (rowAt a (outM a) (ownOff d a) (ownOff_inb d a)) (.dma (sendS a k)))
    (.dma (recvS a k)) (wordExact_rowAt _ _ _ _) (wordExact_rowAt _ _ _ _) ⟨⟨rfl, Or.inl rfl⟩, trivial⟩)

/-- Wait until that copy has been sent. -/
def waitSend' (d : Dev nD) (k : Fin 7) (a : Fin 5) : PR F :=
  Prog.lift (.waitDma2 (sendS a k) (rowAt a (outM a) (ownOff d a) (ownOff_inb d a))
    (rowAt a (inM a) (peerOff d k a) (peerOff_inb d k a)) (wordExact_rowAt _ _ _ _) (wordExact_rowAt _ _ _ _))

/-- Wait until the partner's copy has landed. -/
def waitRecv' (d : Dev nD) (k : Fin 7) (a : Fin 5) : PR F :=
  Prog.lift (.waitDma2 (recvS a k) (rowAt a (inM a) (peerOff d k a) (peerOff_inb d k a))
    (rowAt a (outM a) (ownOff d a) (ownOff_inb d a)) (wordExact_rowAt _ _ _ _) (wordExact_rowAt _ _ _ _))

/-- Wait until the own block has been copied. -/
def waitLoc' (d : Dev nD) (a : Fin 5) : PR F :=
  Prog.lift (.waitDma2 (locS a) (rowAt a (inM a) (ownOff d a) (ownOff_inb d a))
    (rowAt a (outM a) (ownOff d a) (ownOff_inb d a)) (wordExact_rowAt _ _ _ _) (wordExact_rowAt _ _ _ _))

/-- Run the programs of a list, in order, and then `r`. -/
def runL (r : PR F) : List (PR F) → PR F
  | [] => r
  | p :: ps => do
    p
    runL r ps

/-- The order of the copies: by step, and within a step by array. -/
def order : List (Fin 7 × Fin 5) :=
  [(0, 0), (0, 1), (0, 2), (0, 3), (0, 4), (1, 0), (1, 1), (1, 2), (1, 3), (1, 4), (2, 0), (2, 1), (2, 2), (2, 3), (2, 4),
   (3, 0), (3, 1), (3, 2), (3, 3), (3, 4), (4, 0), (4, 1), (4, 2), (4, 3), (4, 4), (5, 0), (5, 1), (5, 2), (5, 3), (5, 4),
   (6, 0), (6, 1), (6, 2), (6, 3), (6, 4)]

/-- The five arrays, in order. -/
def arrays : List (Fin 5) := [0, 1, 2, 3, 4]

/-- The kernel body over the printed offsets. -/
def prog' : PR F := do
  let d : Dev nD ← Prog.lift .deviceId
  runL (runL (runL (runL (pure ⟨⟩) (arrays.map (waitLoc' d)))
    (order.map fun p => do waitSend' d p.1 p.2; waitRecv' d p.1 p.2))
    (order.map fun p => startRem' d p.1 p.2)) (arrays.map (startLoc' d))

set_option maxRecDepth 1000000 in
set_option maxHeartbeats 0 in
/-- The printed kernel body is that program. -/
theorem bodyAt_eq (t : Fin cfg0.N) : bodyAt0 (F := F) t = prog' := rfl

end Cert.KernelIdeal.Exchange

end
-- ==== Proof.Geometry.lean ====
/-
Where the blocks lie and what they hold.

The printed offsets and device names are read as numbers: a device's own block starts at its own number, the block
for the partner of step `k` at the partner's number, and the partner of device `d` at step `k` is `d xor (k + 1)`.
The eight blocks of an array are disjoint and cover it.  What each result holds at the end is stated for the whole
array, and the block a copy writes is shown to agree with it.
-/
module

public import proofs.«01_k».proof.Proof.Program

@[expose] public section

noncomputable section

namespace Cert.KernelIdeal.Exchange

open Cert.KernelIdeal Cert.KernelIdeal.Gen
open Idealize.ShloMosaic Idealize.ShloMosaic.TcCoe
open Idealize.SL Idealize.SL.Sem

variable {F : FTy → Type} [FloatOps F]

/-! ## Partners -/

theorem peer_lt : ∀ (d : Dev nD) (k : Fin 7), d.val ^^^ (k.val + 1) < nD := by decide +kernel

/-- The partner of device `d` at step `k`. -/
def peer (d : Dev nD) (k : Fin 7) : Dev nD := ⟨d.val ^^^ (k.val + 1), peer_lt d k⟩

theorem peer_peer : ∀ (d : Dev nD) (k : Fin 7), peer (peer d k) k = d := by decide +kernel
theorem peer_ne : ∀ (d : Dev nD) (k : Fin 7), peer d k ≠ d := by decide +kernel
theorem peer_inj : ∀ (d : Dev nD) (k k' : Fin 7), peer d k = peer d k' → k = k' := by decide +kernel

/-- Every device but `d` is the partner of `d` at one step. -/
theorem univ_peer : ∀ d : Dev nD, (Finset.univ : Finset (Dev nD)) = insert d (Finset.univ.image (peer d)) := by decide +kernel

theorem devAt_eq : ∀ (d : Dev nD) (k : Fin 7) (a : Fin 5), devAt d k a = peer d k := by decide +kernel

/-- The offset of block `j`. -/
abbrev off3 (j : ℕ) : Fin 3 → ℕ := ![j, 0, 0]

theorem ownOff_eq : ∀ (d : Dev nD) (a : Fin 5), ownOff d a = off3 d.val := by decide +kernel
theorem peerOff_eq : ∀ (d : Dev nD) (k : Fin 7) (a : Fin 5), peerOff d k a = off3 (peer d k).val := by decide +kernel

theorem off3_inb (j : Dev nD) (a : Fin 5) (i : Fin 3) : off3 j.val i + (blk1 a).size i ≤ (big a).size i := by
  match i with
  | 0 => show j.val + 1 ≤ 8; exact j.isLt
  | 1 => show 0 + rows a ≤ rows a; omega
  | 2 => show 0 + cols a ≤ cols a; omega

/-- Block `j` of `M`. -/
abbrev row (a : Fin 5) (M : Memref sig .tc .hbm (big a) .f32) (j : Dev nD) : Memref sig .tc .hbm (blk a) .f32 :=
  rowAt a M (off3 j.val) (off3_inb j a)

theorem rowAt_congr (a : Fin 5) (M : Memref sig .tc .hbm (big a) .f32) {o o' : Fin 3 → ℕ} (e : o = o')
    (h : ∀ i, o i + (blk1 a).size i ≤ (big a).size i) (h' : ∀ i, o' i + (blk1 a).size i ≤ (big a).size i) :
    rowAt a M o h = rowAt a M o' h' := by
  subst e
  rfl

theorem rowAt_own (d : Dev nD) (a : Fin 5) (M : Memref sig .tc .hbm (big a) .f32) :
    rowAt a M (ownOff d a) (ownOff_inb d a) = row a M d := rowAt_congr a M (ownOff_eq d a) _ _

theorem rowAt_peer (d : Dev nD) (k : Fin 7) (a : Fin 5) (M : Memref sig .tc .hbm (big a) .f32) :
    rowAt a M (peerOff d k a) (peerOff_inb d k a) = row a M (peer d k) := rowAt_congr a M (peerOff_eq d k a) _ _

/-! ## The blocks as element sets -/

/-- The rectangle of block `j`. -/
abbrev rect (a : Fin 5) (j : Dev nD) : Rect (big a) := Rect.unit (s := big a) (off3 j.val) (blk1 a).size (off3_inb j a)

theorem mem_rect (a : Fin 5) (j : Dev nD) (i : (big a).Idx) : i ∈ (rect a j).set ↔ i 0 = j := by
  rw [Rect.mem_set_unit]
  constructor
  · intro h
    have h0 := h 0
    exact Fin.ext (show (i 0).val = j.val from by
      have h1 : j.val ≤ (i 0).val := h0.1
      have h2 : (i 0).val < j.val + 1 := h0.2
      omega)
  · rintro e x
    match x with
    | 0 => exact ⟨(show j.val ≤ (i 0).val from e ▸ le_refl _), (show (i 0).val < j.val + 1 from e ▸ Nat.lt_succ_self _)⟩
    | 1 => exact ⟨Nat.zero_le _, (show (i 1).val < 0 + rows a from by rw [Nat.zero_add]; exact (i 1).isLt)⟩
    | 2 => exact ⟨Nat.zero_le _, (show (i 2).val < 0 + cols a from by rw [Nat.zero_add]; exact (i 2).isLt)⟩

variable {a : Fin 5} (M : Memref sig .tc .hbm (big a) .f32)

/-- The elements of block `j` of `M`. -/
def rset (j : Dev nD) : Finset M.view.ty.Idx := (rect a j).set.map M.view.emb

theorem row_set (j : Dev nD) : (row a M j).view.set = rset M j :=
  (View.set_reshape _ _).trans (View.set_slice _ _)

theorem rset_disjoint (j j' : Dev nD) (h : j ≠ j') : Disjoint (rset M j) (rset M j') := by
  unfold rset
  rw [Finset.disjoint_map, Finset.disjoint_left]
  intro i hi hi'
  exact h (((mem_rect a j i).mp hi).symm.trans ((mem_rect a j' i).mp hi'))

theorem rset_cover : (Finset.univ : Finset (Dev nD)).biUnion (rset M) = M.view.set := by
  ext e
  rw [Finset.mem_biUnion]
  constructor
  · rintro ⟨j, -, h⟩
    obtain ⟨i, -, rfl⟩ := Finset.mem_map.mp h
    exact Finset.mem_map.mpr ⟨i, Finset.mem_univ _, rfl⟩
  · intro h
    obtain ⟨i, -, rfl⟩ := Finset.mem_map.mp h
    exact ⟨i 0, Finset.mem_univ _, Finset.mem_map.mpr ⟨i, (mem_rect a _ i).mpr rfl, rfl⟩⟩

theorem inM_set : ∀ a : Fin 5, (inM a).view.set = Finset.univ
  | 0 => View.set_whole _
  | 1 => View.set_whole _
  | 2 => View.set_whole _
  | 3 => View.set_whole _
  | 4 => View.set_whole _

theorem outM_set : ∀ a : Fin 5, (outM a).view.set = Finset.univ
  | 0 => View.set_whole _
  | 1 => View.set_whole _
  | 2 => View.set_whole _
  | 3 => View.set_whole _
  | 4 => View.set_whole _

/-! ## What the arrays hold -/

variable (m : (ℓ : Loc nD τ sig) → Buf (Elt F) ℓ)

/-- What device `d`'s operand `a` holds. -/
abbrev inV (d : Dev nD) (a : Fin 5) : Buf (Elt F) ((inM a).view.loc (d.tc : Thread nD τ)) := m _

/-- What device `d`'s result `a` holds at launch. -/
abbrev oldV (d : Dev nD) (a : Fin 5) : Buf (Elt F) ((outM a).view.loc (d.tc : Thread nD τ)) := m _

/-- `i` with its first coordinate replaced by `d`. -/
def atBlock (a : Fin 5) (d : Dev nD) (i : (big a).Idx) : (big a).Idx
  | 0 => d
  | 1 => i 1
  | 2 => i 2

/-- What device `d`'s result `a` holds at the end: its block `j` is block `d` of device `j`'s operand. -/
def outV (d : Dev nD) (a : Fin 5) : Buf (Elt F) ((outM a).view.loc (d.tc : Thread nD τ)) :=
  (outM a).view.write (Elt F) (oldV m d a) (fun i => (inM a).view.read (Elt F) (inV m (i 0) a) (atBlock a d i)) Finset.univ

theorem atBlock_emb (a : Fin 5) (d j : Dev nD) (z : (blk1 a).Idx) : atBlock a d ((rect a j).emb z) = (rect a d).emb z := by
  funext x
  match x with
  | 0 =>
    refine Fin.ext ?_
    have hz : (z 0).val = 0 := Nat.lt_one_iff.mp (z 0).isLt
    show d.val = d.val + 1 * (z 0).val
    omega
  | 1 => rfl
  | 2 => rfl

theorem emb_zero (a : Fin 5) (j : Dev nD) (z : (blk1 a).Idx) : (rect a j).emb z 0 = j := by
  have hz : (z 0).val = 0 := Nat.lt_one_iff.mp (z 0).isLt
  exact Fin.ext (show j.val + 1 * (z 0).val = j.val from by omega)

theorem outV_emb (d j : Dev nD) (a : Fin 5) (z : (blk1 a).Idx) :
    outV m d a ((outM a).view.emb ((rect a j).emb z))
      = _root_.cast (congrArg (Elt F) (outM a).view.elt_eq.symm) ((inM a).view.read (Elt F) (inV m j a) ((rect a d).emb z)) := by
  unfold outV
  rw [View.write_emb_of_mem _ _ (Finset.mem_univ _), atBlock_emb, emb_zero]

/-- Block `j` of device `d`'s result, overwritten by block `d` of device `j`'s operand, is what the result holds
    there at the end. -/
theorem write_row (d j : Dev nD) (a : Fin 5) (f : Buf (Elt F) ((outM a).view.loc (d.tc : Thread nD τ))) :
    ∀ e ∈ rset (outM a) j,
      (row a (outM a) j).view.write (Elt F) f ((row a (inM a) d).view.read (Elt F) (inV m j a)) Finset.univ e = outV m d a e := by
  rw [← row_set]
  intro e he
  obtain ⟨y, -, rfl⟩ := Finset.mem_map.mp he
  refine (View.write_emb_of_mem (v := (row a (outM a) j).view) f _ (Finset.mem_univ y)).trans ?_
  exact (outV_emb m d j a _).symm

end Cert.KernelIdeal.Exchange

end
-- ==== Proof.Protocol.lean ====
/-
The exchange as a protocol.

Each device has, for every array and every step, one counter for the copy it sends and one for the copy it receives,
and for every array one counter for its own block.  Each counter carries one transfer.  What a counter hands over when
it is waited for:

  a send counter      the block of the operand that was sent;
  a receive counter   the block of the result that has arrived, with its final contents;
  a local counter     the device's own block of the operand and of the result.
-/
module

public import proofs.«01_k».proof.Proof.Geometry
public import Idealize.ShloMosaic.Lib.Pipeline.Launch
public import Idealize.ShloMosaic.Lib.Pipeline.Kit
public import Idealize.ShloMosaic.Lib.Tactic

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipelines' rounds and the exchange's rounds. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Counters -/

/-- The counters of one device: sends, receives, local copies. -/
abbrev Ctr : Type := (Fin 7 × Fin 5) ⊕ ((Fin 7 × Fin 5) ⊕ Fin 5)

abbrev cSend (p : Fin 7 × Fin 5) : Ctr := .inl p
abbrev cRecv (p : Fin 7 × Fin 5) : Ctr := .inr (.inl p)
abbrev cLoc (a : Fin 5) : Ctr := .inr (.inr a)

/-- The semaphore of a counter. -/
def osem : Ctr → SemLoc sig
  | .inl p => .dma (sendS p.2 p.1)
  | .inr (.inl p) => .dma (recvS p.2 p.1)
  | .inr (.inr a) => .dma (locS a)

/-- The array a counter belongs to. -/
def arrOf : Ctr → Fin 5
  | .inl p => p.2
  | .inr (.inl p) => p.2
  | .inr (.inr a) => a

/-- The counter of the `i`-th semaphore. -/
def ctrAt (i : ℕ) : Ctr :=
  if i < 35 then .inl (Fin.ofNat 7 (i % 7), Fin.ofNat 5 (i / 7))
  else if i < 70 then .inr (.inl (Fin.ofNat 7 ((i - 35) % 7), Fin.ofNat 5 ((i - 35) / 7)))
  else .inr (.inr (Fin.ofNat 5 (i - 70)))

/-- The counter a semaphore is. -/
def ctrOf : SemLoc sig → Option Ctr
  | .dma i => some (ctrAt i.val)
  | .reg _ => none

theorem ctrOf_osem : ∀ k : Ctr, ctrOf (osem k) = some k := by decide +kernel

theorem osem_inj : Function.Injective osem := fun k k' h =>
  Option.some.inj ((ctrOf_osem k).symm.trans ((congrArg ctrOf h).trans (ctrOf_osem k')))

/-- A device's counter as a cell of the machine. -/
def kcell (ck : Dev nD × Ctr) : GSem nD τ sig := ((ck.1 : Thread nD τ), osem ck.2)

theorem kcell_inj : Function.Injective kcell := by
  rintro ⟨c, k⟩ ⟨c', k'⟩ h
  have h1 : c = c' := congrArg (fun g : GSem nD τ sig => g.1.1) h
  have h2 : k = k' := osem_inj (congrArg Prod.snd h)
  rw [h1, h2]

/-- The units one block of array `a` credits. -/
def N (a : Fin 5) : ℕ := (row a (outM a) 0).view.dmaCredit

theorem blk_pos : ∀ a : Fin 5, 0 < (blk a).numel := by decide +kernel

theorem N_pos (a : Fin 5) : 0 < N a := View.dmaCredit_pos _ (blk_pos a)

theorem credit_out (a : Fin 5) (j : Dev nD) : (row a (outM a) j).view.dmaCredit = N a := rfl
theorem credit_in (a : Fin 5) (j : Dev nD) : (row a (inM a) j).view.dmaCredit = N a := by
  unfold N
  match a with
  | 0 => rfl
  | 1 => rfl
  | 2 => rfl
  | 3 => rfl
  | 4 => rfl

/-! ## Blocks held -/

section Blocks

variable (m : (ℓ : Loc nD τ sig) → Buf (Elt F) ℓ)

/-- Block `j` of device `c`'s operand `a`, as launched. -/
def inRow (c : Dev nD) (a : Fin 5) (j : Dev nD) : sProp 𝕄 :=
  (row a (inM a) j).view.loc (c : Thread nD τ) ↦[(row a (inM a) j).view.set]{fullShare} inV m c a

/-- Block `j` of device `c`'s result `a`, as launched. -/
def oldRow (c : Dev nD) (a : Fin 5) (j : Dev nD) : sProp 𝕄 :=
  (row a (outM a) j).view.loc (c : Thread nD τ) ↦[(row a (outM a) j).view.set]{fullShare} oldV m c a

/-- Block `j` of device `c`'s result `a`, at the end. -/
def outRow (c : Dev nD) (a : Fin 5) (j : Dev nD) : sProp 𝕄 :=
  (row a (outM a) j).view.loc (c : Thread nD τ) ↦[(row a (outM a) j).view.set]{fullShare} outV m c a

theorem pt_storable (ℓ : Loc nD τ sig) (I : Finset (Idx (τ := τ) ℓ)) (f : Buf (Elt F) ℓ) :
    BI.Storable (upEmb : UEmb _ 𝕄) (ℓ ↦[I]{fullShare} f : sProp 𝕄) := inferInstance
instance inRow_storable (c : Dev nD) (a : Fin 5) (j : Dev nD) : BI.Storable (upEmb : UEmb _ 𝕄) (inRow m c a j) :=
  pt_storable _ _ _
instance outRow_storable (c : Dev nD) (a : Fin 5) (j : Dev nD) : BI.Storable (upEmb : UEmb _ 𝕄) (outRow m c a j) :=
  pt_storable _ _ _

/-- A result's block, overwritten by the block that belongs there, is at its final contents. -/
theorem landed (d j : Dev nD) (a : Fin 5) (f : Buf (Elt F) ((outM a).view.loc (d.tc : Thread nD τ))) :
    ((row a (outM a) j).view.loc (d : Thread nD τ) ↦[(row a (outM a) j).view.set]{fullShare}
        ((row a (outM a) j).view.write (Elt F) f ((row a (inM a) d).view.read (Elt F) (inV m j a)) Finset.univ) : sProp 𝕄)
      ⊢ outRow m d a j := by
  unfold outRow
  exact Entails.of_eq (pointsTo_congr (by rw [row_set]; exact write_row m d j a f))

/-! ## The schedule -/

/-- What a counter hands over. -/
def pay (c : Dev nD) : Ctr → sProp 𝕄
  | .inl p => inRow m c p.2 (peer c p.1)
  | .inr (.inl p) => outRow m c p.2 (peer c p.1)
  | .inr (.inr a) => iprop(outRow m c a c ∗ inRow m c a c)

instance pay_storable (c : Dev nD) (k : Ctr) : BI.Storable (upEmb : UEmb _ 𝕄) (pay m c k) := by
  rcases k with p | p | a
  · exact inRow_storable m c p.2 _
  · exact outRow_storable m c p.2 _
  · show BI.Storable (upEmb : UEmb _ 𝕄) (iprop(outRow m c a c ∗ inRow m c a c))
    infer_instance

/-- One transfer per counter. -/
def Rd : Rounds.Schedule (GSem nD τ sig) Unit 𝕄 where
  duties g r := if r = 0 ∧ g.1.2 = .tc ∧ (ctrOf g.2).isSome then {()} else ∅
  unitless _ := False
  amount g _ _ := (ctrOf g.2).elim 1 fun k => N (arrOf k)
  payload g _ _ := (ctrOf g.2).elim iprop(emp) fun k => pay m g.1.1 k
  amount_pos g _ _ _ := by
    cases ctrOf g.2 with
    | none => exact Nat.one_pos
    | some k => exact N_pos (arrOf k)

instance Rd_storable (g : GSem nD τ sig) (r : ℕ) (d : Unit) : BI.Storable (upEmb : UEmb _ 𝕄) ((Rd (F := F) m).payload g r d) := by
  show BI.Storable (upEmb : UEmb _ 𝕄) ((ctrOf g.2).elim iprop(emp) fun k => pay m g.1.1 k)
  cases ctrOf g.2 with
  | none => exact (inferInstance : BI.Storable (upEmb : UEmb _ 𝕄) iprop(emp))
  | some k => exact pay_storable m g.1.1 k

variable (c : Dev nD) (k : Ctr)

theorem duties_zero : (Rd (F := F) m).duties (kcell (c, k)) 0 = {()} := by
  dsimp only [Rd, kcell]
  rw [ctrOf_osem]
  exact if_pos ⟨rfl, rfl, rfl⟩

theorem duties_later (g : GSem nD τ sig) : ∀ r, 1 ≤ r → (Rd (F := F) m).duties g r = ∅ := fun r hr => by
  dsimp only [Rd]
  exact if_neg fun h => by omega

theorem amount_eq (u : Unit) : (Rd (F := F) m).amount (kcell (c, k)) 0 u = N (arrOf k) := by
  dsimp only [Rd, kcell]
  rw [ctrOf_osem]
  rfl

theorem payload_eq (u : Unit) : (Rd (F := F) m).payload (kcell (c, k)) 0 u = pay m c k := by
  dsimp only [Rd, kcell]
  rw [ctrOf_osem]
  rfl

theorem expect_eq : (Rd (F := F) m).expect (kcell (c, k)) 0 = N (arrOf k) := by
  unfold Schedule.expect Schedule.amountOf
  rw [duties_zero, Finset.sum_singleton, amount_eq]

theorem rest_eq : bigSep ((Rd (F := F) m).duties (kcell (c, k)) 0 \ ∅) (fun u => (Rd (F := F) m).payload (kcell (c, k)) 0 u) = pay m c k := by
  rw [Finset.sdiff_empty, duties_zero, bigSep_singleton, payload_eq]

end Blocks

/-! ## What a device owes at launch -/

/-- Device `c` owes the receive counter of each partner the units of each array's block. -/
def owedFor (c : Dev nD) (p : Fin 7 × Fin 5) : CellTallies nD τ sig Unit := tallyAt (kcell (peer c p.1, cRecv p)) () (N p.2)

/-- The units owed for the copies of a list. -/
def owedL (c : Dev nD) : List (Fin 7 × Fin 5) → CellTallies nD τ sig Unit
  | [] => 0
  | p :: l => owedL c l + owedFor c p

/-- All the units a device owes at launch. -/
def O₀ (c : Dev nD) : CellTallies nD τ sig Unit := owedL c order

/-- Every TensorCore cell carries the one pair. -/
def L (g : GSem nD τ sig) : Finset Unit := if g.1.2 = .tc then {()} else ∅
def lv (_ : GSem nD τ sig) (_ : Unit) : ℕ := 0
theorem L_of_ne (g : GSem nD τ sig) (h : g.1.2 ≠ .tc) : L g = ∅ := if_neg h

end Cert.KernelIdeal.Exchange

end
-- ==== Proof.Steps.lean ====
/-
One rule for each operation of the exchange, and the rule for a list of operations.
-/
module

public import proofs.«01_k».proof.Proof.Protocol

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- The counters of all devices: their invariants, and that their one round is open. -/
def recs (K : Dev nD × Ctr → ℕ) : sProp 𝕄 :=
  bigSep Finset.univ fun ck : Dev nD × Ctr => iprop(cellInv ER (Rd m) (K ck) (kcell ck) ∗ reached ER (kcell ck) 0)

instance recs_persistent (K : Dev nD × Ctr → ℕ) : BI.Persistent (recs m K) := by unfold recs; infer_instance

theorem recs_at (K : Dev nD × Ctr → ℕ) (ck : Dev nD × Ctr) :
    recs m K ⊢ iprop(cellInv ER (Rd m) (K ck) (kcell ck) ∗ reached ER (kcell ck) 0) :=
  bigSep_elim (Finset.mem_univ ck)

theorem mem_duty (c : Dev nD) (k : Ctr) : () ∈ (Rd (F := F) m).duties (kcell (c, k)) 0 := by
  rw [duties_zero]; exact Finset.mem_singleton_self _

theorem pay_intro (c : Dev nD) (k : Ctr) : pay m c k ⊢ (Rd (F := F) m).payload (kcell (c, k)) 0 () :=
  Entails.of_eq (payload_eq m c k ()).symm

variable (c : Dev nD)

/-- What the copy of the own block of array `a` starts from. -/
def locPre (a : Fin 5) : sProp 𝕄 := iprop(inRow m c a c ∗ oldRow m c a c ∗ dutyTok ER (kcell (c, cLoc a)) 0 ())
/-- What the copy to a partner starts from. -/
def remPre (p : Fin 7 × Fin 5) : sProp 𝕄 :=
  iprop(inRow m c p.2 (peer c p.1) ∗ oldRow m (peer c p.1) p.2 c ∗ dutyTok ER (kcell (c, cSend p)) 0 ()
    ∗ dutyTok ER (kcell (peer c p.1, cRecv p)) 0 ())
/-- The credit of a counter. -/
def credOf (k : Ctr) : sProp 𝕄 := cred (tallyAt (kcell (c, k)) () (N (arrOf k)))
/-- The counter before its wait. -/
def posOf (k : Ctr) : sProp 𝕄 := atPos ER (kcell (c, k)) 0 ∅ 0
/-- The counter after its wait. -/
def doneOf (k : Ctr) : sProp 𝕄 := iprop(atPos ER (kcell (c, k)) (0 + 1) ∅ 0 ∗ pay m c k)

section Step

/-- The program's weakest precondition on device `c`. -/
abbrev WP {α : Type} (e : Prog (TpuEff nD τ sig (Elt F) Λ₀ .tc) α) (Q : α → sProp 𝕄) : sProp 𝕄 :=
  wp frame (wpE (defs₀ (F := F)) 𝒱₀ (c : Thread nD τ) none) Set.univ e Q

variable (K : Dev nD × Ctr → ℕ)

theorem step_loc {α : Type} {Q : α → sProp 𝕄}
    {k : PUnit → Prog (TpuEff nD τ sig (Elt F) Λ₀ .tc) α} (a : Fin 5) {src dst : Memref sig .tc .hbm (blk a) .f32} (es : src = row a (inM a) c) (ed : dst = row a (outM a) c)
    {hsrc : src.view.WordExact} {hdst : dst.view.WordExact} {hsem : DmaTarget.Typed (nD := nD) .hbm (.dma (locS a)) (DmaTarget.here (p := (Proc.tc : Proc τ)) dst)} :
    iprop(recs m K ∗ locPre m c a)
      ⊢ iprop((credOf c (cLoc a) -∗ WP c (k ⟨⟩) Q) -∗ WP c (.op (.enqueueDma src (.here dst) (.dma (locS a)) hsrc hdst hsem) k) Q) := by
  subst es ed
  unfold locPre credOf inRow oldRow
  iintro ⟨#HR, Hin, Hout, Htok⟩
  ihave ⟨#HI, #Hr⟩ := (recs_at m K (c, cLoc a)) $$ HR
  iapply (Rounds.wp_copy_pointsTo 𝒱₀ ER (Rd m) (c : Thread nD τ) none (κ := K (c, cLoc a)) (r := 0) (d := ())
    (src := row a (inM a) c) (dst := row a (outM a) c) (sem := .dma (locS a)) (fd := oldV m c a) (fs := inV m c a) (q := fullShare)
    (mem_duty m c (cLoc a)) () (N a) (credit_out a c) (amount_eq m c (cLoc a) ())
    ((sep_mono_left (landed m c c a (oldV m c a))).trans (pay_intro m c (cLoc a)))) $$ [Hin Hout Htok]
  isplitr; · iexact HI
  isplitl [Hin]; · iexact Hin
  isplitl [Hout]; · iexact Hout
  isplitl [Htok]; · iexact Htok
  iexact Hr

theorem step_rem {α : Type} {Q : α → sProp 𝕄}
    {k : PUnit → Prog (TpuEff nD τ sig (Elt F) Λ₀ .tc) α} (p : Fin 7 × Fin 5) (n : Dev nD) (en : n = peer c p.1) {src : Memref sig .tc .hbm (blk p.2) .f32}
    {dst : Memref sig (Dev.tc n : Thread nD τ).2.kind .hbm (blk p.2) .f32}
    (es : src = row p.2 (inM p.2) (peer c p.1)) (ed : dst = row p.2 (outM p.2) c)
    {hsc : dst.view.ref.isScScratch = false} {hsrc : src.view.WordExact} {hdst : dst.view.WordExact}
    {hsem : DmaTarget.Typed .hbm (.dma (recvS p.2 p.1)) (.remote (Dev.tc n : Thread nD τ) dst (.dma (sendS p.2 p.1)) hsc)}
    (l : List (Fin 7 × Fin 5)) :
    iprop(recs m K ∗ remPre m c p ∗ ∃ W, owes (c : Thread nD τ) (owedL c (p :: l)) W)
      ⊢ iprop(((credOf c (cSend p) ∗ ∃ W, owes (c : Thread nD τ) (owedL c l) W) -∗ WP c (k ⟨⟩) Q)
          -∗ WP c (.op (.enqueueDma src (.remote (Dev.tc n : Thread nD τ) dst (.dma (sendS p.2 p.1)) hsc) (.dma (recvS p.2 p.1)) hsrc hdst hsem) k) Q) := by
  subst en es ed
  unfold remPre credOf inRow oldRow
  iintro ⟨#HR, ⟨Hin, Hout, HtS, HtR⟩, ⟨%W, HO⟩⟩ Hk
  ihave ⟨#HIs, #Hrs⟩ := (recs_at m K (c, cSend p)) $$ HR
  ihave ⟨#HIr, #Hrr⟩ := (recs_at m K (peer c p.1, cRecv p)) $$ HR
  iapply (Rounds.wp_send_pointsTo 𝒱₀ ER (Rd m) (c : Thread nD τ) none (κ₁ := K (c, cSend p)) (κ₂ := K (peer c p.1, cRecv p))
    (r₁ := 0) (r₂ := 0) (d₁ := ()) (d₂ := ()) (c' := (peer c p.1 : Thread nD τ)) (src := row p.2 (inM p.2) (peer c p.1)) (dst := row p.2 (outM p.2) c)
    (sS := .dma (sendS p.2 p.1)) (sem := .dma (recvS p.2 p.1)) (fd := oldV m (peer c p.1) p.2) (fs := inV m c p.2) (q := fullShare)
    (mem_duty m c (cSend p)) (mem_duty m (peer c p.1) (cRecv p))
    () () (N p.2) (credit_out p.2 c) (amount_eq m c (cSend p) ()) (amount_eq m (peer c p.1) (cRecv p) ()) (owedL c l) rfl (W := W)
    (pay_intro m c (cSend p))
    ((landed m (peer c p.1) c p.2 (oldV m (peer c p.1) p.2)).trans
      ((Entails.of_eq (show outRow m (peer c p.1) p.2 c = outRow m (peer c p.1) p.2 (peer (peer c p.1) p.1) by rw [peer_peer])).trans (pay_intro m (peer c p.1) (cRecv p))))) $$ [Hin Hout HO HtS HtR]
  · isplitr; · iexact HIs
    isplitr; · iexact HIr
    isplitl [Hin]; · iexact Hin
    isplitl [Hout]; · iexact Hout
    isplitl [HO]; · iexact HO
    isplitl [HtS]; · iexact HtS
    isplitr; · iexact Hrs
    isplitl [HtR]; · iexact HtR
    iexact Hrr
  iintro ⟨Hc, HO⟩
  iapply Hk
  isplitl [Hc]; · iexact Hc
  iexists W
  iexact HO

theorem step_wait {α : Type} {Q : α → sProp 𝕄}
    {k : PUnit → Prog (TpuEff nD τ sig (Elt F) Λ₀ .tc) α} (ct : Ctr) (sm : DmaSem sig) (hsm : osem ct = .dma sm) {s s' : Shape} {src : Memref sig .tc .hbm s .f32} {dst : Memref sig .tc .hbm s' .f32}
    (hN : dst.view.dmaCredit = N (arrOf ct)) {hsrc : src.view.WordExact} {hdst : dst.view.WordExact} :
    iprop(recs m K ∗ (credOf c ct ∗ posOf c ct) ∗ ∃ W, owes (c : Thread nD τ) 0 W)
      ⊢ iprop(((doneOf m c ct ∗ ∃ W, owes (c : Thread nD τ) 0 W) -∗ WP c (k ⟨⟩) Q)
          -∗ WP c (.op (.waitDma2 sm src dst hsrc hdst) k) Q) := by
  unfold credOf posOf doneOf
  have hcell : kcell (c, ct) = ((c : Thread nD τ), SemLoc.dma sm) := by unfold kcell; rw [hsm]
  iintro ⟨#HR, ⟨Hc, Hp⟩, ⟨%W, HO⟩⟩ Hk
  ihave ⟨#HI, #Hr⟩ := (recs_at m K (c, ct)) $$ HR
  have key := Rounds.wp_wait_rest_token (k := k) (Q := Q) 𝒱₀ ER (Rd m) (c : Thread nD τ) none (κ := K (c, ct))
      (wpE_waitDma2_eq (defs := defs₀ (F := F)) (src := src) (dst := dst) (hsrc := hsrc) (hdst := hdst) 𝒱₀ (c : Thread nD τ) none Set.univ) (Set.mem_univ _) () (O := 0) (W := W) (R := 0) (m := 0) (T := ∅)
      (by rw [Nat.zero_add, ← hcell, expect_eq]; exact hN)
  rw [hN, ← hcell] at key
  iapply key $$ [Hc Hp HO]
  · isplitr; · iexact HI
    isplitl [Hc]; · iexact Hc
    isplitl [HO]; · iexact HO
    isplitr; · rw [MayWait_zero]; iempintro
    iexact Hp
  iintro ⟨HO, Hp, -, Hpay⟩
  ihave Hpay := (Entails.of_eq (rest_eq m c ct)) $$ Hpay
  iapply Hk
  isplitl [Hp Hpay]
  · isplitl [Hp]; · iexact Hp
    iexact Hpay
  iexists _
  iexact HO

end Step

/-- A list of operations, each turning `A i` into `B i` while the running state goes down the list. -/
theorem wp_runL {I : Type} (R : sProp 𝕄) [BI.Persistent R] (f : I → PR F) (A B : I → sProp 𝕄) (S : List I → sProp 𝕄)
    (step : ∀ (i : I) (l : List I) (r : PR F) (Q : PUnit → sProp 𝕄),
      iprop(R ∗ A i ∗ S (i :: l)) ⊢ iprop(((B i ∗ S l) -∗ WP c r Q) -∗ WP c (f i >>= fun _ => r) Q))
    (r : PR F) (Q : PUnit → sProp 𝕄) : ∀ l : List I,
      iprop(R ∗ BI.bigSepL l A ∗ S l) ⊢ iprop(((BI.bigSepL l B ∗ S []) -∗ WP c r Q) -∗ WP c (runL r (l.map f)) Q)
  | [] => by
    rw [BI.bigSepL_nil, BI.bigSepL_nil]
    iintro ⟨#HR, He, HS⟩ Hk
    iapply Hk
    isplitl [He]; · iexact He
    iexact HS
  | i :: l => by
    rw [BI.bigSepL_cons, BI.bigSepL_cons]
    change iprop(R ∗ (A i ∗ BI.bigSepL l A) ∗ S (i :: l)) ⊢ iprop((((B i ∗ BI.bigSepL l B) ∗ S []) -∗ WP c r Q) -∗ WP c (f i >>= fun _ => runL r (l.map f)) Q)
    iintro ⟨#HR, ⟨HA, HAs⟩, HS⟩ Hk
    iapply (step i l (runL r (l.map f)) Q) $$ [HA HS]
    · isplitr; · iexact HR
      isplitl [HA]; · iexact HA
      iexact HS
    iintro ⟨HB, HS⟩
    iapply (wp_runL R f A B S step r Q l) $$ [HAs HS]
    · isplitr; · iexact HR
      isplitl [HAs]; · iexact HAs
      iexact HS
    iintro ⟨HBs, HS⟩
    iapply Hk
    isplitl [HB HBs]
    · isplitl [HB]; · iexact HB
      iexact HBs
    iexact HS

end Cert.KernelIdeal.Exchange

end
-- ==== Proof.Body.lean ====
/-
The kernel body, on one device.
-/
module

public import proofs.«01_k».proof.Proof.Steps
public import proofs.«01_k».proof.Proof.Gen.KernelIdeal.Launch
public import Idealize.ShloMosaic.Lib.Pipeline.BigSepL

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The operations, one at a time -/

theorem startRem_bind (d : Dev nD) (k : Fin 7) (a : Fin 5) (r : PR F) :
    (startRem' d k a >>= fun _ => r) = .op (.enqueueDma (rowAt a (inM a) (peerOff d k a) (peerOff_inb d k a))
      (.remote (Dev.tc (devAt d k a)) (rowAt a (outM a) (ownOff d a) (ownOff_inb d a)) (.dma (sendS a k)))
      (.dma (recvS a k)) (wordExact_rowAt _ _ _ _) (wordExact_rowAt _ _ _ _) ⟨⟨rfl, Or.inl rfl⟩, trivial⟩) fun _ => r := rfl

theorem waitSend_bind (d : Dev nD) (k : Fin 7) (a : Fin 5) (r : PR F) :
    (waitSend' d k a >>= fun _ => r) = .op (.waitDma2 (sendS a k) (rowAt a (outM a) (ownOff d a) (ownOff_inb d a))
      (rowAt a (inM a) (peerOff d k a) (peerOff_inb d k a)) (wordExact_rowAt _ _ _ _) (wordExact_rowAt _ _ _ _)) fun _ => r := rfl

theorem waitRecv_bind (d : Dev nD) (k : Fin 7) (a : Fin 5) (r : PR F) :
    (waitRecv' d k a >>= fun _ => r) = .op (.waitDma2 (recvS a k) (rowAt a (inM a) (peerOff d k a) (peerOff_inb d k a))
      (rowAt a (outM a) (ownOff d a) (ownOff_inb d a)) (wordExact_rowAt _ _ _ _) (wordExact_rowAt _ _ _ _)) fun _ => r := rfl

theorem waitLoc_bind (d : Dev nD) (a : Fin 5) (r : PR F) :
    (waitLoc' d a >>= fun _ => r) = .op (.waitDma2 (locS a) (rowAt a (inM a) (ownOff d a) (ownOff_inb d a))
      (rowAt a (outM a) (ownOff d a) (ownOff_inb d a)) (wordExact_rowAt _ _ _ _) (wordExact_rowAt _ _ _ _)) fun _ => r := rfl

theorem wait_both (d : Dev nD) (k : Fin 7) (a : Fin 5) (r : PR F) :
    ((do waitSend' d k a; waitRecv' d k a) >>= fun _ => r) = (waitSend' d k a >>= fun _ => (waitRecv' d k a >>= fun _ => r)) := rfl

theorem prog_eq : (prog' : PR F) = .op .deviceId fun d => runL (runL (runL (runL (.ret ⟨⟩) (arrays.map (waitLoc' d)))
    (order.map fun p => do waitSend' d p.1 p.2; waitRecv' d p.1 p.2))
    (order.map fun p => startRem' d p.1 p.2)) (arrays.map (startLoc' d)) := rfl

/-! ## The four loops -/

section Loops

variable (K : Dev nD × Ctr → ℕ) (c : Dev nD)

theorem loop_loc (r : PR F) (Q : PUnit → sProp 𝕄) :
    iprop(recs m K ∗ BI.bigSepL arrays (locPre m c) ∗ emp)
      ⊢ iprop(((BI.bigSepL arrays (fun a => credOf (F := F) c (cLoc a)) ∗ emp) -∗ WP c r Q) -∗ WP c (runL r (arrays.map (startLoc' c))) Q) :=
  wp_runL c (recs m K) (startLoc' c) (locPre m c) (fun a => credOf c (cLoc a)) (fun _ => iprop(emp))
    (fun a l r Q => by
      iintro ⟨#HR, HA, -⟩ Hk
      iapply (step_loc m c K a (rowAt_own c a (inM a)) (rowAt_own c a (outM a))) $$ [HA]
      · isplitr; · iexact HR
        iexact HA
      iintro HB
      iapply Hk
      isplitl [HB]; · iexact HB
      iempintro) r Q arrays

theorem rem_step (p : Fin 7 × Fin 5) (l : List (Fin 7 × Fin 5)) (r : PR F) (Q : PUnit → sProp 𝕄) :
    iprop(recs m K ∗ remPre m c p ∗ ∃ W, owes (c : Thread nD τ) (owedL c (p :: l)) W)
      ⊢ iprop(((credOf (F := F) c (cSend p) ∗ ∃ W, owes (c : Thread nD τ) (owedL c l) W) -∗ WP c r Q)
          -∗ WP c (startRem' c p.1 p.2 >>= fun _ => r) Q) := by
  rw [startRem_bind]
  exact step_rem m c K (k := fun _ => r) (Q := Q) p _ (devAt_eq c p.1 p.2) (rowAt_peer c p.1 p.2 (inM p.2)) (rowAt_own c p.2 (outM p.2)) l

theorem loop_rem (l : List (Fin 7 × Fin 5)) (r : PR F) (Q : PUnit → sProp 𝕄) :
    iprop(recs m K ∗ BI.bigSepL l (remPre m c) ∗ (∃ W, owes (c : Thread nD τ) (owedL c l) W))
      ⊢ iprop(((BI.bigSepL l (fun p => credOf (F := F) c (cSend p)) ∗ (∃ W, owes (c : Thread nD τ) (owedL c []) W)) -∗ WP c r Q)
          -∗ WP c (runL r (l.map fun p => startRem' c p.1 p.2)) Q) := by
  refine wp_runL c (recs m K) (fun p : Fin 7 × Fin 5 => startRem' c p.1 p.2) (remPre m c) (fun p => credOf c (cSend p))
    (fun l => iprop(∃ W, owes (c : Thread nD τ) (owedL c l) W)) ?_ r Q l
  intro p l r Q
  have := rem_step m K c p l r Q
  beta_reduce
  with_reducible exact this

theorem send_step (p : Fin 7 × Fin 5) (r : PR F) (Q : PUnit → sProp 𝕄) :
    iprop(recs m K ∗ (credOf c (cSend p) ∗ posOf c (cSend p)) ∗ ∃ W, owes (c : Thread nD τ) 0 W)
      ⊢ iprop(((doneOf m c (cSend p) ∗ ∃ W, owes (c : Thread nD τ) 0 W) -∗ WP c r Q) -∗ WP c (waitSend' c p.1 p.2 >>= fun _ => r) Q) := by
  rw [waitSend_bind]
  exact step_wait m c K (k := fun _ => r) (Q := Q) (cSend p) (sendS p.2 p.1) rfl
    (dst := rowAt p.2 (inM p.2) (peerOff c p.1 p.2) (peerOff_inb c p.1 p.2)) (by rw [rowAt_peer]; exact credit_in p.2 _)

theorem recv_step (p : Fin 7 × Fin 5) (r : PR F) (Q : PUnit → sProp 𝕄) :
    iprop(recs m K ∗ (credOf c (cRecv p) ∗ posOf c (cRecv p)) ∗ ∃ W, owes (c : Thread nD τ) 0 W)
      ⊢ iprop(((doneOf m c (cRecv p) ∗ ∃ W, owes (c : Thread nD τ) 0 W) -∗ WP c r Q) -∗ WP c (waitRecv' c p.1 p.2 >>= fun _ => r) Q) := by
  rw [waitRecv_bind]
  exact step_wait m c K (k := fun _ => r) (Q := Q) (cRecv p) (recvS p.2 p.1) rfl
    (dst := rowAt p.2 (outM p.2) (ownOff c p.2) (ownOff_inb c p.2)) (by rw [rowAt_own]; exact credit_out p.2 _)

/-- What the two waits of one copy start from, and what they leave. -/
def waitPre (p : Fin 7 × Fin 5) : sProp 𝕄 := iprop((credOf c (cSend p) ∗ posOf c (cSend p)) ∗ credOf c (cRecv p) ∗ posOf c (cRecv p))
def waitPost (p : Fin 7 × Fin 5) : sProp 𝕄 := iprop(doneOf m c (cSend p) ∗ doneOf m c (cRecv p))

theorem wait_step (p : Fin 7 × Fin 5) (r : PR F) (Q : PUnit → sProp 𝕄) :
    iprop(recs m K ∗ waitPre c p ∗ ∃ W, owes (c : Thread nD τ) 0 W)
      ⊢ iprop(((waitPost m c p ∗ ∃ W, owes (c : Thread nD τ) 0 W) -∗ WP c r Q)
        -∗ WP c ((do waitSend' c p.1 p.2; waitRecv' c p.1 p.2) >>= fun _ => r) Q) := by
  rw [wait_both]
  unfold waitPre waitPost
  iintro ⟨#HR, ⟨H1, H2⟩, HO⟩ Hk
  iapply (send_step m K c p _ Q) $$ [H1 HO]
  · isplitr; · iexact HR
    isplitl [H1]; · iexact H1
    iexact HO
  iintro ⟨D1, HO⟩
  iapply (recv_step m K c p _ Q) $$ [H2 HO]
  · isplitr; · iexact HR
    isplitl [H2]; · iexact H2
    iexact HO
  iintro ⟨D2, HO⟩
  iapply Hk
  isplitl [D1 D2]
  · isplitl [D1]; · iexact D1
    iexact D2
  iexact HO

theorem loop_wait (l : List (Fin 7 × Fin 5)) (r : PR F) (Q : PUnit → sProp 𝕄) :
    iprop(recs m K ∗ BI.bigSepL l (waitPre c) ∗ (∃ W, owes (c : Thread nD τ) 0 W))
      ⊢ iprop(((BI.bigSepL l (waitPost m c) ∗ (∃ W, owes (c : Thread nD τ) 0 W)) -∗ WP c r Q)
          -∗ WP c (runL r (l.map fun p => do waitSend' c p.1 p.2; waitRecv' c p.1 p.2)) Q) := by
  refine wp_runL c (recs m K) (fun p : Fin 7 × Fin 5 => do waitSend' c p.1 p.2; waitRecv' c p.1 p.2) (waitPre c) (waitPost m c)
    (fun _ => iprop(∃ W, owes (c : Thread nD τ) 0 W)) ?_ r Q l
  intro p l r Q
  have := wait_step m K c p r Q
  beta_reduce
  with_reducible exact this

theorem loop_waitLoc (r : PR F) (Q : PUnit → sProp 𝕄) :
    iprop(recs m K ∗ BI.bigSepL arrays (fun a => iprop(credOf c (cLoc a) ∗ posOf c (cLoc a))) ∗ (∃ W, owes (c : Thread nD τ) 0 W))
      ⊢ iprop(((BI.bigSepL arrays (fun a => doneOf m c (cLoc a)) ∗ (∃ W, owes (c : Thread nD τ) 0 W)) -∗ WP c r Q)
          -∗ WP c (runL r (arrays.map (waitLoc' c))) Q) :=
  wp_runL c (recs m K) (waitLoc' c) _ _ (fun _ => iprop(∃ W, owes (c : Thread nD τ) 0 W))
    (fun a l r Q => by
      rw [waitLoc_bind]
      exact step_wait m c K (k := fun _ => r) (Q := Q) (cLoc a) (locS a) rfl
        (dst := rowAt a (outM a) (ownOff c a) (ownOff_inb c a))
        (by rw [rowAt_own]; exact credit_out a _)) r Q arrays

end Loops

/-! ## Before and after -/

theorem all_arrays (Φ : Fin 5 → sProp 𝕄) : bigSep Finset.univ Φ = BI.bigSepL arrays Φ :=
  bigSep_univ_eq_bigSepL arrays (by decide) (by decide) Φ

theorem all_order (Φ : Fin 7 × Fin 5 → sProp 𝕄) : bigSep Finset.univ Φ = BI.bigSepL order Φ :=
  bigSep_univ_eq_bigSepL order (by decide) (by decide) Φ

/-- A family over the counters, by kind. -/
theorem all_ctr (Φ : Ctr → sProp 𝕄) :
    bigSep Finset.univ Φ = iprop(bigSep Finset.univ (fun p => Φ (cSend p)) ∗ bigSep Finset.univ (fun p => Φ (cRecv p))
      ∗ bigSep Finset.univ (fun a => Φ (cLoc a))) :=
  (BI.bigSep_univ_sum Φ).trans (congrArg (fun X : sProp 𝕄 => iprop(bigSep Finset.univ (fun p => Φ (cSend p)) ∗ X))
    (BI.bigSep_univ_sum fun k => Φ (.inr k)))

/-- What a device starts the body with. -/
def start (c : Dev nD) : sProp 𝕄 :=
  iprop(bigSep Finset.univ (locPre m c) ∗ bigSep Finset.univ (remPre m c) ∗ bigSep Finset.univ (fun p => credOf (F := F) c (cRecv p))
    ∗ bigSep Finset.univ (fun k => posOf (F := F) c k))

def Φ₀ (c : Dev nD) : sProp 𝕄 := iprop(∃ K, recs m K ∗ start m c)
def Φ₁ (c : Dev nD) : sProp 𝕄 := bigSep Finset.univ fun k : Ctr => iprop(semVal (kcell (c, k)) 0 ∗ pay m c k)

/-- The counters close, each after its wait. -/
theorem close_all (K : Dev nD × Ctr → ℕ) (c : Dev nD) :
    iprop(recs m K ∗ bigSep Finset.univ (fun k => doneOf m c k)) ⊢ iprop(|={Set.univ}=> Φ₁ m c) := by
  refine (show _ ⊢ bigSep Finset.univ (fun k : Ctr => iprop(recs m K ∗ doneOf m c k)) from ?_).trans
    ((bigSep_mono (Ψ := fun k : Ctr => iprop(|={Set.univ}=> (semVal (kcell (c, k)) 0 ∗ pay m c k))) fun k _ => ?_).trans (bigSep_fupd _ _))
  · rw [bigSep_sep']
    exact sep_mono_left (BI.bigSep_of_persistent Finset.univ (recs m K))
  · unfold doneOf
    change iprop(recs m K ∗ atPos ER (kcell (c, k)) (0 + 1) ∅ 0 ∗ pay m c k) ⊢ iprop(|={Set.univ}=> (semVal (kcell (c, k)) 0 ∗ pay m c k))
    iintro ⟨#HR, Hp, Hpay⟩
    ihave ⟨#HI, #Hr⟩ := (recs_at m K (c, k)) $$ HR
    imod (Rounds.cell_close ER (Rd m) (Set.mem_univ (K (c, k))) (fun h => h) (R := 0 + 1) (duties_later m (kcell (c, k)))) $$ [Hp] with Hz
    · isplitr; · iexact HI
      iexact Hp
    imodintro
    isplitl [Hz]; · iexact Hz
    iexact Hpay

theorem wait_join (c : Dev nD) :
    iprop(BI.bigSepL order (fun p => credOf (F := F) c (cSend p)) ∗ BI.bigSepL order (fun p => posOf (F := F) c (cSend p))
        ∗ BI.bigSepL order (fun p => credOf (F := F) c (cRecv p)) ∗ BI.bigSepL order (fun p => posOf (F := F) c (cRecv p)))
      ⊢ BI.bigSepL order (waitPre (F := F) c) := by
  rw [← all_order, ← all_order, ← all_order, ← all_order, ← all_order]
  unfold waitPre
  simp only [bigSep_sep']
  iintro ⟨Hcs, Hps, Hcr, Hpr⟩
  isplitl [Hcs Hps]
  · isplitl [Hcs]; · iexact Hcs
    iexact Hps
  isplitl [Hcr]; · iexact Hcr
  iexact Hpr

theorem loc_join (c : Dev nD) :
    iprop(BI.bigSepL arrays (fun a => credOf (F := F) c (cLoc a)) ∗ BI.bigSepL arrays (fun a => posOf (F := F) c (cLoc a)))
      ⊢ BI.bigSepL arrays (fun a => iprop(credOf (F := F) c (cLoc a) ∗ posOf c (cLoc a))) := by
  rw [← all_arrays, ← all_arrays, ← all_arrays]
  simp only [bigSep_sep']
  exact .refl

theorem done_join (c : Dev nD) :
    iprop(BI.bigSepL order (waitPost m c) ∗ BI.bigSepL arrays (fun a => doneOf m c (cLoc a)))
      ⊢ bigSep Finset.univ (fun k => doneOf m c k) := by
  rw [all_ctr, ← all_arrays, ← all_order]
  unfold waitPost
  simp only [bigSep_sep']
  iintro ⟨⟨H1, H2⟩, H3⟩
  isplitl [H1]; · iexact H1
  isplitl [H2]; · iexact H2
  iexact H3

theorem body (c : Dev nD) (Q : PUnit → sProp 𝕄) :
    iprop(Φ₀ m c ∗ (∃ W, owes (c : Thread nD τ) (O₀ c) W))
      ⊢ iprop(((Φ₁ m c ∗ (∃ W, owes (c : Thread nD τ) 0 W)) -∗ Q ⟨⟩) -∗ WP c (prog' (F := F)) Q) := by
  unfold Φ₀ start
  rw [all_ctr, all_arrays, all_order, all_order, all_order, all_order, all_arrays, prog_eq]
  unfold WP
  rw [wp_deviceId]
  iintro ⟨⟨%K, #HR, Hl, Hr, Hcr, Hps, Hpr, Hpl⟩, HO⟩ Hk
  iapply (loop_loc m K c _ Q) $$ [Hl]
  · isplitr; · iexact HR
    isplitl [Hl]; · iexact Hl
    iempintro
  iintro ⟨Hcl, -⟩
  iapply (loop_rem m K c order _ Q) $$ [Hr HO]
  · isplitr; · iexact HR
    isplitl [Hr]; · iexact Hr
    iexact HO
  iintro ⟨Hcs, HO⟩
  iapply (loop_wait m K c order _ Q) $$ [Hcs Hcr Hps Hpr HO]
  · isplitr; · iexact HR
    isplitr [HO]
    · iapply (wait_join c)
      isplitl [Hcs]; · iexact Hcs
      isplitl [Hps]; · iexact Hps
      isplitl [Hcr]; · iexact Hcr
      iexact Hpr
    iexact HO
  iintro ⟨Hd, HO⟩
  iapply (loop_waitLoc m K c _ Q) $$ [Hcl Hpl HO]
  · isplitr; · iexact HR
    isplitr [HO]
    · iapply (loc_join c)
      isplitl [Hcl]; · iexact Hcl
      iexact Hpl
    iexact HO
  iintro ⟨Hdl, HO⟩
  imod (close_all m K c) $$ [Hd Hdl] with HΦ
  · isplitr; · iexact HR
    iapply (done_join m c)
    isplitl [Hd]; · iexact Hd
    iexact Hdl
  rw [wp_ret]; imodintro
  iapply Hk
  isplitl [HΦ]; · iexact HΦ
  iexact HO

/-! ## The proof data of the call -/

theorem no_windows : IsEmpty (Fin cfg0.W) := ⟨fun w => absurd w.isLt (Nat.not_lt_zero _)⟩

def dats (_ : Fin 1) (c : Dev nD) : Dat τ (Elt F) Unit ℕ UU ℕ cfg0 c where
  A w := (no_windows.false w).elim
  after w _ := (no_windows.false w).elim
  Φ t := match t with
    | ⟨0, _⟩ => Φ₀ m c
    | ⟨_ + 1, _⟩ => Φ₁ m c
  q _ := fullShare
  owed t := match t with
    | ⟨0, _⟩ => O₀ c
    | ⟨_ + 1, _⟩ => 0

end Cert.KernelIdeal.Exchange

end
-- ==== Proof.Launch.lean ====
/-
  A launch of a program whose first region runs with every device's semaphores and buffers dealt at once.

  The exchange lets each device write straight into the result arrays of the other devices and signal their
  counters. Before the region starts, all counters and all arrays of all devices are therefore handed to ONE
  update (`hinit`), which sets up the protocol and hands each device its part. `theta_run_dealt` runs the
  region from there, then the rest `k` of the program, and reads the final memory and the final counters.
  The region moves no windows and prefetches nothing.
-/
module

public import Idealize.ShloMosaic.Lib.Pipeline.Regions
public import Idealize.ShloMosaic.Lib.Pipeline.Kit

@[expose] public section

noncomputable section

namespace Cert.Launch

open Idealize.ShloMosaic Idealize.SL
open Idealize.SL.BI (sProp bigSep bigSep_sep' bigSep_mono bigSep_congr bigSep_univ_prod bigSep_erase)
open scoped Idealize.SL.BI
open Idealize.SL.BI.BIBase Idealize.SL.BI.Laws Idealize.SL.Sem Idealize.SL.ProofMode
open Idealize.SL.RA
open Idealize.ShloMosaic.TcCoe
open Idealize.ShloMosaic.Pipeline Idealize.ShloMosaic.Pipeline.PerCore
open Idealize.ShloMosaic.Rounds

set_option Elab.async false

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- The levels of all cells, fixed at launch. Only TensorCore cells carry pairs. -/
theorem levels_fix [Preorder Lvl] (L : GSem nD τ sig → Finset Ix) (lv : GSem nD τ sig → Ix → Lvl)
    (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have hnone (d : Dev nD) : (bigSep (Finset.univ.erase Proc.tc) fun q => (coreLevAts ((d, q) : Thread nD τ) L lv : sProp 𝕄)) = BI.emp := by
    rw [bigSep_congr (Ψ := fun _ : Proc τ => (BI.emp : sProp 𝕄)) fun q hq => ?_, BI.bigSep_emp_const]
    unfold coreLevAts
    rw [bigSep_congr (Ψ := fun _ : SemLoc sig => (BI.emp : sProp 𝕄)) fun sm _ => ?_, BI.bigSep_emp_const]
    rw [hL (((d, q) : Thread nD τ), sm) (Finset.ne_of_mem_erase hq), BI.bigSep_empty]
  have hall : (levAts L lv : sProp 𝕄)
      = iprop((bigSep Finset.univ fun d : Dev nD => coreLevAts (d.tc : Thread nD τ) L lv)
        ∗ bigSep Finset.univ fun d : Dev nD => bigSep (Finset.univ.erase Proc.tc) fun q => (coreLevAts ((d, q) : Thread nD τ) L lv : sProp 𝕄)) := by
    rw [show (levAts L lv : sProp 𝕄) = bigSep Finset.univ fun c : Thread nD τ => coreLevAts c L lv
        from (bigSep_univ_prod fun g : GSem nD τ sig => bigSep (L g) fun ι => levAt g ι (lv g ι)),
      bigSep_threads (fun c : Thread nD τ => coreLevAts c L lv)]
  have hdrop : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [hall, bigSep_congr fun d _ => hnone d, BI.bigSep_emp_const, bigSep_sep']
    iintro ⟨-, H⟩
    isplitl [H]
    · iexact H
    · iempintro
  refine (bigSep_mono fun c _ => lev_assign_cells (c.tc : Thread nD τ) L lv).trans ?_
  exact (BI.bigSep_bupd _ _).trans (BI.bupd_mono hdrop)

variable {Λ₀ : Idealize.SL.Sem.Labels} {P : Type} [Fintype P]
variable (pcs : P → PCfg sig Λ₀ Val) (a : Dev nD → (p : P) → (pcs p).Adm)
  (pdats : (p : P) → (c : Dev nD) → Dat τ Val Ix Name U Lvl (pinD pcs a c p) c) (ι : Ix)
  (phinj : Function.Injective (PerCore.cellOf (nD := nD) (pinD pcs a))) (p : P)
variable {K : Type} [Fintype K] {osem : K → SemLoc sig} (hw : WinFacts₀ (pcs p).spec) (ho : OwnSemFacts (pcs p).spec osem)
variable (EP : Emb (URounds (GSem nD τ sig) Unit) (MT nD τ sig Ix Val Name U Lvl))
  (defs₀ : Defs nD τ sig Val Λ₀) (𝒱₀ : Variants)

local notation "𝔻" => Pipeline.defs pcs defs₀
local notation "𝕍" => Variants.lift 𝒱₀

/-- What the launch hands to the one update of all devices, for one device: its own semaphores at zero, its
    unscoped buffers at the launch memory, its unscoped semaphores, the credits of the units owed to it at
    launch, its generator, and the certificate's ghost state. -/
def launched (osem : K → SemLoc sig) (m : (ℓ : Loc nD τ sig) → Buf Val ℓ) (g : Dev nD → PrngReg)
    (O₀ : Dev nD → CellTallies nD τ sig Ix) (G : Dev nD → sProp 𝕄) (c : Dev nD) : sProp 𝕄 :=
  iprop(ownSems0 osem c ∗ unscopedBufs c (fun b => m ((c.tc : Thread nD τ).loc b)) ∗ unscopedSems0 c
    ∗ launchCred O₀ c ∗ prngReg c (g c) ∗ G c)

/-- What stays with one device across that update. -/
def kept (O₀ : Dev nD → CellTallies nD τ sig Ix) (c : Dev nD) : sProp 𝕄 :=
  iprop(scopedBufs (c.tc : Thread nD τ) ∗ cellsSems0 (pinD pcs a) p c ∗ idleSems0 (pinD pcs a) phinj p (fun _ => ho) c
    ∗ opIdle (c.tc : Thread nD τ) ∗ owes (c.tc : Thread nD τ) (O₀ c) ∅)

include hw in
/-- One device's launch resources, in the two parts and the levels. -/
theorem core_parts [Preorder Lvl] (m : (ℓ : Loc nD τ sig) → Buf Val ℓ) (g : Dev nD → PrngReg)
    (O₀ : Dev nD → CellTallies nD τ sig Ix) (c : Dev nD) :
    coreInit (Ix := Ix) (Name := Name) (U := U) (Lvl := Lvl) (owing O₀) 0 (⟨m, fun _ => 0, g⟩ : MemSt nD τ sig Val) (c.tc : Thread nD τ)
      ⊢ iprop(kept pcs a phinj p ho O₀ c ∗ launched osem m g O₀ (fun _ => BI.emp) c ∗ levels0 c) := by
  refine (coreInit_boundary_owing O₀ m g c).trans ?_
  unfold boundary kept launched
  rw [scopedSems0_split (pinD pcs a) phinj p (fun _ => hw) (fun _ => ho) (Ix := Ix) (Val := Val) (Name := Name) (U := U) (Lvl := Lvl) c]
  change (_ : sProp 𝕄) ⊢ _
  iintro ⟨⟨Hbuf, ⟨⟨Hcell, Hown⟩, Hidle⟩, Hslot⟩, Hub, Hus, Howe, Hlev, Hgen, Hcred⟩
  isplitl [Hbuf Hcell Hidle Hslot Howe]
  · isplitl [Hbuf]; · iexact Hbuf
    isplitl [Hcell]; · iexact Hcell
    isplitl [Hidle]; · iexact Hidle
    isplitl [Hslot] <;> iassumption
  isplitr [Hlev]
  · isplitl [Hown]; · iexact Hown
    isplitl [Hub]; · iexact Hub
    isplitl [Hus]; · iexact Hus
    isplitl [Hcred]; · iexact Hcred
    isplitl [Hgen]; · iexact Hgen
    iempintro
  · iexact Hlev

include phinj hw ho in
/-- The launch, the region, the rest of the program, and the reading of the final state. -/
theorem theta_run_dealt [DecidableEq P] [Preorder Lvl] [∀ e, Nonempty (Val e)] [Infinite Name]
    [EP.LandsIn (upEmb : UEmb _ 𝕄)]
    (hW : IsEmpty (Fin (pcs p).W)) (hK : IsEmpty (Fin (pcs p).pre.K))
    (m : (ℓ : Loc nD τ sig) → Buf Val ℓ) (g : Dev nD → PrngReg)
    (main : Dev nD → Prog (TpuEff nD τ sig Val (Sig Λ₀ P fun p => (pcs p).Adm) .tc) PUnit)
    (k : PUnit → Prog (TpuEff nD τ sig Val (Sig Λ₀ P fun p => (pcs p).Adm) .tc) PUnit)
    (hmain : ∀ c, main c = .op (.customCall (entry p) ()) k)
    (hbody : ∀ c, BodyObligationLoose (pdats p c) defs₀ 𝒱₀ ι Set.univ)
    (O₀ : Dev nD → CellTallies nD τ sig Ix) (howed₀ : ∀ c, (pdats p c).owed 0 = O₀ c)
    (howedN : ∀ c, (pdats p c).owed (Fin.last _) = 0)
    (L : GSem nD τ sig → Finset Ix) (lv : GSem nD τ sig → Ix → Lvl) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (cells (pinD pcs a) phinj) (launchToks (pinD pcs a) phinj))) ∗ bigSep Finset.univ G))
    (X Y Z T : Dev nD → sProp 𝕄)
    (hinit : iprop((bigSep Finset.univ fun c => launched osem m g O₀ G c) ∗ levAts L lv)
      ⊢ |={Set.univ}=> (bigSep Finset.univ fun c => iprop(X c ∗ Z c) : sProp 𝕄))
    (hin : ∀ c, iprop(X c ∗ scopedRest (pinD pcs a c p).spec c) ⊢ (pdats p c).Φ 0)
    (hout : ∀ c, (pdats p c).Φ (Fin.last (pinD pcs a c p).N) ⊢ iprop(Y c ∗ ownSems0 osem c ∗ scopedRest (pinD pcs a c p).spec c))
    (htail : ∀ (c : Dev nD) (Q' : PUnit → sProp 𝕄),
      iprop((iprop(boundary (c.tc : Thread nD τ) ∗ T c ∗ (∃ W, owes (c.tc : Thread nD τ) (0 : CellTallies nD τ sig Ix) W)) -∗ Q' ⟨⟩)
          ∗ boundary (c.tc : Thread nD τ) ∗ Y c ∗ Z c ∗ (∃ W, owes (c.tc : Thread nD τ) (0 : CellTallies nD τ sig Ix) W)
          ∗ levAts L lv ∗ restGhost pcs a p EP c)
        ⊢ wp frame (wpE 𝔻 𝕍 (c.tc : Thread nD τ) none) Set.univ (k ⟨⟩) Q')
    (QY : Dev nD → MemSt nD τ sig Val → Prop)
    (hfin : ∀ c (s' : Phys nD τ sig Val), iprop(T c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hsb (c : Dev nD) : (scopedBufs (c.tc : Thread nD τ) : sProp 𝕄) ⊢ iprop(Dat.staging (pinD pcs a c p) c ∗ scopedRest (pinD pcs a c p).spec c) :=
    Entails.of_eq (scopedBufs_split (pinD pcs a) p c hw.stage_scoped hw.stage_inj (fun w => hW.elim w) (nD := nD) (τ := τ) (Ix := Ix) (Val := Val) (Name := Name) (U := U) (Lvl := Lvl))
  have hsb' (c : Dev nD) : iprop(Dat.staging (pinD pcs a c p) c ∗ scopedRest (pinD pcs a c p).spec c) ⊢ (scopedBufs (c.tc : Thread nD τ) : sProp 𝕄) :=
    Entails.of_eq (scopedBufs_split (pinD pcs a) p c hw.stage_scoped hw.stage_inj (fun w => hW.elim w) (nD := nD) (τ := τ) (Ix := Ix) (Val := Val) (Name := Name) (U := U) (Lvl := Lvl)).symm
  let pre : Dev nD → sProp 𝕄 := fun c => iprop(kept pcs a phinj p ho O₀ c ∗ iprop(X c ∗ Z c) ∗ levAts L lv
    ∗ (bigSep Finset.univ fun p' => cellsGhost (pinD pcs a) EP p' c) ∗ (bigSep Finset.univ fun p' => toksInit (pinD pcs a) EP p' c))
  let fin : Dev nD → sProp 𝕄 := fun c => iprop(T c ∗ boundary (c.tc : Thread nD τ))
  refine (θ_run 𝔻 _ _).mono
    (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · have hcores := (bigSep_mono (s := Finset.univ) fun (c : Dev nD) _ =>
      core_parts pcs a phinj p hw ho (Ix := Ix) (Name := Name) (U := U) (Lvl := Lvl) m g O₀ c)
    simp only [bigSep_sep'] at hcores
    change (_ : sProp 𝕄) ⊢ _ at hcores
    have hjoin : iprop((bigSep Finset.univ fun c => launched (Ix := Ix) (Name := Name) (U := U) (Lvl := Lvl) osem m g O₀ (fun _ => BI.emp) c) ∗ bigSep Finset.univ G)
        ⊢ (bigSep Finset.univ fun c => launched osem m g O₀ G c : sProp 𝕄) := by
      rw [← bigSep_sep']
      refine bigSep_mono fun c _ => ?_
      unfold launched
      change (iprop(_ ∗ G c) : sProp 𝕄) ⊢ _
      iintro ⟨⟨H1, H2, H3, H4, H5, -⟩, HG⟩
      isplitl [H1]; · iexact H1
      isplitl [H2]; · iexact H2
      isplitl [H3]; · iexact H3
      isplitl [H4]; · iexact H4
      isplitl [H5] <;> iassumption
    iintro ⟨Hcores, Hu⟩
    ihave Hc := hcores $$ Hcores
    icases Hc with ⟨Hk, Hl, Hlev⟩
    imod (levels_fix L lv hL) $$ Hlev with #Hla
    imod hu₀ $$ Hu with ⟨HP, HG⟩
    imod (fund_ghost (pinD pcs a) EP phinj) $$ HP with ⟨Hg, Ht⟩
    imod hinit $$ [Hl HG] with HXZ
    · isplitl [Hl HG]
      · iapply hjoin
        isplitl [Hl] <;> iassumption
      · iexact Hla
    imodintro
    iexists ()
    isplitr []
    · simp only [pre]
      simp only [bigSep_sep']
      isplitl [Hk]; · iexact Hk
      isplitl [HXZ]; · iexact HXZ
      isplitr; · iapply (BI.bigSep_intro_persistent (S := Finset.univ) fun (c : Dev nD) _ => (BI.Entails.refl (levAts L lv : sProp 𝕄))); iexact Hla
      isplitl [Hg] <;> iassumption
    · iempintro
  · have hout' : iprop((pdats p c).Φ (Fin.last (pinD pcs a c p).N) ∗ cellsSems0 (pinD pcs a) p c ∗ Dat.staging (pinD pcs a c p) c ∗ idleSems0 (pinD pcs a) phinj p (fun _ => ho) c)
        ⊢ iprop(Y c ∗ scopedSems0 (c.tc : Thread nD τ) ∗ scopedBufs (c.tc : Thread nD τ)) := by
      rw [scopedSems0_split (pinD pcs a) phinj p (fun _ => hw) (fun _ => ho) (Ix := Ix) (Val := Val) (Name := Name) (U := U) (Lvl := Lvl) c]
      iintro ⟨HΦ, Hcells, Hst, Hidle⟩
      ihave H := (hout c) $$ HΦ
      icases H with ⟨HY, Hos, Hrest⟩
      isplitl [HY]; · iexact HY
      isplitl [Hcells Hos Hidle]
      · isplitl [Hcells Hos]; · isplitl [Hcells] <;> iassumption
        iexact Hidle
      iapply (hsb' c)
      isplitl [Hst] <;> iassumption
    have hsplit : iprop((bigSep Finset.univ fun p' => cellsGhost (pinD pcs a) EP p' c) ∗ (bigSep Finset.univ fun p' => (toksInit (pinD pcs a) EP p' c : sProp 𝕄)))
        ⊢ iprop((cellsGhost (pinD pcs a) EP p c ∗ toksInit (pinD pcs a) EP p c) ∗ restGhost pcs a p EP c) := by
      rw [← bigSep_sep', bigSep_erase (Finset.mem_univ p)]
      exact BI.Entails.refl _
    have harr : (BI.emp : sProp 𝕄) ⊢ (pdats p c).arrays ((pdats p c).arrAt · 0) := by
      unfold Dat.arrays
      rw [show (Finset.univ : Finset (Fin (pinD pcs a c p).W)) = ∅ from Finset.univ_eq_empty_iff.mpr hW, BI.bigSep_empty]
    have hheld : (BI.emp : sProp 𝕄) ⊢ prefHeld (pcs p).pre c (fun _ => fullShare) (a c p).1 := by
      unfold prefHeld
      rw [show (Finset.univ : Finset (Fin (pcs p).pre.K)) = ∅ from Finset.univ_eq_empty_iff.mpr hK, BI.bigSep_empty]
    have hwait : (BI.emp : sProp 𝕄) ⊢ PerCore.cellsWaits (pinD pcs a) pdats ι p c := by
      unfold PerCore.cellsWaits PerCore.RDat.cellsWaits
      rw [show (Finset.univ : Finset (Fin (pinD pcs a c p).W)) = ∅ from Finset.univ_eq_empty_iff.mpr hW, BI.bigSep_empty]
    simp only [pre]
    rw [hmain c]
    unfold kept
    iintro ⟨⟨Hsc, Hcells, Hidle, Hidl, HL⟩, ⟨HX, HZ⟩, #Hla, Hg⟩
    ihave Hg' := hsplit $$ Hg
    icases Hg' with ⟨⟨Hg, Ht⟩, Hrest⟩
    iapply (fupd_wp frame (wpE 𝔻 𝕍 (c.tc : Thread nD τ) none) Set.univ _ _)
    imod (cellsInit_alloc (pinD pcs a) pdats EP phinj p c) $$ [Hcells Hg] with ⟨%κ, -, Hinit⟩
    · isplitl [Hcells] <;> iassumption
    imodintro
    iapply (wp_customCall_entry_frame pcs a pdats ι EP κ phinj p defs₀ 𝒱₀ (fun _ => fullShare) c Set.univ (fun _ _ => Set.mem_univ _)
        (hbody c) (fun w => hW.elim w) none (fun u h => nomatch h) (X := X c) (Y := Y c) (R := scopedRest (pinD pcs a c p).spec c) (I := idleSems0 (pinD pcs a) phinj p (fun _ => ho) c)
        (hsb c) ((show iprop(X c ∗ prefHeld (pcs p).pre c (fun _ => fullShare) (a c p).1 ∗ scopedRest (pinD pcs a c p).spec c) ⊢ iprop(X c ∗ scopedRest (pinD pcs a c p).spec c) from by
          iintro ⟨HX, -, HR⟩
          isplitl [HX] <;> iassumption).trans (hin c)) hout'
        (k := k) (Q := fun _ => post (liftTc fin BI.emp) (c.tc : Thread nD τ))) $$ [HL Hinit Ht HX Hidle Hsc]
    · isplitl [HL Hinit Ht]
      · unfold PerCore.EntryPre Dat.owesAt owesWithin
        rw [howed₀ c]
        isplitr; · iapply harr; iempintro
        isplitl [HL]
        · iexists ∅; isplitr; · ipureintro; rw [Finset.coe_empty]; exact Set.empty_subset _
          iexact HL
        isplitr; · iapply hwait; iempintro
        isplitl [Hinit] <;> iassumption
      isplitr; · iapply hheld; iempintro
      isplitl [HX]; · iexact HX
      isplitl [Hidle]; · iexact Hidle
      iexact Hsc
    unfold PerCore.EntryPost Dat.owesAt owesWithin
    rw [howedN c]
    iintro ⟨⟨-, ⟨%W, -, HO⟩⟩, HY, Hss, Hsc⟩
    iapply (htail c _)
    isplitr [Hsc Hss Hidl HY HZ HO Hrest]
    · iintro ⟨Hb, HT, HW⟩
      unfold post; simp only [liftTc_tc, fin]
      isplitr [HW]
      · isplitl [HT] <;> iassumption
      · iexact HW
    isplitl [Hsc Hss Hidl]
    · unfold boundary
      isplitl [Hsc]; · iexact Hsc
      isplitl [Hss] <;> iassumption
    isplitl [HY]; · iexact HY
    isplitl [HZ]; · iexact HZ
    isplitl [HO]; · iexists W; iexact HO
    isplitr; · iexact Hla
    iexact Hrest
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Cert.Launch
-- ==== Proof.Setup.lean ====
/-
From the launch to the body, and from the body to the whole arrays.

Before the exchange starts the arrays of all devices are cut into their blocks, and every device is handed the
blocks it will write: its own block of its own results, and its block of every partner's results.  The tokens of the
receive counters go the same way.  Afterwards the blocks of one device make its arrays whole again.
-/
module

public import proofs.«01_k».proof.Proof.Body
public import proofs.«01_k».proof.Proof.Launch

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Regrouping over devices -/

/-- A family over the devices: the device itself, and its partners. -/
theorem all_devices (c : Dev nD) (Φ : Dev nD → sProp 𝕄) :
    bigSep Finset.univ Φ = iprop(Φ c ∗ bigSep Finset.univ fun k => Φ (peer c k)) := by
  rw [univ_peer c, BI.bigSep_insert (by
    intro h
    obtain ⟨k, -, hk⟩ := Finset.mem_image.mp h
    exact peer_ne c k hk)]
  rw [show Finset.univ.image (peer c) = Finset.univ.map ⟨peer c, fun k k' => peer_inj c k k'⟩ from
    Finset.ext fun d => by rw [Finset.mem_image, Finset.mem_map]; rfl, BI.bigSep_map]
  rfl

/-- The blocks of all arrays: the device's own, and those of its partners. -/
theorem all_rows (c : Dev nD) (Φ : Fin 5 → Dev nD → sProp 𝕄) :
    (bigSep Finset.univ fun a => bigSep Finset.univ (Φ a))
      = iprop((bigSep Finset.univ fun a => Φ a c) ∗ bigSep Finset.univ fun p : Fin 7 × Fin 5 => Φ p.2 (peer c p.1)) := by
  rw [BI.bigSep_congr fun a _ => all_devices c (Φ a), bigSep_sep',
    BI.bigSep_univ_prod (fun p : Fin 7 × Fin 5 => Φ p.2 (peer c p.1)), BI.bigSep_univ_comm fun (k : Fin 7) (a : Fin 5) => Φ a (peer c k)]

/-- Partners trade: what each device holds for each copy, given to the partner of that copy. -/
theorem trade (Ψ : Dev nD → Fin 7 × Fin 5 → sProp 𝕄) :
    (bigSep Finset.univ fun c => bigSep Finset.univ (Ψ c))
      = bigSep Finset.univ fun c => bigSep Finset.univ fun p => Ψ (peer c p.1) p := by
  rw [BI.bigSep_univ_comm, BI.bigSep_univ_comm (fun c p => Ψ (peer c p.1) p)]
  refine BI.bigSep_congr fun p _ => ?_
  exact BI.bigSep_univ_equiv ⟨fun c => peer c p.1, fun c => peer c p.1, fun c => peer_peer c p.1, fun c => peer_peer c p.1⟩ (fun c => Ψ c p)

/-! ## Whole arrays -/

/-- Device `c`'s operand `a`, whole. -/
def wholeIn (c : Dev nD) (a : Fin 5) : sProp 𝕄 := (inM a).view.loc (c : Thread nD τ) ↦{fullShare} inV m c a
/-- Device `c`'s result `a`, whole, as launched. -/
def wholeOld (c : Dev nD) (a : Fin 5) : sProp 𝕄 := (outM a).view.loc (c : Thread nD τ) ↦{fullShare} oldV m c a
/-- Device `c`'s result `a`, whole, at the end. -/
def wholeOut (c : Dev nD) (a : Fin 5) : sProp 𝕄 := (outM a).view.loc (c : Thread nD τ) ↦{fullShare} outV m c a

theorem cut_in (c : Dev nD) (a : Fin 5) (f : Buf (Elt F) ((inM a).view.loc (c : Thread nD τ))) :
    ((inM a).view.loc (c : Thread nD τ) ↦{fullShare} f : sProp 𝕄)
      = bigSep Finset.univ fun j => ((row a (inM a) j).view.loc (c : Thread nD τ) ↦[(row a (inM a) j).view.set]{fullShare} f : sProp 𝕄) := by
  refine Eq.trans ?_ ((pointsTo_biUnion (ℓ := (inM a).view.loc (c : Thread nD τ)) (q := fullShare) (f := f) Finset.univ (rset (inM a))
    fun j _ j' _ h => rset_disjoint (inM a) j j' h).trans (BI.bigSep_congr fun j _ => ?_))
  · rw [rset_cover, inM_set]
  · rw [row_set]
    rfl

theorem cut_out (c : Dev nD) (a : Fin 5) (f : Buf (Elt F) ((outM a).view.loc (c : Thread nD τ))) :
    ((outM a).view.loc (c : Thread nD τ) ↦{fullShare} f : sProp 𝕄)
      = bigSep Finset.univ fun j => ((row a (outM a) j).view.loc (c : Thread nD τ) ↦[(row a (outM a) j).view.set]{fullShare} f : sProp 𝕄) := by
  refine Eq.trans ?_ ((pointsTo_biUnion (ℓ := (outM a).view.loc (c : Thread nD τ)) (q := fullShare) (f := f) Finset.univ (rset (outM a))
    fun j _ j' _ h => rset_disjoint (outM a) j j' h).trans (BI.bigSep_congr fun j _ => ?_))
  · rw [rset_cover, outM_set]
  · rw [row_set]
    rfl

theorem cut_wholeIn (c : Dev nD) (a : Fin 5) : wholeIn m c a = bigSep Finset.univ (inRow m c a) := cut_in c a _
theorem cut_wholeOld (c : Dev nD) (a : Fin 5) : wholeOld m c a = bigSep Finset.univ (oldRow m c a) := cut_out c a _
theorem cut_wholeOut (c : Dev nD) (a : Fin 5) : wholeOut m c a = bigSep Finset.univ (outRow m c a) := cut_out c a _

theorem two_lists (P0 P1 P2 P3 P4 Q0 Q1 Q2 Q3 Q4 : sProp 𝕄) :
    iprop(P0 ∗ P1 ∗ P2 ∗ P3 ∗ P4 ∗ Q0 ∗ Q1 ∗ Q2 ∗ Q3 ∗ Q4) ⊢ iprop((P0 ∗ P1 ∗ P2 ∗ P3 ∗ P4) ∗ (Q0 ∗ Q1 ∗ Q2 ∗ Q3 ∗ Q4)) := by
  iintro ⟨H0, H1, H2, H3, H4, G0, G1, G2, G3, G4⟩
  isplitl [H0 H1 H2 H3 H4]
  · isplitl [H0]; · iexact H0
    isplitl [H1]; · iexact H1
    isplitl [H2]; · iexact H2
    isplitl [H3]; · iexact H3
    iexact H4
  · isplitl [G0]; · iexact G0
    isplitl [G1]; · iexact G1
    isplitl [G2]; · iexact G2
    isplitl [G3]; · iexact G3
    iexact G4

/-- A device's arrays at launch. -/
theorem arrays_split (c : Dev nD) :
    (unscopedBufs c (fun b => m ((c : Thread nD τ).loc b)) : sProp 𝕄)
      ⊢ iprop(bigSep Finset.univ (wholeIn m c) ∗ bigSep Finset.univ (wholeOld m c)) := by
  unfold unscopedBufs
  rw [BI.bigSep_eq_bigSepL_of_eq [main_arg0, main_arg1, main_arg2, main_arg3, main_arg4, main_v1_0, main_v1_1, main_v1_2, main_v1_3, main_v1_4]
    (by decide) (by decide), all_arrays, all_arrays]
  exact two_lists _ _ _ _ _ _ _ _ _ _

/-- The arrays of all devices, dealt: each device gets the blocks it reads and the blocks it writes. -/
theorem arrays_dealt :
    (bigSep Finset.univ fun c => iprop(bigSep Finset.univ (wholeIn m c) ∗ bigSep Finset.univ (wholeOld m c)) : sProp 𝕄)
      ⊢ bigSep Finset.univ fun c => iprop((bigSep Finset.univ fun a => iprop(inRow m c a c ∗ oldRow m c a c))
          ∗ bigSep Finset.univ fun p : Fin 7 × Fin 5 => iprop(inRow m c p.2 (peer c p.1) ∗ oldRow m (peer c p.1) p.2 c)) := by
  have e1 (c : Dev nD) : (bigSep Finset.univ (wholeIn m c) : sProp 𝕄)
      = iprop((bigSep Finset.univ fun a => inRow m c a c) ∗ bigSep Finset.univ fun p : Fin 7 × Fin 5 => inRow m c p.2 (peer c p.1)) :=
    (BI.bigSep_congr fun a _ => cut_wholeIn m c a).trans (all_rows c (inRow m c))
  have e2 (c : Dev nD) : (bigSep Finset.univ (wholeOld m c) : sProp 𝕄)
      = iprop((bigSep Finset.univ fun a => oldRow m c a c) ∗ bigSep Finset.univ fun p : Fin 7 × Fin 5 => oldRow m c p.2 (peer c p.1)) :=
    (BI.bigSep_congr fun a _ => cut_wholeOld m c a).trans (all_rows c (oldRow m c))
  have e3 : (bigSep Finset.univ fun c => bigSep Finset.univ fun p : Fin 7 × Fin 5 => oldRow m c p.2 (peer c p.1) : sProp 𝕄)
      = bigSep Finset.univ fun c => bigSep Finset.univ fun p : Fin 7 × Fin 5 => oldRow m (peer c p.1) p.2 c :=
    (trade fun c p => oldRow m c p.2 (peer c p.1)).trans
      (BI.bigSep_congr fun c _ => BI.bigSep_congr fun p _ => by rw [peer_peer])
  simp only [e1, e2, bigSep_sep']
  rw [e3]
  change (_ : sProp 𝕄) ⊢ _
  iintro ⟨⟨H1, H2⟩, H3, H4⟩
  isplitl [H1 H3]
  · isplitl [H1]; · iexact H1
    iexact H3
  isplitl [H2]; · iexact H2
  iexact H4

/-- The blocks of one device at the end make its arrays whole. -/
theorem arrays_joined (c : Dev nD) :
    (bigSep Finset.univ (pay m c) : sProp 𝕄) ⊢ iprop(bigSep Finset.univ (wholeIn m c) ∗ bigSep Finset.univ (wholeOut m c)) := by
  rw [all_ctr, (BI.bigSep_congr fun a _ => cut_wholeIn m c a).trans (all_rows c (inRow m c)),
    (BI.bigSep_congr fun a _ => cut_wholeOut m c a).trans (all_rows c (outRow m c))]
  show iprop((bigSep Finset.univ fun p : Fin 7 × Fin 5 => inRow m c p.2 (peer c p.1)) ∗ (bigSep Finset.univ fun p : Fin 7 × Fin 5 => outRow m c p.2 (peer c p.1))
    ∗ bigSep Finset.univ fun a => iprop(outRow m c a c ∗ inRow m c a c)) ⊢ _
  rw [bigSep_sep']
  iintro ⟨H1, H2, H3, H4⟩
  isplitl [H1 H4]
  · isplitl [H4]; · iexact H4
    iexact H1
  isplitl [H3]; · iexact H3
  iexact H2

/-! ## The ghost state of the counters -/

def allCells : Finset (GSem nD τ sig) := Finset.univ.map ⟨kcell, kcell_inj⟩
def allToks : Finset (GSem nD τ sig × ℕ × Unit) :=
  Finset.univ.map ⟨fun ck : Dev nD × Ctr => (kcell ck, 0, ()), fun _ _ h => kcell_inj (congrArg Prod.fst h)⟩

def u₀ : UU := (initOf (Pipeline.cells cfgs cellOf_inj) (Pipeline.launchToks cfgs cellOf_inj), initOf allCells allToks)

/-- One device's part of the counters' ghost state. -/
def G (c : Dev nD) : sProp 𝕄 :=
  iprop((bigSep Finset.univ fun k : Ctr => roundState ER (Rd m) (kcell (c, k)) 0)
    ∗ (bigSep Finset.univ fun k : Ctr => posOf (F := F) c k) ∗ (bigSep Finset.univ fun k : Ctr => reached ER (kcell (c, k)) 0)
    ∗ bigSep Finset.univ fun k : Ctr => dutyTok ER (kcell (c, k)) 0 ())

theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Ctr => Φ (kcell (c, k)) := by
    unfold allCells; rw [BI.bigSep_map, BI.bigSep_univ_prod]; rfl
  have hT : bigSep allToks (fun x => (dutyTok ER x.1 x.2.1 x.2.2 : sProp 𝕄))
      = bigSep Finset.univ fun c : Dev nD => bigSep Finset.univ fun k : Ctr => dutyTok ER (kcell (c, k)) 0 () := by
    unfold allToks; rw [BI.bigSep_map, BI.bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Ctr => semVal (kcell (c, k)) 0 := rfl

/-- The invariants of all counters of all devices. -/
theorem alloc :
    iprop((bigSep Finset.univ fun c : Dev nD => bigSep Finset.univ fun k : Ctr => semVal (kcell (c, k)) 0)
        ∗ bigSep Finset.univ fun c : Dev nD => bigSep Finset.univ fun k : Ctr => roundState ER (Rd m) (kcell (c, k)) 0)
      ⊢ (|={Set.univ}=> ∃ K : Dev nD × Ctr → ℕ, bigSep Finset.univ fun ck => cellInv ER (Rd m) (K ck) (kcell ck) : sProp 𝕄) := by
  rw [← BI.bigSep_univ_prod (fun ck : Dev nD × Ctr => (semVal (kcell ck) 0 : sProp 𝕄)),
    ← BI.bigSep_univ_prod (fun ck : Dev nD × Ctr => (roundState ER (Rd m) (kcell ck) 0 : sProp 𝕄)), ← bigSep_sep']
  exact ((bigSep_mono fun ck _ => (Rounds.body_intro ER (Rd m) (kcell ck)).trans inv_alloc).trans (bigSep_fupd _ _)).trans
    (BI.fupd_mono (BI.bigSep_exists_pi Finset.univ fun (ck : Dev nD × Ctr) (κ : ℕ) => (cellInv ER (Rd m) κ (kcell ck) : sProp 𝕄)))

/-- The tokens, dealt: those of the receive counters to the partners that pay them. -/
theorem toks_dealt :
    (bigSep Finset.univ fun c : Dev nD => bigSep Finset.univ fun k : Ctr => (dutyTok ER (kcell (c, k)) 0 () : sProp 𝕄))
      = iprop((bigSep Finset.univ fun c : Dev nD => bigSep Finset.univ fun p : Fin 7 × Fin 5 => dutyTok ER (kcell (c, cSend p)) 0 ())
        ∗ (bigSep Finset.univ fun c : Dev nD => bigSep Finset.univ fun p : Fin 7 × Fin 5 => dutyTok ER (kcell (peer c p.1, cRecv p)) 0 ())
        ∗ bigSep Finset.univ fun c : Dev nD => bigSep Finset.univ fun a : Fin 5 => dutyTok ER (kcell (c, cLoc a)) 0 ()) := by
  have e : (bigSep Finset.univ fun c : Dev nD => bigSep Finset.univ fun p : Fin 7 × Fin 5 => (dutyTok ER (kcell (c, cRecv p)) 0 () : sProp 𝕄))
      = bigSep Finset.univ fun c : Dev nD => bigSep Finset.univ fun p : Fin 7 × Fin 5 => dutyTok ER (kcell (peer c p.1, cRecv p)) 0 () :=
    trade fun c p => dutyTok ER (kcell (c, cRecv p)) 0 ()
  rw [← e]
  simp only [all_ctr, bigSep_sep']

/-! ## The launch credit -/

theorem owedL_apply (d c : Dev nD) (p : Fin 7 × Fin 5) : ∀ l : List (Fin 7 × Fin 5), l.Nodup →
    owedL d l (kcell (c, cRecv p)) () = if p ∈ l ∧ d = peer c p.1 then N p.2 else 0
  | [], _ => by
    rw [if_neg (fun h => List.not_mem_nil h.1)]
    rfl
  | q :: l, hl => by
    obtain ⟨hq, hl⟩ := List.nodup_cons.mp hl
    have ih := owedL_apply d c p l hl
    show (owedL d l + owedFor d q) (kcell (c, cRecv p)) () = _
    rw [Pi.add_apply, Finsupp.add_apply, ih]
    unfold owedFor
    rw [tallyAt_apply]
    by_cases hp : p = q
    · subst hp
      rw [if_neg (fun h => hq h.1), Nat.zero_add]
      by_cases hd : d = peer c p.1
      · rw [if_pos ⟨by rw [hd, peer_peer], rfl⟩, if_pos ⟨List.mem_cons_self, hd⟩]
      · rw [if_neg (fun h => hd (by
          have := congrArg Prod.fst (kcell_inj h.1)
          exact (show c = peer d p.1 from this) ▸ (peer_peer d p.1).symm)), if_neg (fun h => hd h.2)]
    · rw [if_neg (c := kcell (c, cRecv p) = _ ∧ _) (fun h => hp (by
        have := congrArg Prod.snd (kcell_inj h.1)
        exact Sum.inl.inj (Sum.inr.inj this))), Nat.add_zero]
      refine if_congr ?_ rfl rfl
      rw [List.mem_cons, or_iff_right hp]

theorem order_nodup : order.Nodup := by decide
theorem mem_order : ∀ p : Fin 7 × Fin 5, p ∈ order := by decide +kernel

theorem launch_recv (c : Dev nD) (p : Fin 7 × Fin 5) :
    tallyOn (kcell (c, cRecv p)) (launchCredit (Pipeline.owing O₀) 0 (kcell (c, cRecv p))) = (tallyAt (kcell (c, cRecv p)) () (N p.2) : CellTallies nD τ sig Unit) := by
  unfold tallyAt
  refine congrArg _ (Finsupp.ext fun u => ?_)
  cases u
  rw [Pipeline.launchCredit_owing, Finsupp.single_eq_same]
  show ∑ d, owedL d order (kcell (c, cRecv p)) () = N p.2
  rw [Finset.sum_congr rfl fun d _ => (owedL_apply d c p order order_nodup).trans (if_congr (and_iff_right (mem_order p)) rfl rfl),
    Finset.sum_ite_eq' Finset.univ (peer c p.1) fun _ => N p.2, if_pos (Finset.mem_univ _)]

theorem creds (c : Dev nD) : (Pipeline.launchCred O₀ c : sProp 𝕄) ⊢ bigSep Finset.univ fun p : Fin 7 × Fin 5 => credOf (F := F) c (cRecv p) := by
  unfold Pipeline.launchCred
  have h := BI.bigSep_subset (Φ := fun sm => (cred (tallyOn ((c : Thread nD τ), sm) (launchCredit (Pipeline.owing O₀) 0 ((c : Thread nD τ), sm))) : sProp 𝕄))
    (Finset.subset_univ (Finset.univ.map ⟨fun p : Fin 7 × Fin 5 => osem (cRecv p), fun p q h => Sum.inl.inj (Sum.inr.inj (osem_inj h))⟩))
  rw [BI.bigSep_map] at h
  have e : (bigSep Finset.univ fun p : Fin 7 × Fin 5 => (cred (tallyOn (kcell (c, cRecv p)) (launchCredit (Pipeline.owing O₀) 0 (kcell (c, cRecv p)))) : sProp 𝕄))
      = bigSep Finset.univ fun p : Fin 7 × Fin 5 => credOf (F := F) c (cRecv p) :=
    BI.bigSep_congr fun p _ => congrArg cred (launch_recv c p)
  rw [← e]
  exact h

end Cert.KernelIdeal.Exchange

end
-- ==== Proof.Run.lean ====
/-
The run of the exchange, at every float interpretation.

Every execution ends, with the operands as they were, with block `j` of result `a` of device `d` equal to block `d` of
operand `a` of device `j`, and with every counter at zero.
-/
module

public import proofs.«01_k».proof.Proof.Setup

@[expose] public section

noncomputable section

namespace Cert.KernelIdeal.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

theorem body_point (c : Dev nD) :
    iprop(Φ₀ m c ∗ (dats m 0 c).owesAt () t0_0.castSucc ∗ BI.emp)
      ⊢ WP c (prog' (F := F)) fun _ => iprop(Φ₁ m c ∗ (dats m 0 c).owesAt () t0_0.succ ∗ BI.emp) := by
  unfold Dat.owesAt Pipeline.owesWithin
  iintro ⟨HΦ, ⟨%W, %hW, HO⟩, -⟩
  iapply (body m c fun _ => iprop(Φ₁ m c ∗ (∃ W, ⌜_⌝ ∗ owes (c : Thread nD τ) 0 W) ∗ BI.emp)) $$ [HΦ HO]
  · isplitl [HΦ]; · iexact HΦ
    iexists W; iexact HO
  iintro ⟨HΦ, ⟨%W', HO⟩⟩
  isplitl [HΦ]; · iexact HΦ
  isplitl [HO]
  · iexists W'
    isplitr
    · ipureintro; exact fun _ _ => Or.inl trivial
    iexact HO
  iempintro

set_option maxRecDepth 10000 in
theorem body_obligation (c : Dev nD) : Pipeline.BodyObligationLoose (dats m 0 c) (defs₀ (F := F)) 𝒱₀ () Set.univ := fun t => by
  haveI : IsEmpty (Fin cfg0.W) := no_windows
  have hu : (Finset.univ : Finset (Fin cfg0.W)) = ∅ := Finset.univ_eq_empty
  rw [fin_N0 t, hu, BI.bigSep_empty, BI.bigSep_empty]
  have e0 : (dats m 0 c).Φ t0_0.castSucc = Φ₀ m c := rfl
  have e1 : (dats m 0 c).Φ t0_0.succ = Φ₁ m c := rfl
  rw [e0, e1]
  have e2 : defs₀ (F := F) .tc cfg0.body (cfg0.bodyArgs t0_0 (cfg0.slots t0_0)) = bodyAt0 (F := F) t0_0 := rfl
  rw [e2, bodyAt_eq]
  exact body_point m c

/-! ## The deal -/

/-- What one device holds alone when its body starts, but for the records. -/
theorem start_join (c : Dev nD) :
    iprop(((bigSep Finset.univ fun a => iprop(inRow m c a c ∗ oldRow m c a c))
          ∗ bigSep Finset.univ fun p : Fin 7 × Fin 5 => iprop(inRow m c p.2 (peer c p.1) ∗ oldRow m (peer c p.1) p.2 c))
        ∗ (bigSep Finset.univ fun p : Fin 7 × Fin 5 => dutyTok ER (kcell (c, cSend p)) 0 ())
        ∗ (bigSep Finset.univ fun p : Fin 7 × Fin 5 => dutyTok ER (kcell (peer c p.1, cRecv p)) 0 ())
        ∗ (bigSep Finset.univ fun a : Fin 5 => dutyTok ER (kcell (c, cLoc a)) 0 ())
        ∗ (bigSep Finset.univ fun p : Fin 7 × Fin 5 => credOf (F := F) c (cRecv p))
        ∗ bigSep Finset.univ fun k : Ctr => posOf (F := F) c k) ⊢ start m c := by
  unfold start locPre remPre
  simp only [bigSep_sep']
  change (_ : sProp 𝕄) ⊢ _
  iintro ⟨⟨⟨H1, H2⟩, H3, H4⟩, Hs, Hr, Hl, Hc, Hp⟩
  isplitl [H1 H2 Hl]
  · isplitl [H1]; · iexact H1
    isplitl [H2]; · iexact H2
    iexact Hl
  isplitl [H3 H4 Hs Hr]
  · isplitl [H3]; · iexact H3
    isplitl [H4]; · iexact H4
    isplitl [Hs]; · iexact Hs
    iexact Hr
  isplitl [Hc]; · iexact Hc
  iexact Hp

theorem start_all :
    iprop((bigSep Finset.univ fun c => iprop((bigSep Finset.univ fun a => iprop(inRow m c a c ∗ oldRow m c a c))
          ∗ bigSep Finset.univ fun p : Fin 7 × Fin 5 => iprop(inRow m c p.2 (peer c p.1) ∗ oldRow m (peer c p.1) p.2 c)))
        ∗ (bigSep Finset.univ fun c : Dev nD => bigSep Finset.univ fun p : Fin 7 × Fin 5 => dutyTok ER (kcell (c, cSend p)) 0 ())
        ∗ (bigSep Finset.univ fun c : Dev nD => bigSep Finset.univ fun p : Fin 7 × Fin 5 => dutyTok ER (kcell (peer c p.1, cRecv p)) 0 ())
        ∗ (bigSep Finset.univ fun c : Dev nD => bigSep Finset.univ fun a : Fin 5 => dutyTok ER (kcell (c, cLoc a)) 0 ())
        ∗ (bigSep Finset.univ fun c : Dev nD => bigSep Finset.univ fun p : Fin 7 × Fin 5 => credOf (F := F) c (cRecv p))
        ∗ bigSep Finset.univ fun c : Dev nD => bigSep Finset.univ fun k : Ctr => posOf (F := F) c k) ⊢ bigSep Finset.univ (start m) := by
  rw [← bigSep_sep', ← bigSep_sep', ← bigSep_sep', ← bigSep_sep', ← bigSep_sep']
  exact bigSep_mono fun c _ => start_join m c

theorem arrays_all :
    (bigSep Finset.univ fun c : Dev nD => unscopedBufs c (fun b => m ((c : Thread nD τ).loc b)) : sProp 𝕄)
      ⊢ bigSep Finset.univ fun c => iprop((bigSep Finset.univ fun a => iprop(inRow m c a c ∗ oldRow m c a c))
          ∗ bigSep Finset.univ fun p : Fin 7 × Fin 5 => iprop(inRow m c p.2 (peer c p.1) ∗ oldRow m (peer c p.1) p.2 c)) :=
  BI.Entails.trans (bigSep_mono fun c _ => arrays_split m c) (arrays_dealt m)

theorem creds_all : (bigSep Finset.univ fun c : Dev nD => Pipeline.launchCred O₀ c : sProp 𝕄)
    ⊢ bigSep Finset.univ fun c : Dev nD => bigSep Finset.univ fun p : Fin 7 × Fin 5 => credOf (F := F) c (cRecv p) :=
  bigSep_mono fun c _ => creds c

theorem recs_join (K : Dev nD × Ctr → ℕ) :
    iprop((bigSep Finset.univ fun ck => cellInv ER (Rd m) (K ck) (kcell ck))
        ∗ bigSep Finset.univ fun c : Dev nD => bigSep Finset.univ fun k : Ctr => reached ER (kcell (c, k)) 0)
      ⊢ (recs m K : sProp 𝕄) := by
  unfold recs
  rw [bigSep_sep', BI.bigSep_univ_prod fun ck : Dev nD × Ctr => (reached ER (kcell ck) 0 : sProp 𝕄)]

theorem with_recs (K : Dev nD × Ctr → ℕ) :
    iprop(recs m K ∗ bigSep Finset.univ (start m)) ⊢ (bigSep Finset.univ (Φ₀ m) : sProp 𝕄) :=
  (sep_mono_left (BI.bigSep_of_persistent Finset.univ (recs m K))).trans (by
    rw [← bigSep_sep']
    refine bigSep_mono fun c _ => ?_
    unfold Φ₀
    change (_ : sProp 𝕄) ⊢ _
    iintro ⟨#HR, Hs⟩
    iexists K
    isplitr; · iexact HR
    iexact Hs)

theorem alone (c : Dev nD) : Φ₀ m c ⊢ iprop(Φ₀ m c ∗ BI.emp) := by
  iintro H
  isplitl [H]; · iexact H
  iempintro

theorem alone_all : (bigSep Finset.univ (Φ₀ m) : sProp 𝕄) ⊢ bigSep Finset.univ fun c => iprop(Φ₀ m c ∗ BI.emp) :=
  bigSep_mono fun c _ => alone m c

/-- The launch's resources, dealt to the devices. -/
theorem deal : iprop((bigSep Finset.univ fun c => Cert.Launch.launched osem m ρ O₀ (G m) c) ∗ levAts L lv)
    ⊢ (|={Set.univ}=> bigSep Finset.univ (Φ₀ m) : sProp 𝕄) := by
  unfold Cert.Launch.launched G
  simp only [ownSems0_eq, bigSep_sep']
  change (_ : sProp 𝕄) ⊢ _
  iintro ⟨⟨Hz, Hb, -, Hc, -, Hst, Hp, Hr, Ht⟩, -⟩
  imod (alloc m) $$ [Hz Hst] with ⟨%K, HI⟩
  · isplitl [Hz]; · iexact Hz
    iexact Hst
  ihave Hb := (arrays_all m) $$ Hb
  ihave Ht := (Entails.of_eq (toks_dealt (F := F))) $$ Ht
  icases Ht with ⟨Hs, Hv, Hl⟩
  ihave Hc := (creds_all (F := F)) $$ Hc
  ihave HR := (recs_join m K) $$ [HI Hr]
  · isplitl [HI]; · iexact HI
    iexact Hr
  imodintro
  iapply (with_recs m K)
  isplitl [HR]; · iexact HR
  iapply (start_all m)
  isplitl [Hb]; · iexact Hb
  isplitl [Hs]; · iexact Hs
  isplitl [Hv]; · iexact Hv
  isplitl [Hl]; · iexact Hl
  isplitl [Hc]; · iexact Hc
  iexact Hp

/-! ## The run -/

/-- A device's arrays at the end. -/
def ends (c : Dev nD) : sProp 𝕄 := iprop(bigSep Finset.univ (wholeIn m c) ∗ bigSep Finset.univ (wholeOut m c))

theorem leave (c : Dev nD) :
    (Φ₁ m c : sProp 𝕄) ⊢ iprop(ends m c ∗ Pipeline.ownSems0 osem c ∗ Pipeline.scopedRest cfg0.spec c) := by
  rw [scopedRest0_eq, ownSems0_eq]
  unfold Φ₁ ends
  rw [bigSep_sep']
  change (_ : sProp 𝕄) ⊢ _
  iintro ⟨Hz, Hp⟩
  isplitl [Hp]; · iapply (arrays_joined m c); iexact Hp
  isplitl [Hz]; · iexact Hz
  iempintro

theorem ownSemFacts : Pipeline.OwnSemFacts cfg0.spec osem := by decide +kernel

/-- What the memory of one device reads at the end. -/
def Read (c : Dev nD) (s : MemSt nD τ sig (Elt F)) : Prop :=
  ∀ a : Fin 5, s.mem ((inM a).view.loc (c : Thread nD τ)) = inV m c a ∧ s.mem ((outM a).view.loc (c : Thread nD τ)) = outV m c a

theorem reads (c : Dev nD) (s' : Phys nD τ sig (Elt F)) :
    iprop(ends m c ∗ SI s') ⊢ (|={Set.univ}=> iprop(⌜Read m c s'.mem⌝ ∗ SI s') : sProp 𝕄) := by
  unfold ends
  iintro ⟨⟨Hi, Ho⟩, HSI⟩
  ihave H := (pointsTo_read_all Finset.univ (fun a => (inM a).view.loc (c : Thread nD τ)) (inV m c) s') $$ [Hi HSI]
  · isplitl [Hi]; · iexact Hi
    iexact HSI
  icases H with ⟨%h1, HSI⟩
  ihave H := (pointsTo_read_all Finset.univ (fun a => (outM a).view.loc (c : Thread nD τ)) (outV m c) s') $$ [Ho HSI]
  · isplitl [Ho]; · iexact Ho
    iexact HSI
  icases H with ⟨%h2, HSI⟩
  imodintro
  isplitr
  · ipureintro; exact fun a => ⟨h1 a (Finset.mem_univ a), h2 a (Finset.mem_univ a)⟩
  iexact HSI

/-- At the compiled mesh, at every float interpretation and from every memory with zero counters: every fair execution
    ends; each operand is as it was, each result holds the exchanged blocks, and every counter is zero. -/
theorem run_main : θ_run (defs (F := F)) (onTc (τ := τ) (main (F := F))) ⟨m, fun _ => 0, ρ⟩
    (fun r => (∀ c, Read m c r.2) ∧ r.2.sem = fun _ => 0) :=
  Cert.Launch.theta_run_dealt (fun p => (cfgs p).toPCfg) (fun _ p => (cfgs p).toPCfg_adm) (dats m) () cellOf_inj (0 : Fin 1)
    winFacts0.to₀ ownSemFacts EP defs₀ 𝒱₀ no_windows (inferInstanceAs (IsEmpty (Fin 0))) m ρ main (fun _ => .ret ⟨⟩)
    (hmain := fun _ => rfl) (hbody := body_obligation m)
    (O₀ := O₀) (howed₀ := fun _ => rfl) (howedN := fun _ => rfl)
    (L := L) (lv := lv) (hL := L_of_ne)
    (G := G m) (u₀ := u₀)
    (hu₀ := by
      unfold u₀
      iintro Hu
      ihave H := (ownU_pair _ _) $$ Hu
      icases H with ⟨HP, HX⟩
      imod (fund m) $$ HX with HG
      imodintro
      isplitl [HP] <;> iassumption)
    (X := Φ₀ m) (Y := ends m) (Z := fun _ => BI.emp) (T := ends m)
    (hinit := (deal m ρ).trans (BI.fupd_mono (alone_all m)))
    (hin := fun c => by
      change iprop(Φ₀ m c ∗ _) ⊢ Φ₀ m c
      iintro ⟨H, -⟩
      iexact H)
    (hout := leave m)
    (htail := fun c Q' => by
      rw [wp_ret]
      iintro ⟨Hk, Hb, HY, -, HO, -, -⟩
      imodintro
      iapply Hk
      isplitl [Hb]; · iexact Hb
      isplitl [HY]; · iexact HY
      iexact HO)
    (QY := Read m) (hfin := reads m)
    (hQ := fun _ h hs => ⟨h, sem_eq_zero_of_scoped (by decide) hs⟩)

end Cert.KernelIdeal.Exchange

end
-- ==== Proof.Values.lean ====
/-
What the exchange computes, and that it is the reference.

Block `j` of result `a` of device `d` is block `d` of operand `a` of device `j`.  The reference cuts the whole array
into eight times eight blocks and swaps the two axes that count them.  The two are the same rearrangement.
-/
module

public import proofs.«01_k».proof.Proof.Run
public import proofs.«01_k».proof.Proof.Gen.Reference.Run
public import proofs.«01_k».proof.Proof.Gen.ReferenceIdeal.Run
public import Idealize.ShloMosaic.Lib.Pipeline.Value

@[expose] public section

noncomputable section

namespace Cert.Blocks

open Idealize.ShloMosaic

variable {α : Type} (r c : ℕ)

/-- A whole array: 64 blocks of `r` rows and `c` columns. -/
abbrev whole : Shape := ⟨3, ![64, r, c]⟩
/-- The eight blocks of one device. -/
abbrev part : Shape := ⟨3, ![8, r, c]⟩
/-- The whole array with its blocks counted by two axes. -/
abbrev grid : Shape := ⟨4, ![8, 8, r, c]⟩

variable {r c}

/-- `i` with its first coordinate replaced by `d`. -/
def atBlock (d : Fin 8) (i : (part r c).Idx) : (part r c).Idx
  | 0 => d
  | 1 => i 1
  | 2 => i 2

def gridIdx (d e : Fin 8) (i : (part r c).Idx) : (grid r c).Idx
  | 0 => d
  | 1 => e
  | 2 => i 1
  | 3 => i 2

theorem place (hT : Layout.Tiles (part r c) (whole r c) 0 8) (d : Fin 8) (i : (part r c).Idx) :
    ((whole r c).rowMajor (hT.idx d i)).val = ((grid r c).rowMajor (gridIdx d (i 0) i)).val := by
  rw [Shape.rowMajor_val_three, Shape.rowMajor_val_four]
  have e0 : (hT.idx d i 0).val = d.val * 8 + (i 0).val := rfl
  have e1 : (hT.idx d i 1).val = (i 1).val := rfl
  have e2 : (hT.idx d i 2).val = (i 2).val := rfl
  rw [e0, e1, e2]
  show _ = ((d.val * 8 + (i 0).val) * r + (i 1).val) * c + (i 2).val
  rfl

/-- The reference's rearrangement, read at an index of device `d`'s blocks. -/
theorem swapped (hT : Layout.Tiles (part r c) (whole r c) 0 8) (X : (whole r c).Idx → α)
    (h1 : (whole r c).ShapeCasts (grid r c)) (ht : (grid r c).Transposes [1, 0, 2, 3] (grid r c)) (h2 : (grid r c).ShapeCasts (whole r c))
    (d : Fin 8) (i : (part r c).Idx) :
    shapeCast (whole r c) (transpose (grid r c) [1, 0, 2, 3] (shapeCast (grid r c) X h1) ht) h2 (hT.idx d i)
      = X (hT.idx (i 0) (atBlock d i)) := by
  refine (shapeCast_apply _ h2 _ (gridIdx d (i 0) i) (place hT d i).symm).trans
    ((transpose_apply _ _ ht _ (gridIdx (i 0) d i) fun b => ?_).trans
      (shapeCast_apply _ h1 (gridIdx (i 0) d i) (hT.idx (i 0) (atBlock d i)) (place hT (i 0) (atBlock d i))))
  match b with
  | 0 => rfl
  | 1 => rfl
  | 2 => rfl
  | 3 => rfl

/-- Devices that hold the blocks of a whole array hold the blocks of the reference's after the exchange. -/
theorem exchanged (hT : Layout.Tiles (part r c) (whole r c) 0 8) (X : (whole r c).Idx → α)
    (h1 : (whole r c).ShapeCasts (grid r c)) (ht : (grid r c).Transposes [1, 0, 2, 3] (grid r c)) (h2 : (grid r c).ShapeCasts (whole r c))
    (f : Fin 8 → (part r c).Idx → α) (hf : ∀ d, f d = Layout.block (part r c) (whole r c) 0 8 d X hT) (d : Fin 8) :
    (fun i : (part r c).Idx => f (i 0) (atBlock d i))
      = Layout.block (part r c) (whole r c) 0 8 d
          (shapeCast (whole r c) (transpose (grid r c) [1, 0, 2, 3] (shapeCast (grid r c) X h1) ht) h2) hT :=
  funext fun i => (congrFun (hf (i 0)) _).trans (swapped hT X h1 ht h2 d i).symm

end Cert.Blocks

namespace Cert.KernelIdeal.Exchange

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem at_eq (a : Fin 5) (d : Dev nD) (i : (big a).Idx) : atBlock a d i = Cert.Blocks.atBlock d i :=
  funext fun x => match x with
    | 0 => rfl
    | 1 => rfl
    | 2 => rfl

/-- Operand 0 of each device. -/
def arr_0 (d : Dev nD) : (Cert.Blocks.part 1024 464).Idx → Elt F .f32 := m ((d : Thread nD τ).loc main_arg0)

theorem out_0 (d : Dev nD) : outV m d 0 = (fun i : (Cert.Blocks.part 1024 464).Idx => arr_0 m (i 0) (Cert.Blocks.atBlock d i)) :=
  (View.write_whole_univ main_v1_0 _ _).trans (funext fun i => congrArg (arr_0 m (i 0)) (at_eq 0 d i))

/-- Operand 1 of each device. -/
def arr_1 (d : Dev nD) : (Cert.Blocks.part 128 1024).Idx → Elt F .f32 := m ((d : Thread nD τ).loc main_arg1)

theorem out_1 (d : Dev nD) : outV m d 1 = (fun i : (Cert.Blocks.part 128 1024).Idx => arr_1 m (i 0) (Cert.Blocks.atBlock d i)) :=
  (View.write_whole_univ main_v1_1 _ _).trans (funext fun i => congrArg (arr_1 m (i 0)) (at_eq 1 d i))

/-- Operand 2 of each device. -/
def arr_2 (d : Dev nD) : (Cert.Blocks.part 64 64).Idx → Elt F .f32 := m ((d : Thread nD τ).loc main_arg2)

theorem out_2 (d : Dev nD) : outV m d 2 = (fun i : (Cert.Blocks.part 64 64).Idx => arr_2 m (i 0) (Cert.Blocks.atBlock d i)) :=
  (View.write_whole_univ main_v1_2 _ _).trans (funext fun i => congrArg (arr_2 m (i 0)) (at_eq 2 d i))

/-- Operand 3 of each device. -/
def arr_3 (d : Dev nD) : (Cert.Blocks.part 64 64).Idx → Elt F .f32 := m ((d : Thread nD τ).loc main_arg3)

theorem out_3 (d : Dev nD) : outV m d 3 = (fun i : (Cert.Blocks.part 64 64).Idx => arr_3 m (i 0) (Cert.Blocks.atBlock d i)) :=
  (View.write_whole_univ main_v1_3 _ _).trans (funext fun i => congrArg (arr_3 m (i 0)) (at_eq 3 d i))

/-- Operand 4 of each device. -/
def arr_4 (d : Dev nD) : (Cert.Blocks.part 72 128).Idx → Elt F .f32 := m ((d : Thread nD τ).loc main_arg4)

theorem out_4 (d : Dev nD) : outV m d 4 = (fun i : (Cert.Blocks.part 72 128).Idx => arr_4 m (i 0) (Cert.Blocks.atBlock d i)) :=
  (View.write_whole_univ main_v1_4 _ _).trans (funext fun i => congrArg (arr_4 m (i 0)) (at_eq 4 d i))

/-- A whole array as the reference rearranges it. -/
def swap (r c : ℕ) (h1 : (Cert.Blocks.whole r c).ShapeCasts (Cert.Blocks.grid r c)) (ht : (Cert.Blocks.grid r c).Transposes [1, 0, 2, 3] (Cert.Blocks.grid r c))
    (h2 : (Cert.Blocks.grid r c).ShapeCasts (Cert.Blocks.whole r c)) (X : (Cert.Blocks.whole r c).Idx → Elt F .f32) : (Cert.Blocks.whole r c).Idx → Elt F .f32 :=
  shapeCast (Cert.Blocks.whole r c) (transpose (Cert.Blocks.grid r c) [1, 0, 2, 3] (shapeCast (Cert.Blocks.grid r c) X h1) ht) h2

/-- The run of the kernel on devices that hold the blocks of whole arrays: each result is the device's block of the
    rearranged array, whatever the proofs that its reshapes and its transpose are well formed. -/
theorem results
    (X0 : (Cert.Blocks.whole 1024 464).Idx → Elt F .f32) (h0 : _) (t0 : _) (g0 : _)
    (X1 : (Cert.Blocks.whole 128 1024).Idx → Elt F .f32) (h1 : _) (t1 : _) (g1 : _)
    (X2 : (Cert.Blocks.whole 64 64).Idx → Elt F .f32) (h2 : _) (t2 : _) (g2 : _)
    (X3 : (Cert.Blocks.whole 64 64).Idx → Elt F .f32) (h3 : _) (t3 : _) (g3 : _)
    (X4 : (Cert.Blocks.whole 72 128).Idx → Elt F .f32) (h4 : _) (t4 : _) (g4 : _)
    (hm : ∀ c : Dev nD, m ((c : Thread nD τ).loc main_arg0) = Layout.block ⟨3, ![8, 1024, 464]⟩ ⟨3, ![64, 1024, 464]⟩ 0 8 c X0
      ∧ m ((c : Thread nD τ).loc main_arg1) = Layout.block ⟨3, ![8, 128, 1024]⟩ ⟨3, ![64, 128, 1024]⟩ 0 8 c X1
      ∧ m ((c : Thread nD τ).loc main_arg2) = Layout.block ⟨3, ![8, 64, 64]⟩ ⟨3, ![64, 64, 64]⟩ 0 8 c X2
      ∧ m ((c : Thread nD τ).loc main_arg3) = Layout.block ⟨3, ![8, 64, 64]⟩ ⟨3, ![64, 64, 64]⟩ 0 8 c X3
      ∧ m ((c : Thread nD τ).loc main_arg4) = Layout.block ⟨3, ![8, 72, 128]⟩ ⟨3, ![64, 72, 128]⟩ 0 8 c X4) :
    θ_run (defs (F := F)) (onTc (τ := τ) (main (F := F))) ⟨m, fun _ => 0, ρ⟩ fun r => ∀ c : Dev nD,
      r.2.mem ((c : Thread nD τ).loc main_v1_0) = Layout.block ⟨3, ![8, 1024, 464]⟩ ⟨3, ![64, 1024, 464]⟩ 0 8 c (swap 1024 464 h0 t0 g0 X0)
      ∧ r.2.mem ((c : Thread nD τ).loc main_v1_1) = Layout.block ⟨3, ![8, 128, 1024]⟩ ⟨3, ![64, 128, 1024]⟩ 0 8 c (swap 128 1024 h1 t1 g1 X1)
      ∧ r.2.mem ((c : Thread nD τ).loc main_v1_2) = Layout.block ⟨3, ![8, 64, 64]⟩ ⟨3, ![64, 64, 64]⟩ 0 8 c (swap 64 64 h2 t2 g2 X2)
      ∧ r.2.mem ((c : Thread nD τ).loc main_v1_3) = Layout.block ⟨3, ![8, 64, 64]⟩ ⟨3, ![64, 64, 64]⟩ 0 8 c (swap 64 64 h3 t3 g3 X3)
      ∧ r.2.mem ((c : Thread nD τ).loc main_v1_4) = Layout.block ⟨3, ![8, 72, 128]⟩ ⟨3, ![64, 72, 128]⟩ 0 8 c (swap 72 128 h4 t4 g4 X4)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c 0).2.trans (out_0 m c)).trans (Cert.Blocks.exchanged _ X0 h0 t0 g0 (arr_0 m) (fun d => (hm d).1) c),
      ((h.1 c 1).2.trans (out_1 m c)).trans (Cert.Blocks.exchanged _ X1 h1 t1 g1 (arr_1 m) (fun d => (hm d).2.1) c),
      ((h.1 c 2).2.trans (out_2 m c)).trans (Cert.Blocks.exchanged _ X2 h2 t2 g2 (arr_2 m) (fun d => (hm d).2.2.1) c),
      ((h.1 c 3).2.trans (out_3 m c)).trans (Cert.Blocks.exchanged _ X3 h3 t3 g3 (arr_3 m) (fun d => (hm d).2.2.2.1) c),
      ((h.1 c 4).2.trans (out_4 m c)).trans (Cert.Blocks.exchanged _ X4 h4 t4 g4 (arr_4 m) (fun d => (hm d).2.2.2.2) c),
      (h.1 c 0).1,
      (h.1 c 1).1,
      (h.1 c 2).1,
      (h.1 c 3).1,
      (h.1 c 4).1⟩)
    (run_main m ρ)

end Cert.KernelIdeal.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.WIn
public import proofs.«01_k».proof.Proof.Gen.WIn.Frame
public import proofs.«01_k».proof.Proof.Gen.WInIdeal
public import proofs.«01_k».proof.Proof.Gen.WInIdeal.Frame
public import proofs.«01_k».proof.Proof.Gen.WInIdeal.Value
public import proofs.«01_k».proof.Proof.Gen.WInRefIdeal
public import proofs.«01_k».proof.Proof.Gen.WInRefIdeal.Run
public import proofs.«01_k».proof.Proof.Gen.WOut
public import proofs.«01_k».proof.Proof.Gen.WOut.Frame
public import proofs.«01_k».proof.Proof.Gen.WOutIdeal
public import proofs.«01_k».proof.Proof.Gen.WOutIdeal.Frame
public import proofs.«01_k».proof.Proof.Gen.WOutIdeal.Value
public import proofs.«01_k».proof.Proof.Gen.WOutRefIdeal
public import proofs.«01_k».proof.Proof.Gen.WOutRefIdeal.Run
public import proofs.«01_k».proof.Proof.Gen.WLora
public import proofs.«01_k».proof.Proof.Gen.WLora.Frame
public import proofs.«01_k».proof.Proof.Gen.WLoraIdeal
public import proofs.«01_k».proof.Proof.Gen.WLoraIdeal.Frame
public import proofs.«01_k».proof.Proof.Gen.WLoraIdeal.Value
public import proofs.«01_k».proof.Proof.Gen.WLoraRefIdeal
public import proofs.«01_k».proof.Proof.Gen.WLoraRefIdeal.Run
public import proofs.«01_k».proof.Proof.Gen.ALora
public import proofs.«01_k».proof.Proof.Gen.ALora.Frame
public import proofs.«01_k».proof.Proof.Gen.ALoraIdeal
public import proofs.«01_k».proof.Proof.Gen.ALoraIdeal.Frame
public import proofs.«01_k».proof.Proof.Gen.ALoraIdeal.Value
public import proofs.«01_k».proof.Proof.Gen.ALoraRefIdeal
public import proofs.«01_k».proof.Proof.Gen.ALoraRefIdeal.Run
public import proofs.«01_k».proof.Proof.Gen.Vectors
public import proofs.«01_k».proof.Proof.Gen.Vectors.Frame
public import proofs.«01_k».proof.Proof.Gen.VectorsIdeal
public import proofs.«01_k».proof.Proof.Gen.VectorsIdeal.Frame
public import proofs.«01_k».proof.Proof.Gen.VectorsIdeal.Value
public import proofs.«01_k».proof.Proof.Gen.VectorsRefIdeal
public import proofs.«01_k».proof.Proof.Gen.VectorsRefIdeal.Run
public import proofs.«01_k».proof.Proof.Gen.InX
public import proofs.«01_k».proof.Proof.Gen.InX.Frame
public import proofs.«01_k».proof.Proof.Gen.InXIdeal
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.GQkv
public import proofs.«01_k».proof.Proof.Gen.GQkv.Frame
public import proofs.«01_k».proof.Proof.Gen.GQkvIdeal
public import proofs.«01_k».proof.Proof.Gen.GQkvIdeal.Frame
public import proofs.«01_k».proof.Proof.Gen.GQkvIdeal.Value
public import proofs.«01_k».proof.Proof.Gen.GQkvRefIdeal
public import proofs.«01_k».proof.Proof.Gen.GQkvRefIdeal.Run
public import proofs.«01_k».proof.Proof.Gen.GRet
public import proofs.«01_k».proof.Proof.Gen.GRet.Frame
public import proofs.«01_k».proof.Proof.Gen.GRetIdeal
public import proofs.«01_k».proof.Proof.Gen.GRetIdeal.Frame
public import proofs.«01_k».proof.Proof.Gen.GRetIdeal.Value
public import proofs.«01_k».proof.Proof.Gen.GRetRefIdeal
public import proofs.«01_k».proof.Proof.Gen.GRetRefIdeal.Run
public import proofs.«01_k».proof.Proof.Gen.GRwkv
public import proofs.«01_k».proof.Proof.Gen.GRwkv.Frame
public import proofs.«01_k».proof.Proof.Gen.GRwkvIdeal
public import proofs.«01_k».proof.Proof.Gen.GRwkvIdeal.Frame
public import proofs.«01_k».proof.Proof.Gen.GRwkvIdeal.Value
public import proofs.«01_k».proof.Proof.Gen.GRwkvRefIdeal
public import proofs.«01_k».proof.Proof.Gen.GRwkvRefIdeal.Run
public import proofs.«01_k».proof.Proof.BackX
public import proofs.«01_k».proof.Proof.BackXRef
public import proofs.«01_k».proof.Proof.Mix
public import proofs.«01_k».proof.Proof.MixRef
public import proofs.«01_k».proof.Proof.Fore
public import proofs.«01_k».proof.Proof.ForeRef
public import proofs.«01_k».proof.Proof.GradW
public import proofs.«01_k».proof.Proof.UpdateWIn
public import proofs.«01_k».proof.Proof.UpdateWOut
public import proofs.«01_k».proof.Proof.UpdateWLora
public import proofs.«01_k».proof.Proof.UpdateALora
public import proofs.«01_k».proof.Proof.UpdateVectors
public import proofs.«01_k».proof.Proof.Values
public import Idealize.ShloMosaic.Adequacy
public import Idealize.ShloMosaic.Init

@[expose] public section

noncomputable section

namespace Cert.Proof

open Idealize.ShloMosaic Idealize.SL.Sem

/-- The kernel over words runs as its ideal instance does: the two programs have one text. -/
theorem frame_kernel : Cert.quiescent_Kernel := fun m g _ =>
  (θ_run Cert.KernelIdeal.defs _ _).mono
    (fun _ h => ⟨fun c => ⟨(h.1 c 0).1, (h.1 c 1).1, (h.1 c 2).1, (h.1 c 3).1, (h.1 c 4).1⟩, h.2⟩)
    (Cert.KernelIdeal.Exchange.run_main (F := Bits) m g)

/-- The run over the extended reals. -/
theorem frame_kernelIdeal : Cert.quiescent_KernelIdeal := fun m g _ =>
  (θ_run Cert.KernelIdeal.defs _ _).mono
    (fun _ h => ⟨fun c => ⟨(h.1 c 0).1, (h.1 c 1).1, (h.1 c 2).1, (h.1 c 3).1, (h.1 c 4).1⟩, h.2⟩)
    (Cert.KernelIdeal.Exchange.run_main (F := Ideal) m g)

/-- The reference runs and declares no counter. -/
theorem frame_referenceIdeal : Cert.quiescent_ReferenceIdeal := fun m g _ =>
  (θ_run Cert.ReferenceIdeal.defs _ _).mono (fun _ h => ⟨fun c => (h c).2.2.2.2.2, sem_eq_zero_of_no_sems (by decide) _⟩)
    (Cert.ReferenceIdeal.Value.run (F := Ideal) m g)

/-- The same of the reference over words. -/
theorem frame_reference : Cert.quiescent_Reference := fun m g _ =>
  (θ_run Cert.Reference.defs _ _).mono (fun _ h => ⟨fun c => (h c).2.2.2.2.2, sem_eq_zero_of_no_sems (by decide) _⟩)
    (Cert.Reference.Value.run (F := Bits) m g)

/-- Over the extended reals the exchange is the reference's transposition of blocks. -/
theorem algebraic : Cert.algebraic_KernelIdeal_ReferenceIdeal := fun m g m' g' _ hm =>
  ⟨_, _, _, _, _, Cert.KernelIdeal.Exchange.results (F := Ideal) m g
      (m' (((0 : Dev Cert.ReferenceIdeal.nD).tc : Thread Cert.ReferenceIdeal.nD Cert.ReferenceIdeal.τ).loc Cert.ReferenceIdeal.main_arg0)) _ _ _
      (m' (((0 : Dev Cert.ReferenceIdeal.nD).tc : Thread Cert.ReferenceIdeal.nD Cert.ReferenceIdeal.τ).loc Cert.ReferenceIdeal.main_arg1)) _ _ _
      (m' (((0 : Dev Cert.ReferenceIdeal.nD).tc : Thread Cert.ReferenceIdeal.nD Cert.ReferenceIdeal.τ).loc Cert.ReferenceIdeal.main_arg2)) _ _ _
      (m' (((0 : Dev Cert.ReferenceIdeal.nD).tc : Thread Cert.ReferenceIdeal.nD Cert.ReferenceIdeal.τ).loc Cert.ReferenceIdeal.main_arg3)) _ _ _
      (m' (((0 : Dev Cert.ReferenceIdeal.nD).tc : Thread Cert.ReferenceIdeal.nD Cert.ReferenceIdeal.τ).loc Cert.ReferenceIdeal.main_arg4)) _ _ _ hm,
    (θ_run Cert.ReferenceIdeal.defs _ _).mono (fun _ h => h 0) (Cert.ReferenceIdeal.Value.run (F := Ideal) m' g')⟩

/-- Over words too: the exchange moves data and computes nothing. -/
theorem bitexact : Cert.bitexact_Kernel_Reference := fun m g m' g' _ hm =>
  ⟨_, _, _, _, _, Cert.KernelIdeal.Exchange.results (F := Bits) m g
      (m' (((0 : Dev Cert.Reference.nD).tc : Thread Cert.Reference.nD Cert.Reference.τ).loc Cert.Reference.main_arg0)) _ _ _
      (m' (((0 : Dev Cert.Reference.nD).tc : Thread Cert.Reference.nD Cert.Reference.τ).loc Cert.Reference.main_arg1)) _ _ _
      (m' (((0 : Dev Cert.Reference.nD).tc : Thread Cert.Reference.nD Cert.Reference.τ).loc Cert.Reference.main_arg2)) _ _ _
      (m' (((0 : Dev Cert.Reference.nD).tc : Thread Cert.Reference.nD Cert.Reference.τ).loc Cert.Reference.main_arg3)) _ _ _
      (m' (((0 : Dev Cert.Reference.nD).tc : Thread Cert.Reference.nD Cert.Reference.τ).loc Cert.Reference.main_arg4)) _ _ _ hm,
    (θ_run Cert.Reference.defs _ _).mono (fun _ h => h 0) (Cert.Reference.Value.run (F := Bits) m' g')⟩

/-! The step of the input projection. -/

theorem frame_WIn : Cert.quiescent_WIn := fun m g _ => Cert.WIn.Gen.frame (F := Bits) m g

theorem frame_WInIdeal : Cert.quiescent_WInIdeal := fun m g _ => Cert.WInIdeal.Gen.frame (F := Ideal) m g

theorem frame_WInRefIdeal : Cert.quiescent_WInRefIdeal := fun m g _ =>
  (θ_run Cert.WInRefIdeal.defs _ _).mono (fun _ h => ⟨fun c => (h c).2.2.2.2, sem_eq_zero_of_no_sems (by decide) _⟩)
    (Cert.WInRefIdeal.Update.run m g)

theorem algebraic_WIn : Cert.algebraic_WInIdeal_WInRefIdeal := fun m g m' g' _ hm =>
  ⟨_, _, _, _, Cert.WInIdeal.Update.run m g,
    (θ_run Cert.WInRefIdeal.defs _ _).mono (fun _ h c => by
      obtain ⟨e0, e1, e2, e3⟩ := hm c
      have hc := h c
      rw [e0, e1, e2, e3] at hc
      rw [e0, e1, e2, e3]
      exact hc)
      (Cert.WInRefIdeal.Update.run m' g')⟩

/-! The step of the output projection. -/

theorem frame_WOut : Cert.quiescent_WOut := fun m g _ => Cert.WOut.Gen.frame (F := Bits) m g

theorem frame_WOutIdeal : Cert.quiescent_WOutIdeal := fun m g _ => Cert.WOutIdeal.Gen.frame (F := Ideal) m g

theorem frame_WOutRefIdeal : Cert.quiescent_WOutRefIdeal := fun m g _ =>
  (θ_run Cert.WOutRefIdeal.defs _ _).mono (fun _ h => ⟨fun c => (h c).2.2.2.2, sem_eq_zero_of_no_sems (by decide) _⟩)
    (Cert.WOutRefIdeal.Update.run m g)

theorem algebraic_WOut : Cert.algebraic_WOutIdeal_WOutRefIdeal := fun m g m' g' _ hm =>
  ⟨_, _, _, _, Cert.WOutIdeal.Update.run m g,
    (θ_run Cert.WOutRefIdeal.defs _ _).mono (fun _ h c => by
      obtain ⟨e0, e1, e2, e3⟩ := hm c
      have hc := h c
      rw [e0, e1, e2, e3] at hc
      rw [e0, e1, e2, e3]
      exact hc)
      (Cert.WOutRefIdeal.Update.run m' g')⟩

/-! The step of the decay's projection. -/

theorem frame_WLora : Cert.quiescent_WLora := fun m g _ => Cert.WLora.Gen.frame (F := Bits) m g

theorem frame_WLoraIdeal : Cert.quiescent_WLoraIdeal := fun m g _ => Cert.WLoraIdeal.Gen.frame (F := Ideal) m g

theorem frame_WLoraRefIdeal : Cert.quiescent_WLoraRefIdeal := fun m g _ =>
  (θ_run Cert.WLoraRefIdeal.defs _ _).mono (fun _ h => ⟨fun c => (h c).2.2.2.2, sem_eq_zero_of_no_sems (by decide) _⟩)
    (Cert.WLoraRefIdeal.Update.run m g)

theorem algebraic_WLora : Cert.algebraic_WLoraIdeal_WLoraRefIdeal := fun m g m' g' _ hm =>
  ⟨_, _, _, _, Cert.WLoraIdeal.Update.run m g,
    (θ_run Cert.WLoraRefIdeal.defs _ _).mono (fun _ h c => by
      obtain ⟨e0, e1, e2, e3⟩ := hm c
      have hc := h c
      rw [e0, e1, e2, e3] at hc
      rw [e0, e1, e2, e3]
      exact hc)
      (Cert.WLoraRefIdeal.Update.run m' g')⟩

/-! The step of the gate's projection. -/

theorem frame_ALora : Cert.quiescent_ALora := fun m g _ => Cert.ALora.Gen.frame (F := Bits) m g

theorem frame_ALoraIdeal : Cert.quiescent_ALoraIdeal := fun m g _ => Cert.ALoraIdeal.Gen.frame (F := Ideal) m g

theorem frame_ALoraRefIdeal : Cert.quiescent_ALoraRefIdeal := fun m g _ =>
  (θ_run Cert.ALoraRefIdeal.defs _ _).mono (fun _ h => ⟨fun c => (h c).2.2.2.2, sem_eq_zero_of_no_sems (by decide) _⟩)
    (Cert.ALoraRefIdeal.Update.run m g)

theorem algebraic_ALora : Cert.algebraic_ALoraIdeal_ALoraRefIdeal := fun m g m' g' _ hm =>
  ⟨_, _, _, _, Cert.ALoraIdeal.Update.run m g,
    (θ_run Cert.ALoraRefIdeal.defs _ _).mono (fun _ h c => by
      obtain ⟨e0, e1, e2, e3⟩ := hm c
      have hc := h c
      rw [e0, e1, e2, e3] at hc
      rw [e0, e1, e2, e3]
      exact hc)
      (Cert.ALoraRefIdeal.Update.run m' g')⟩

/-! The step of the packed small weights. -/

theorem frame_Vectors : Cert.quiescent_Vectors := fun m g _ => Cert.Vectors.Gen.frame (F := Bits) m g

theorem frame_VectorsIdeal : Cert.quiescent_VectorsIdeal := fun m g _ => Cert.VectorsIdeal.Gen.frame (F := Ideal) m g

theorem frame_VectorsRefIdeal : Cert.quiescent_VectorsRefIdeal := fun m g _ =>
  (θ_run Cert.VectorsRefIdeal.defs _ _).mono (fun _ h => ⟨fun c => (h c).2.2.2.2, sem_eq_zero_of_no_sems (by decide) _⟩)
    (Cert.VectorsRefIdeal.Update.run m g)

theorem algebraic_Vectors : Cert.algebraic_VectorsIdeal_VectorsRefIdeal := fun m g m' g' _ hm =>
  ⟨_, _, _, _, Cert.VectorsIdeal.Update.run m g,
    (θ_run Cert.VectorsRefIdeal.defs _ _).mono (fun _ h c => by
      obtain ⟨e0, e1, e2, e3⟩ := hm c
      have hc := h c
      rw [e0, e1, e2, e3] at hc
      rw [e0, e1, e2, e3]
      exact hc)
      (Cert.VectorsRefIdeal.Update.run m' g')⟩

/-! The gradients of the input and of the norm's gain. -/

theorem frame_InX : Cert.quiescent_InX := fun m g _ => Cert.InX.Gen.frame (F := Bits) m g

theorem frame_InXIdeal : Cert.quiescent_InXIdeal := fun m g _ => Cert.InXIdeal.Gen.frame (F := Ideal) m g

theorem frame_InXRefIdeal : Cert.quiescent_InXRefIdeal := fun m g _ =>
  (θ_run Cert.InXRefIdeal.defs _ _).mono (fun _ h => ⟨fun c => (h c).2.2, sem_eq_zero_of_no_sems (by decide) _⟩)
    (Cert.InXRefIdeal.Back.run m g)

theorem algebraic_InX : Cert.algebraic_InXIdeal_InXRefIdeal := fun m g m' g' _ hm =>
  ⟨_, _, Cert.InXIdeal.Back.run m g,
    (θ_run Cert.InXRefIdeal.defs _ _).mono (fun _ h c => by
      obtain ⟨e0, e1, e2, e3, e4, e5, e6, e7⟩ := hm c
      have hc := h c
      rw [e0, e1, e2, e3, e4, e5, e6, e7] at hc
      rw [e0, e1, e2, e3, e4, e5, e6, e7]
      exact hc)
      (Cert.InXRefIdeal.Back.run m' g')⟩

/-! The norm and the input projections. -/

theorem frame_In : Cert.quiescent_In := fun m g _ => Cert.In.Gen.frame (F := Bits) m g

theorem frame_InIdeal : Cert.quiescent_InIdeal := fun m g _ => Cert.InIdeal.Gen.frame (F := Ideal) m g

theorem frame_InRefIdeal : Cert.quiescent_InRefIdeal := fun m g _ =>
  (θ_run Cert.InRefIdeal.defs _ _).mono (fun _ h => ⟨fun c => (h c).2.2.2, sem_eq_zero_of_no_sems (by decide) _⟩)
    (Cert.InRefIdeal.Fore.run m g)

theorem algebraic_In : Cert.algebraic_InIdeal_InRefIdeal := fun m g m' g' _ hm =>
  ⟨_, _, _, Cert.InIdeal.Fore.run m g,
    (θ_run Cert.InRefIdeal.defs _ _).mono (fun _ h c => by
      obtain ⟨e0, e1, e2, e3⟩ := hm c
      have hc := h c
      rw [e0, e1, e2, e3] at hc
      rw [e0, e1, e2, e3]
      exact hc)
      (Cert.InRefIdeal.Fore.run m' g')⟩

/-! The gradient of the queries', keys' and values' weight. -/

theorem frame_GQkv : Cert.quiescent_GQkv := fun m g _ => Cert.GQkv.Gen.frame (F := Bits) m g

theorem frame_GQkvIdeal : Cert.quiescent_GQkvIdeal := fun m g _ => Cert.GQkvIdeal.Gen.frame (F := Ideal) m g

theorem frame_GQkvRefIdeal : Cert.quiescent_GQkvRefIdeal := fun m g _ =>
  (θ_run Cert.GQkvRefIdeal.defs _ _).mono (fun _ h => ⟨fun c => (h c).2, sem_eq_zero_of_no_sems (by decide) _⟩)
    (Cert.GQkvRefIdeal.Back.run m g)

theorem algebraic_GQkv : Cert.algebraic_GQkvIdeal_GQkvRefIdeal := fun m g m' g' _ hm =>
  ⟨_, Cert.GQkvIdeal.Back.run m g,
    (θ_run Cert.GQkvRefIdeal.defs _ _).mono (fun _ h c => by
      obtain ⟨e0, e1⟩ := hm c
      have hc := h c
      rw [e0, e1] at hc
      rw [e0, e1]
      exact hc)
      (Cert.GQkvRefIdeal.Back.run m' g')⟩

/-! The gradient of the retention gate's weight. -/

theorem frame_GRet : Cert.quiescent_GRet := fun m g _ => Cert.GRet.Gen.frame (F := Bits) m g

theorem frame_GRetIdeal : Cert.quiescent_GRetIdeal := fun m g _ => Cert.GRetIdeal.Gen.frame (F := Ideal) m g

theorem frame_GRetRefIdeal : Cert.quiescent_GRetRefIdeal := fun m g _ =>
  (θ_run Cert.GRetRefIdeal.defs _ _).mono (fun _ h => ⟨fun c => (h c).2, sem_eq_zero_of_no_sems (by decide) _⟩)
    (Cert.GRetRefIdeal.Back.run m g)

theorem algebraic_GRet : Cert.algebraic_GRetIdeal_GRetRefIdeal := fun m g m' g' _ hm =>
  ⟨_, Cert.GRetIdeal.Back.run m g,
    (θ_run Cert.GRetRefIdeal.defs _ _).mono (fun _ h c => by
      obtain ⟨e0, e1⟩ := hm c
      have hc := h c
      rw [e0, e1] at hc
      rw [e0, e1]
      exact hc)
      (Cert.GRetRefIdeal.Back.run m' g')⟩

/-! The gradient of the RWKV-7 weight. -/

theorem frame_GRwkv : Cert.quiescent_GRwkv := fun m g _ => Cert.GRwkv.Gen.frame (F := Bits) m g

theorem frame_GRwkvIdeal : Cert.quiescent_GRwkvIdeal := fun m g _ => Cert.GRwkvIdeal.Gen.frame (F := Ideal) m g

theorem frame_GRwkvRefIdeal : Cert.quiescent_GRwkvRefIdeal := fun m g _ =>
  (θ_run Cert.GRwkvRefIdeal.defs _ _).mono (fun _ h => ⟨fun c => (h c).2, sem_eq_zero_of_no_sems (by decide) _⟩)
    (Cert.GRwkvRefIdeal.Back.run m g)

theorem algebraic_GRwkv : Cert.algebraic_GRwkvIdeal_GRwkvRefIdeal := fun m g m' g' _ hm =>
  ⟨_, Cert.GRwkvIdeal.Back.run m g,
    (θ_run Cert.GRwkvRefIdeal.defs _ _).mono (fun _ h c => by
      obtain ⟨e0, e1⟩ := hm c
      have hc := h c
      rw [e0, e1] at hc
      rw [e0, e1]
      exact hc)
      (Cert.GRwkvRefIdeal.Back.run m' g')⟩

/-! The token shift and the inputs of the recurrence. -/

theorem frame_PrepIdeal : Cert.quiescent_PrepIdeal := fun m g _ => Cert.PrepIdeal.Gen.frame (F := Ideal) m g

theorem frame_PrepRefIdeal : Cert.quiescent_PrepRefIdeal := fun m g _ =>
  (θ_run Cert.PrepRefIdeal.defs _ _).mono (fun _ h => ⟨fun c => (h c).2.2.2.2.2.2.2, sem_eq_zero_of_no_sems (by decide) _⟩)
    (Cert.PrepRefIdeal.Mix.run m g)

theorem algebraic_Prep : Cert.algebraic_PrepIdeal_PrepRefIdeal := fun m g m' g' _ hm =>
  ⟨_, _, _, _, _, _, _, Cert.PrepIdeal.Mix.run m g,
    (θ_run Cert.PrepRefIdeal.defs _ _).mono (fun _ h c => by
      obtain ⟨e0, e1, e2, e3, e4, e5, e6, e7⟩ := hm c
      have hc := h c
      rw [e0, e1, e2, e3, e4, e5, e6, e7] at hc
      rw [e0, e1, e2, e3, e4, e5, e6, e7]
      exact hc)
      (Cert.PrepRefIdeal.Mix.run m' g')⟩

/-- All claims. -/
theorem claim : Cert.Claim :=
  ⟨Cert.Kernel.Gen.facts, Cert.KernelIdeal.Gen.facts, Cert.ReferenceIdeal.Gen.facts, Cert.Reference.Gen.facts,
    Cert.WIn.Gen.facts, Cert.WInIdeal.Gen.facts, Cert.WInRefIdeal.Gen.facts,
    Cert.WOut.Gen.facts, Cert.WOutIdeal.Gen.facts, Cert.WOutRefIdeal.Gen.facts,
    Cert.WLora.Gen.facts, Cert.WLoraIdeal.Gen.facts, Cert.WLoraRefIdeal.Gen.facts,
    Cert.ALora.Gen.facts, Cert.ALoraIdeal.Gen.facts, Cert.ALoraRefIdeal.Gen.facts,
    Cert.Vectors.Gen.facts, Cert.VectorsIdeal.Gen.facts, Cert.VectorsRefIdeal.Gen.facts,
    Cert.InX.Gen.facts, Cert.InXIdeal.Gen.facts, Cert.InXRefIdeal.Gen.facts,
    Cert.In.Gen.facts, Cert.InIdeal.Gen.facts, Cert.InRefIdeal.Gen.facts,
    Cert.GQkv.Gen.facts, Cert.GQkvIdeal.Gen.facts, Cert.GQkvRefIdeal.Gen.facts,
    Cert.GRet.Gen.facts, Cert.GRetIdeal.Gen.facts, Cert.GRetRefIdeal.Gen.facts,
    Cert.GRwkv.Gen.facts, Cert.GRwkvIdeal.Gen.facts, Cert.GRwkvRefIdeal.Gen.facts,
    Cert.PrepIdeal.Gen.facts, Cert.PrepRefIdeal.Gen.facts,
    frame_kernel, frame_kernelIdeal, frame_referenceIdeal, frame_reference,
    frame_WIn, frame_WInIdeal, frame_WInRefIdeal,
    frame_WOut, frame_WOutIdeal, frame_WOutRefIdeal,
    frame_WLora, frame_WLoraIdeal, frame_WLoraRefIdeal,
    frame_ALora, frame_ALoraIdeal, frame_ALoraRefIdeal,
    frame_Vectors, frame_VectorsIdeal, frame_VectorsRefIdeal,
    frame_InX, frame_InXIdeal, frame_InXRefIdeal,
    frame_In, frame_InIdeal, frame_InRefIdeal,
    frame_GQkv, frame_GQkvIdeal, frame_GQkvRefIdeal,
    frame_GRet, frame_GRetIdeal, frame_GRetRefIdeal,
    frame_GRwkv, frame_GRwkvIdeal, frame_GRwkvRefIdeal,
    frame_PrepIdeal, frame_PrepRefIdeal,
    trivial, algebraic, bitexact,
    trivial, algebraic_WIn, trivial, algebraic_WOut, trivial, algebraic_WLora, trivial, algebraic_ALora, trivial, algebraic_Vectors,
    trivial, algebraic_InX, trivial, algebraic_In, trivial, algebraic_GQkv, trivial, algebraic_GRet, trivial, algebraic_GRwkv,
    algebraic_Prep⟩

end Cert.Proof

end
